-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Expert (m : (ℓ : Loc Cert.Expert.nD Cert.Expert.τ Cert.Expert.sig) → Buf (Elt Bits) ℓ) : Prop :=
  True

def Pre_ExpertIdeal (m : (ℓ : Loc Cert.ExpertIdeal.nD Cert.ExpertIdeal.τ Cert.ExpertIdeal.sig) → Buf (Elt Ideal) ℓ) : Prop :=
  True

def Pre_ExpertRefIdeal (m : (ℓ : Loc Cert.ExpertRefIdeal.nD Cert.ExpertRefIdeal.τ Cert.ExpertRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Between (m : (ℓ : Loc Cert.Between.nD Cert.Between.τ Cert.Between.sig) → Buf (Elt Bits) ℓ) : Prop :=
  True

def Pre_BetweenIdeal (m : (ℓ : Loc Cert.BetweenIdeal.nD Cert.BetweenIdeal.τ Cert.BetweenIdeal.sig) → Buf (Elt Ideal) ℓ) : Prop :=
  True

def Pre_BetweenRefIdeal (m : (ℓ : Loc Cert.BetweenRefIdeal.nD Cert.BetweenRefIdeal.τ Cert.BetweenRefIdeal.sig) → Buf (Elt Ideal) ℓ) : Prop :=
  True

def Pre_Start (m : (ℓ : Loc Cert.Start.nD Cert.Start.τ Cert.Start.sig) → Buf (Elt Bits) ℓ) : Prop :=
  True

def Pre_StartIdeal (m : (ℓ : Loc Cert.StartIdeal.nD Cert.StartIdeal.τ Cert.StartIdeal.sig) → Buf (Elt Ideal) ℓ) : Prop :=
  True

def Pre_StartRefIdeal (m : (ℓ : Loc Cert.StartRefIdeal.nD Cert.StartRefIdeal.τ Cert.StartRefIdeal.sig) → Buf (Elt Ideal) ℓ) : Prop :=
  True

def Pre_Five (m : (ℓ : Loc Cert.Five.nD Cert.Five.τ Cert.Five.sig) → Buf (Elt Bits) ℓ) : Prop :=
  True

def Pre_FiveIdeal (m : (ℓ : Loc Cert.FiveIdeal.nD Cert.FiveIdeal.τ Cert.FiveIdeal.sig) → Buf (Elt Ideal) ℓ) : Prop :=
  True

def Pre_FiveRefIdeal (m : (ℓ : Loc Cert.FiveRefIdeal.nD Cert.FiveRefIdeal.τ Cert.FiveRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Expert [hExpert : Cert.Expert.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9))
      ∧ r.2.sem = fun _ => 0)

def quiescent_Between [hBetween : Cert.Between.Facts] : Prop :=
  ∀ (m : (ℓ : Loc Cert.Between.nD Cert.Between.τ Cert.Between.sig) → Buf (Elt Bits) ℓ) (g : Dev Cert.Between.nD → PrngReg), Pre_Between m →
    θ_run (Cert.Between.defs (F := Bits)) (onTc (τ := Cert.Between.τ) (Cert.Between.main (F := Bits))) ⟨m, fun _ => 0, g⟩ (fun r => (∀ c : Dev Cert.Between.nD,
      r.2.mem ((c.tc : Thread Cert.Between.nD Cert.Between.τ).loc Cert.Between.main_arg0) = m ((c.tc : Thread Cert.Between.nD Cert.Between.τ).loc Cert.Between.main_arg0)
      ∧ r.2.mem ((c.tc : Thread Cert.Between.nD Cert.Between.τ).loc Cert.Between.main_arg1) = m ((c.tc : Thread Cert.Between.nD Cert.Between.τ).loc Cert.Between.main_arg1)
      ∧ r.2.mem ((c.tc : Thread Cert.Between.nD Cert.Between.τ).loc Cert.Between.main_arg2) = m ((c.tc : Thread Cert.Between.nD Cert.Between.τ).loc Cert.Between.main_arg2)
      ∧ r.2.mem ((c.tc : Thread Cert.Between.nD Cert.Between.τ).loc Cert.Between.main_arg3) = m ((c.tc : Thread Cert.Between.nD Cert.Between.τ).loc Cert.Between.main_arg3)
      ∧ r.2.mem ((c.tc : Thread Cert.Between.nD Cert.Between.τ).loc Cert.Between.main_arg4) = m ((c.tc : Thread Cert.Between.nD Cert.Between.τ).loc Cert.Between.main_arg4)
      ∧ r.2.mem ((c.tc : Thread Cert.Between.nD Cert.Between.τ).loc Cert.Between.main_arg5) = m ((c.tc : Thread Cert.Between.nD Cert.Between.τ).loc Cert.Between.main_arg5)
      ∧ r.2.mem ((c.tc : Thread Cert.Between.nD Cert.Between.τ).loc Cert.Between.main_arg6) = m ((c.tc : Thread Cert.Between.nD Cert.Between.τ).loc Cert.Between.main_arg6)
      ∧ r.2.mem ((c.tc : Thread Cert.Between.nD Cert.Between.τ).loc Cert.Between.main_arg7) = m ((c.tc : Thread Cert.Between.nD Cert.Between.τ).loc Cert.Between.main_arg7)
      ∧ r.2.mem ((c.tc : Thread Cert.Between.nD Cert.Between.τ).loc Cert.Between.main_arg8) = m ((c.tc : Thread Cert.Between.nD Cert.Between.τ).loc Cert.Between.main_arg8)
      ∧ r.2.mem ((c.tc : Thread Cert.Between.nD Cert.Between.τ).loc Cert.Between.main_arg9) = m ((c.tc : Thread Cert.Between.nD Cert.Between.τ).loc Cert.Between.main_arg9)
      ∧ r.2.mem ((c.tc : Thread Cert.Between.nD Cert.Between.τ).loc Cert.Between.main_arg10) = m ((c.tc : Thread Cert.Between.nD Cert.Between.τ).loc Cert.Between.main_arg10)
      ∧ r.2.mem ((c.tc : Thread Cert.Between.nD Cert.Between.τ).loc Cert.Between.main_arg11) = m ((c.tc : Thread Cert.Between.nD Cert.Between.τ).loc Cert.Between.main_arg11)
      ∧ r.2.mem ((c.tc : Thread Cert.Between.nD Cert.Between.τ).loc Cert.Between.main_arg12) = m ((c.tc : Thread Cert.Between.nD Cert.Between.τ).loc Cert.Between.main_arg12)
      ∧ r.2.mem ((c.tc : Thread Cert.Between.nD Cert.Between.τ).loc Cert.Between.main_arg13) = m ((c.tc : Thread Cert.Between.nD Cert.Between.τ).loc Cert.Between.main_arg13)
      ∧ r.2.mem ((c.tc : Thread Cert.Between.nD Cert.Between.τ).loc Cert.Between.main_arg14) = m ((c.tc : Thread Cert.Between.nD Cert.Between.τ).loc Cert.Between.main_arg14)
      ∧ r.2.mem ((c.tc : Thread Cert.Between.nD Cert.Between.τ).loc Cert.Between.main_arg15) = m ((c.tc : Thread Cert.Between.nD Cert.Between.τ).loc Cert.Between.main_arg15))
      ∧ r.2.sem = fun _ => 0)

def quiescent_BetweenIdeal [hBetweenIdeal : Cert.BetweenIdeal.Facts] : Prop :=
  ∀ (m : (ℓ : Loc Cert.BetweenIdeal.nD Cert.BetweenIdeal.τ Cert.BetweenIdeal.sig) → Buf (Elt Ideal) ℓ) (g : Dev Cert.BetweenIdeal.nD → PrngReg), Pre_BetweenIdeal m →
    θ_run (Cert.BetweenIdeal.defs (F := Ideal)) (onTc (τ := Cert.BetweenIdeal.τ) (Cert.BetweenIdeal.main (F := Ideal))) ⟨m, fun _ => 0, g⟩ (fun r => (∀ c : Dev Cert.BetweenIdeal.nD,
      r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
      ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
      ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
      ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
      ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4)
      ∧ r.2.mem ((c.tc : Thread Cert.BetweenIdeal.nD Cert.BetweenIdeal.τ).loc Cert.BetweenIdeal.main_arg5) = m ((c.tc : Thread Cert.BetweenIdeal.nD Cert.BetweenIdeal.τ).loc Cert.BetweenIdeal.main_arg5)
      ∧ r.2.mem ((c.tc : Thread Cert.BetweenIdeal.nD Cert.BetweenIdeal.τ).loc Cert.BetweenIdeal.main_arg6) = m ((c.tc : Thread Cert.BetweenIdeal.nD Cert.BetweenIdeal.τ).loc Cert.BetweenIdeal.main_arg6)
      ∧ r.2.mem ((c.tc : Thread Cert.BetweenIdeal.nD Cert.BetweenIdeal.τ).loc Cert.BetweenIdeal.main_arg7) = m ((c.tc : Thread Cert.BetweenIdeal.nD Cert.BetweenIdeal.τ).loc Cert.BetweenIdeal.main_arg7)
      ∧ r.2.mem ((c.tc : Thread Cert.BetweenIdeal.nD Cert.BetweenIdeal.τ).loc Cert.BetweenIdeal.main_arg8) = m ((c.tc : Thread Cert.BetweenIdeal.nD Cert.BetweenIdeal.τ).loc Cert.BetweenIdeal.main_arg8)
      ∧ r.2.mem ((c.tc : Thread Cert.BetweenIdeal.nD Cert.BetweenIdeal.τ).loc Cert.BetweenIdeal.main_arg9) = m ((c.tc : Thread Cert.BetweenIdeal.nD Cert.BetweenIdeal.τ).loc Cert.BetweenIdeal.main_arg9)
      ∧ r.2.mem ((c.tc : Thread Cert.BetweenIdeal.nD Cert.BetweenIdeal.τ).loc Cert.BetweenIdeal.main_arg10) = m ((c.tc : Thread Cert.BetweenIdeal.nD Cert.BetweenIdeal.τ).loc Cert.BetweenIdeal.main_arg10)
      ∧ r.2.mem ((c.tc : Thread Cert.BetweenIdeal.nD Cert.BetweenIdeal.τ).loc Cert.BetweenIdeal.main_arg11) = m ((c.tc : Thread Cert.BetweenIdeal.nD Cert.BetweenIdeal.τ).loc Cert.BetweenIdeal.main_arg11)
      ∧ r.2.mem ((c.tc : Thread Cert.BetweenIdeal.nD Cert.BetweenIdeal.τ).loc Cert.BetweenIdeal.main_arg12) = m ((c.tc : Thread Cert.BetweenIdeal.nD Cert.BetweenIdeal.τ).loc Cert.BetweenIdeal.main_arg12)
      ∧ r.2.mem ((c.tc : Thread Cert.BetweenIdeal.nD Cert.BetweenIdeal.τ).loc Cert.BetweenIdeal.main_arg13) = m ((c.tc : Thread Cert.BetweenIdeal.nD Cert.BetweenIdeal.τ).loc Cert.BetweenIdeal.main_arg13)
      ∧ r.2.mem ((c.tc : Thread Cert.BetweenIdeal.nD Cert.BetweenIdeal.τ).loc Cert.BetweenIdeal.main_arg14) = m ((c.tc : Thread Cert.BetweenIdeal.nD Cert.BetweenIdeal.τ).loc Cert.BetweenIdeal.main_arg14)
      ∧ r.2.mem ((c.tc : Thread Cert.BetweenIdeal.nD Cert.BetweenIdeal.τ).loc Cert.BetweenIdeal.main_arg15) = m ((c.tc : Thread Cert.BetweenIdeal.nD Cert.BetweenIdeal.τ).loc Cert.BetweenIdeal.main_arg15))
      ∧ r.2.sem = fun _ => 0)

def quiescent_BetweenRefIdeal [hBetweenRefIdeal : Cert.BetweenRefIdeal.Facts] : Prop :=
  ∀ (m : (ℓ : Loc Cert.BetweenRefIdeal.nD Cert.BetweenRefIdeal.τ Cert.BetweenRefIdeal.sig) → Buf (Elt Ideal) ℓ) (g : Dev Cert.BetweenRefIdeal.nD → PrngReg), Pre_BetweenRefIdeal m →
    θ_run (Cert.BetweenRefIdeal.defs (F := Ideal)) (onTc (τ := Cert.BetweenRefIdeal.τ) (Cert.BetweenRefIdeal.main (F := Ideal))) ⟨m, fun _ => 0, g⟩ (fun r => (∀ c : Dev Cert.BetweenRefIdeal.nD,
      r.2.mem ((c.tc : Thread Cert.BetweenRefIdeal.nD Cert.BetweenRefIdeal.τ).loc Cert.BetweenRefIdeal.main_arg0) = m ((c.tc : Thread Cert.BetweenRefIdeal.nD Cert.BetweenRefIdeal.τ).loc Cert.BetweenRefIdeal.main_arg0)
      ∧ r.2.mem ((c.tc : Thread Cert.BetweenRefIdeal.nD Cert.BetweenRefIdeal.τ).loc Cert.BetweenRefIdeal.main_arg1) = m ((c.tc : Thread Cert.BetweenRefIdeal.nD Cert.BetweenRefIdeal.τ).loc Cert.BetweenRefIdeal.main_arg1)
      ∧ r.2.mem ((c.tc : Thread Cert.BetweenRefIdeal.nD Cert.BetweenRefIdeal.τ).loc Cert.BetweenRefIdeal.main_arg2) = m ((c.tc : Thread Cert.BetweenRefIdeal.nD Cert.BetweenRefIdeal.τ).loc Cert.BetweenRefIdeal.main_arg2)
      ∧ r.2.mem ((c.tc : Thread Cert.BetweenRefIdeal.nD Cert.BetweenRefIdeal.τ).loc Cert.BetweenRefIdeal.main_arg3) = m ((c.tc : Thread Cert.BetweenRefIdeal.nD Cert.BetweenRefIdeal.τ).loc Cert.BetweenRefIdeal.main_arg3)
      ∧ r.2.mem ((c.tc : Thread Cert.BetweenRefIdeal.nD Cert.BetweenRefIdeal.τ).loc Cert.BetweenRefIdeal.main_arg4) = m ((c.tc : Thread Cert.BetweenRefIdeal.nD Cert.BetweenRefIdeal.τ).loc Cert.BetweenRefIdeal.main_arg4)
      ∧ r.2.mem ((c.tc : Thread Cert.BetweenRefIdeal.nD Cert.BetweenRefIdeal.τ).loc Cert.BetweenRefIdeal.main_arg5) = m ((c.tc : Thread Cert.BetweenRefIdeal.nD Cert.BetweenRefIdeal.τ).loc Cert.BetweenRefIdeal.main_arg5)
      ∧ r.2.mem ((c.tc : Thread Cert.BetweenRefIdeal.nD Cert.BetweenRefIdeal.τ).loc Cert.BetweenRefIdeal.main_arg6) = m ((c.tc : Thread Cert.BetweenRefIdeal.nD Cert.BetweenRefIdeal.τ).loc Cert.BetweenRefIdeal.main_arg6)
      ∧ r.2.mem ((c.tc : Thread Cert.BetweenRefIdeal.nD Cert.BetweenRefIdeal.τ).loc Cert.BetweenRefIdeal.main_arg7) = m ((c.tc : Thread Cert.BetweenRefIdeal.nD Cert.BetweenRefIdeal.τ).loc Cert.BetweenRefIdeal.main_arg7)
      ∧ r.2.mem ((c.tc : Thread Cert.BetweenRefIdeal.nD Cert.BetweenRefIdeal.τ).loc Cert.BetweenRefIdeal.main_arg8) = m ((c.tc : Thread Cert.BetweenRefIdeal.nD Cert.BetweenRefIdeal.τ).loc Cert.BetweenRefIdeal.main_arg8)
      ∧ r.2.mem ((c.tc : Thread Cert.BetweenRefIdeal.nD Cert.BetweenRefIdeal.τ).loc Cert.BetweenRefIdeal.main_arg9) = m ((c.tc : Thread Cert.BetweenRefIdeal.nD Cert.BetweenRefIdeal.τ).loc Cert.BetweenRefIdeal.main_arg9)
      ∧ r.2.mem ((c.tc : Thread Cert.BetweenRefIdeal.nD Cert.BetweenRefIdeal.τ).loc Cert.BetweenRefIdeal.main_arg10) = m ((c.tc : Thread Cert.BetweenRefIdeal.nD Cert.BetweenRefIdeal.τ).loc Cert.BetweenRefIdeal.main_arg10)
      ∧ r.2.mem ((c.tc : Thread Cert.BetweenRefIdeal.nD Cert.BetweenRefIdeal.τ).loc Cert.BetweenRefIdeal.main_arg11) = m ((c.tc : Thread Cert.BetweenRefIdeal.nD Cert.BetweenRefIdeal.τ).loc Cert.BetweenRefIdeal.main_arg11)
      ∧ r.2.mem ((c.tc : Thread Cert.BetweenRefIdeal.nD Cert.BetweenRefIdeal.τ).loc Cert.BetweenRefIdeal.main_arg12) = m ((c.tc : Thread Cert.BetweenRefIdeal.nD Cert.BetweenRefIdeal.τ).loc Cert.BetweenRefIdeal.main_arg12)
      ∧ r.2.mem ((c.tc : Thread Cert.BetweenRefIdeal.nD Cert.BetweenRefIdeal.τ).loc Cert.BetweenRefIdeal.main_arg13) = m ((c.tc : Thread Cert.BetweenRefIdeal.nD Cert.BetweenRefIdeal.τ).loc Cert.BetweenRefIdeal.main_arg13)
      ∧ r.2.mem ((c.tc : Thread Cert.BetweenRefIdeal.nD Cert.BetweenRefIdeal.τ).loc Cert.BetweenRefIdeal.main_arg14) = m ((c.tc : Thread Cert.BetweenRefIdeal.nD Cert.BetweenRefIdeal.τ).loc Cert.BetweenRefIdeal.main_arg14)
      ∧ r.2.mem ((c.tc : Thread Cert.BetweenRefIdeal.nD Cert.BetweenRefIdeal.τ).loc Cert.BetweenRefIdeal.main_arg15) = m ((c.tc : Thread Cert.BetweenRefIdeal.nD Cert.BetweenRefIdeal.τ).loc Cert.BetweenRefIdeal.main_arg15))
      ∧ r.2.sem = fun _ => 0)

def quiescent_Start [hStart : Cert.Start.Facts] : Prop :=
  ∀ (m : (ℓ : Loc Cert.Start.nD Cert.Start.τ Cert.Start.sig) → Buf (Elt Bits) ℓ) (g : Dev Cert.Start.nD → PrngReg), Pre_Start m →
    θ_run (Cert.Start.defs (F := Bits)) (onTc (τ := Cert.Start.τ) (Cert.Start.main (F := Bits))) ⟨m, fun _ => 0, g⟩ (fun r => (∀ c : Dev Cert.Start.nD,
      r.2.mem ((c.tc : Thread Cert.Start.nD Cert.Start.τ).loc Cert.Start.main_arg0) = m ((c.tc : Thread Cert.Start.nD Cert.Start.τ).loc Cert.Start.main_arg0)
      ∧ r.2.mem ((c.tc : Thread Cert.Start.nD Cert.Start.τ).loc Cert.Start.main_arg1) = m ((c.tc : Thread Cert.Start.nD Cert.Start.τ).loc Cert.Start.main_arg1)
      ∧ r.2.mem ((c.tc : Thread Cert.Start.nD Cert.Start.τ).loc Cert.Start.main_arg2) = m ((c.tc : Thread Cert.Start.nD Cert.Start.τ).loc Cert.Start.main_arg2)
      ∧ r.2.mem ((c.tc : Thread Cert.Start.nD Cert.Start.τ).loc Cert.Start.main_arg3) = m ((c.tc : Thread Cert.Start.nD Cert.Start.τ).loc Cert.Start.main_arg3)
      ∧ r.2.mem ((c.tc : Thread Cert.Start.nD Cert.Start.τ).loc Cert.Start.main_arg4) = m ((c.tc : Thread Cert.Start.nD Cert.Start.τ).loc Cert.Start.main_arg4)
      ∧ r.2.mem ((c.tc : Thread Cert.Start.nD Cert.Start.τ).loc Cert.Start.main_arg5) = m ((c.tc : Thread Cert.Start.nD Cert.Start.τ).loc Cert.Start.main_arg5)
      ∧ r.2.mem ((c.tc : Thread Cert.Start.nD Cert.Start.τ).loc Cert.Start.main_arg6) = m ((c.tc : Thread Cert.Start.nD Cert.Start.τ).loc Cert.Start.main_arg6)
      ∧ r.2.mem ((c.tc : Thread Cert.Start.nD Cert.Start.τ).loc Cert.Start.main_arg7) = m ((c.tc : Thread Cert.Start.nD Cert.Start.τ).loc Cert.Start.main_arg7))
      ∧ r.2.sem = fun _ => 0)

def quiescent_StartIdeal [hStartIdeal : Cert.StartIdeal.Facts] : Prop :=
  ∀ (m : (ℓ : Loc Cert.StartIdeal.nD Cert.StartIdeal.τ Cert.StartIdeal.sig) → Buf (Elt Ideal) ℓ) (g : Dev Cert.StartIdeal.nD → PrngReg), Pre_StartIdeal m →
    θ_run (Cert.StartIdeal.defs (F := Ideal)) (onTc (τ := Cert.StartIdeal.τ) (Cert.StartIdeal.main (F := Ideal))) ⟨m, fun _ => 0, g⟩ (fun r => (∀ c : Dev Cert.StartIdeal.nD,
      r.2.mem ((c.tc : Thread Cert.StartIdeal.nD Cert.StartIdeal.τ).loc Cert.StartIdeal.main_arg0) = m ((c.tc : Thread Cert.StartIdeal.nD Cert.StartIdeal.τ).loc Cert.StartIdeal.main_arg0)
      ∧ r.2.mem ((c.tc : Thread Cert.StartIdeal.nD Cert.StartIdeal.τ).loc Cert.StartIdeal.main_arg1) = m ((c.tc : Thread Cert.StartIdeal.nD Cert.StartIdeal.τ).loc Cert.StartIdeal.main_arg1)
      ∧ r.2.mem ((c.tc : Thread Cert.StartIdeal.nD Cert.StartIdeal.τ).loc Cert.StartIdeal.main_arg2) = m ((c.tc : Thread Cert.StartIdeal.nD Cert.StartIdeal.τ).loc Cert.StartIdeal.main_arg2)
      ∧ r.2.mem ((c.tc : Thread Cert.StartIdeal.nD Cert.StartIdeal.τ).loc Cert.StartIdeal.main_arg3) = m ((c.tc : Thread Cert.StartIdeal.nD Cert.StartIdeal.τ).loc Cert.StartIdeal.main_arg3)
      ∧ r.2.mem ((c.tc : Thread Cert.StartIdeal.nD Cert.StartIdeal.τ).loc Cert.StartIdeal.main_arg4) = m ((c.tc : Thread Cert.StartIdeal.nD Cert.StartIdeal.τ).loc Cert.StartIdeal.main_arg4)
      ∧ r.2.mem ((c.tc : Thread Cert.StartIdeal.nD Cert.StartIdeal.τ).loc Cert.StartIdeal.main_arg5) = m ((c.tc : Thread Cert.StartIdeal.nD Cert.StartIdeal.τ).loc Cert.StartIdeal.main_arg5)
      ∧ r.2.mem ((c.tc : Thread Cert.StartIdeal.nD Cert.StartIdeal.τ).loc Cert.StartIdeal.main_arg6) = m ((c.tc : Thread Cert.StartIdeal.nD Cert.StartIdeal.τ).loc Cert.StartIdeal.main_arg6)
      ∧ r.2.mem ((c.tc : Thread Cert.StartIdeal.nD Cert.StartIdeal.τ).loc Cert.StartIdeal.main_arg7) = m ((c.tc : Thread Cert.StartIdeal.nD Cert.StartIdeal.τ).loc Cert.StartIdeal.main_arg7))
      ∧ r.2.sem = fun _ => 0)

def quiescent_StartRefIdeal [hStartRefIdeal : Cert.StartRefIdeal.Facts] : Prop :=
  ∀ (m : (ℓ : Loc Cert.StartRefIdeal.nD Cert.StartRefIdeal.τ Cert.StartRefIdeal.sig) → Buf (Elt Ideal) ℓ) (g : Dev Cert.StartRefIdeal.nD → PrngReg), Pre_StartRefIdeal m →
    θ_run (Cert.StartRefIdeal.defs (F := Ideal)) (onTc (τ := Cert.StartRefIdeal.τ) (Cert.StartRefIdeal.main (F := Ideal))) ⟨m, fun _ => 0, g⟩ (fun r => (∀ c : Dev Cert.StartRefIdeal.nD,
      r.2.mem ((c.tc : Thread Cert.StartRefIdeal.nD Cert.StartRefIdeal.τ).loc Cert.StartRefIdeal.main_arg0) = m ((c.tc : Thread Cert.StartRefIdeal.nD Cert.StartRefIdeal.τ).loc Cert.StartRefIdeal.main_arg0)
      ∧ r.2.mem ((c.tc : Thread Cert.StartRefIdeal.nD Cert.StartRefIdeal.τ).loc Cert.StartRefIdeal.main_arg1) = m ((c.tc : Thread Cert.StartRefIdeal.nD Cert.StartRefIdeal.τ).loc Cert.StartRefIdeal.main_arg1)
      ∧ r.2.mem ((c.tc : Thread Cert.StartRefIdeal.nD Cert.StartRefIdeal.τ).loc Cert.StartRefIdeal.main_arg2) = m ((c.tc : Thread Cert.StartRefIdeal.nD Cert.StartRefIdeal.τ).loc Cert.StartRefIdeal.main_arg2)
      ∧ r.2.mem ((c.tc : Thread Cert.StartRefIdeal.nD Cert.StartRefIdeal.τ).loc Cert.StartRefIdeal.main_arg3) = m ((c.tc : Thread Cert.StartRefIdeal.nD Cert.StartRefIdeal.τ).loc Cert.StartRefIdeal.main_arg3)
      ∧ r.2.mem ((c.tc : Thread Cert.StartRefIdeal.nD Cert.StartRefIdeal.τ).loc Cert.StartRefIdeal.main_arg4) = m ((c.tc : Thread Cert.StartRefIdeal.nD Cert.StartRefIdeal.τ).loc Cert.StartRefIdeal.main_arg4)
      ∧ r.2.mem ((c.tc : Thread Cert.StartRefIdeal.nD Cert.StartRefIdeal.τ).loc Cert.StartRefIdeal.main_arg5) = m ((c.tc : Thread Cert.StartRefIdeal.nD Cert.StartRefIdeal.τ).loc Cert.StartRefIdeal.main_arg5)
      ∧ r.2.mem ((c.tc : Thread Cert.StartRefIdeal.nD Cert.StartRefIdeal.τ).loc Cert.StartRefIdeal.main_arg6) = m ((c.tc : Thread Cert.StartRefIdeal.nD Cert.StartRefIdeal.τ).loc Cert.StartRefIdeal.main_arg6)
      ∧ r.2.mem ((c.tc : Thread Cert.StartRefIdeal.nD Cert.StartRefIdeal.τ).loc Cert.StartRefIdeal.main_arg7) = m ((c.tc : Thread Cert.StartRefIdeal.nD Cert.StartRefIdeal.τ).loc Cert.StartRefIdeal.main_arg7))
      ∧ r.2.sem = fun _ => 0)

def quiescent_Five [hFive : Cert.Five.Facts] : Prop :=
  ∀ (m : (ℓ : Loc Cert.Five.nD Cert.Five.τ Cert.Five.sig) → Buf (Elt Bits) ℓ) (g : Dev Cert.Five.nD → PrngReg), Pre_Five m →
    θ_run (Cert.Five.defs (F := Bits)) (onTc (τ := Cert.Five.τ) (Cert.Five.main (F := Bits))) ⟨m, fun _ => 0, g⟩ (fun r => (∀ c : Dev Cert.Five.nD,
      r.2.mem ((c.tc : Thread Cert.Five.nD Cert.Five.τ).loc Cert.Five.main_arg0) = m ((c.tc : Thread Cert.Five.nD Cert.Five.τ).loc Cert.Five.main_arg0)
      ∧ r.2.mem ((c.tc : Thread Cert.Five.nD Cert.Five.τ).loc Cert.Five.main_arg1) = m ((c.tc : Thread Cert.Five.nD Cert.Five.τ).loc Cert.Five.main_arg1)
      ∧ r.2.mem ((c.tc : Thread Cert.Five.nD Cert.Five.τ).loc Cert.Five.main_arg2) = m ((c.tc : Thread Cert.Five.nD Cert.Five.τ).loc Cert.Five.main_arg2)
      ∧ r.2.mem ((c.tc : Thread Cert.Five.nD Cert.Five.τ).loc Cert.Five.main_arg3) = m ((c.tc : Thread Cert.Five.nD Cert.Five.τ).loc Cert.Five.main_arg3)
      ∧ r.2.mem ((c.tc : Thread Cert.Five.nD Cert.Five.τ).loc Cert.Five.main_arg4) = m ((c.tc : Thread Cert.Five.nD Cert.Five.τ).loc Cert.Five.main_arg4)
      ∧ r.2.mem ((c.tc : Thread Cert.Five.nD Cert.Five.τ).loc Cert.Five.main_arg5) = m ((c.tc : Thread Cert.Five.nD Cert.Five.τ).loc Cert.Five.main_arg5)
      ∧ r.2.mem ((c.tc : Thread Cert.Five.nD Cert.Five.τ).loc Cert.Five.main_arg6) = m ((c.tc : Thread Cert.Five.nD Cert.Five.τ).loc Cert.Five.main_arg6))
      ∧ r.2.sem = fun _ => 0)

def quiescent_FiveIdeal [hFiveIdeal : Cert.FiveIdeal.Facts] : Prop :=
  ∀ (m : (ℓ : Loc Cert.FiveIdeal.nD Cert.FiveIdeal.τ Cert.FiveIdeal.sig) → Buf (Elt Ideal) ℓ) (g : Dev Cert.FiveIdeal.nD → PrngReg), Pre_FiveIdeal m →
    θ_run (Cert.FiveIdeal.defs (F := Ideal)) (onTc (τ := Cert.FiveIdeal.τ) (Cert.FiveIdeal.main (F := Ideal))) ⟨m, fun _ => 0, g⟩ (fun r => (∀ c : Dev Cert.FiveIdeal.nD,
      r.2.mem ((c.tc : Thread Cert.FiveIdeal.nD Cert.FiveIdeal.τ).loc Cert.FiveIdeal.main_arg0) = m ((c.tc : Thread Cert.FiveIdeal.nD Cert.FiveIdeal.τ).loc Cert.FiveIdeal.main_arg0)
      ∧ r.2.mem ((c.tc : Thread Cert.FiveIdeal.nD Cert.FiveIdeal.τ).loc Cert.FiveIdeal.main_arg1) = m ((c.tc : Thread Cert.FiveIdeal.nD Cert.FiveIdeal.τ).loc Cert.FiveIdeal.main_arg1)
      ∧ r.2.mem ((c.tc : Thread Cert.FiveIdeal.nD Cert.FiveIdeal.τ).loc Cert.FiveIdeal.main_arg2) = m ((c.tc : Thread Cert.FiveIdeal.nD Cert.FiveIdeal.τ).loc Cert.FiveIdeal.main_arg2)
      ∧ r.2.mem ((c.tc : Thread Cert.FiveIdeal.nD Cert.FiveIdeal.τ).loc Cert.FiveIdeal.main_arg3) = m ((c.tc : Thread Cert.FiveIdeal.nD Cert.FiveIdeal.τ).loc Cert.FiveIdeal.main_arg3)
      ∧ r.2.mem ((c.tc : Thread Cert.FiveIdeal.nD Cert.FiveIdeal.τ).loc Cert.FiveIdeal.main_arg4) = m ((c.tc : Thread Cert.FiveIdeal.nD Cert.FiveIdeal.τ).loc Cert.FiveIdeal.main_arg4)
      ∧ r.2.mem ((c.tc : Thread Cert.FiveIdeal.nD Cert.FiveIdeal.τ).loc Cert.FiveIdeal.main_arg5) = m ((c.tc : Thread Cert.FiveIdeal.nD Cert.FiveIdeal.τ).loc Cert.FiveIdeal.main_arg5)
      ∧ r.2.mem ((c.tc : Thread Cert.FiveIdeal.nD Cert.FiveIdeal.τ).loc Cert.FiveIdeal.main_arg6) = m ((c.tc : Thread Cert.FiveIdeal.nD Cert.FiveIdeal.τ).loc Cert.FiveIdeal.main_arg6))
      ∧ r.2.sem = fun _ => 0)

def quiescent_FiveRefIdeal [hFiveRefIdeal : Cert.FiveRefIdeal.Facts] : Prop :=
  ∀ (m : (ℓ : Loc Cert.FiveRefIdeal.nD Cert.FiveRefIdeal.τ Cert.FiveRefIdeal.sig) → Buf (Elt Ideal) ℓ) (g : Dev Cert.FiveRefIdeal.nD → PrngReg), Pre_FiveRefIdeal m →
    θ_run (Cert.FiveRefIdeal.defs (F := Ideal)) (onTc (τ := Cert.FiveRefIdeal.τ) (Cert.FiveRefIdeal.main (F := Ideal))) ⟨m, fun _ => 0, g⟩ (fun r => (∀ c : Dev Cert.FiveRefIdeal.nD,
      r.2.mem ((c.tc : Thread Cert.FiveRefIdeal.nD Cert.FiveRefIdeal.τ).loc Cert.FiveRefIdeal.main_arg0) = m ((c.tc : Thread Cert.FiveRefIdeal.nD Cert.FiveRefIdeal.τ).loc Cert.FiveRefIdeal.main_arg0)
      ∧ r.2.mem ((c.tc : Thread Cert.FiveRefIdeal.nD Cert.FiveRefIdeal.τ).loc Cert.FiveRefIdeal.main_arg1) = m ((c.tc : Thread Cert.FiveRefIdeal.nD Cert.FiveRefIdeal.τ).loc Cert.FiveRefIdeal.main_arg1)
      ∧ r.2.mem ((c.tc : Thread Cert.FiveRefIdeal.nD Cert.FiveRefIdeal.τ).loc Cert.FiveRefIdeal.main_arg2) = m ((c.tc : Thread Cert.FiveRefIdeal.nD Cert.FiveRefIdeal.τ).loc Cert.FiveRefIdeal.main_arg2)
      ∧ r.2.mem ((c.tc : Thread Cert.FiveRefIdeal.nD Cert.FiveRefIdeal.τ).loc Cert.FiveRefIdeal.main_arg3) = m ((c.tc : Thread Cert.FiveRefIdeal.nD Cert.FiveRefIdeal.τ).loc Cert.FiveRefIdeal.main_arg3)
      ∧ r.2.mem ((c.tc : Thread Cert.FiveRefIdeal.nD Cert.FiveRefIdeal.τ).loc Cert.FiveRefIdeal.main_arg4) = m ((c.tc : Thread Cert.FiveRefIdeal.nD Cert.FiveRefIdeal.τ).loc Cert.FiveRefIdeal.main_arg4)
      ∧ r.2.mem ((c.tc : Thread Cert.FiveRefIdeal.nD Cert.FiveRefIdeal.τ).loc Cert.FiveRefIdeal.main_arg5) = m ((c.tc : Thread Cert.FiveRefIdeal.nD Cert.FiveRefIdeal.τ).loc Cert.FiveRefIdeal.main_arg5)
      ∧ r.2.mem ((c.tc : Thread Cert.FiveRefIdeal.nD Cert.FiveRefIdeal.τ).loc Cert.FiveRefIdeal.main_arg6) = m ((c.tc : Thread Cert.FiveRefIdeal.nD Cert.FiveRefIdeal.τ).loc Cert.FiveRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Expert_ExpertIdeal : Prop :=
  True

def algebraic_ExpertIdeal_ExpertRefIdeal [hExpertIdeal : Cert.ExpertIdeal.Facts] [hExpertRefIdeal : Cert.ExpertRefIdeal.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)) →
    ∃ (v0 : (c : Dev Cert.ExpertIdeal.nD) → Buf (Elt Ideal) ((c.tc : Thread Cert.ExpertIdeal.nD Cert.ExpertIdeal.τ).loc Cert.ExpertIdeal.main_v7)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v7) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v5) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v197)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v197) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v181) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9))

def preserves_Between_BetweenIdeal : Prop :=
  True

def algebraic_BetweenIdeal_BetweenRefIdeal [hBetweenIdeal : Cert.BetweenIdeal.Facts] [hBetweenRefIdeal : Cert.BetweenRefIdeal.Facts] : Prop :=
  ∀ (m : (ℓ : Loc Cert.BetweenIdeal.nD Cert.BetweenIdeal.τ Cert.BetweenIdeal.sig) → Buf (Elt Ideal) ℓ) (g : Dev Cert.BetweenIdeal.nD → PrngReg)
    (m' : (ℓ : Loc Cert.BetweenRefIdeal.nD Cert.BetweenRefIdeal.τ Cert.BetweenRefIdeal.sig) → Buf (Elt Ideal) ℓ) (g' : Dev Cert.BetweenRefIdeal.nD → PrngReg), Pre_BetweenIdeal m →
    (∀ c : Dev Cert.BetweenIdeal.nD,
      m' ((c.tc : Thread Cert.BetweenRefIdeal.nD Cert.BetweenRefIdeal.τ).loc Cert.BetweenRefIdeal.main_arg0) = m ((c.tc : Thread Cert.BetweenIdeal.nD Cert.BetweenIdeal.τ).loc Cert.BetweenIdeal.main_arg0)
      ∧ m' ((c.tc : Thread Cert.BetweenRefIdeal.nD Cert.BetweenRefIdeal.τ).loc Cert.BetweenRefIdeal.main_arg1) = m ((c.tc : Thread Cert.BetweenIdeal.nD Cert.BetweenIdeal.τ).loc Cert.BetweenIdeal.main_arg1)
      ∧ m' ((c.tc : Thread Cert.BetweenRefIdeal.nD Cert.BetweenRefIdeal.τ).loc Cert.BetweenRefIdeal.main_arg2) = m ((c.tc : Thread Cert.BetweenIdeal.nD Cert.BetweenIdeal.τ).loc Cert.BetweenIdeal.main_arg2)
      ∧ m' ((c.tc : Thread Cert.BetweenRefIdeal.nD Cert.BetweenRefIdeal.τ).loc Cert.BetweenRefIdeal.main_arg3) = m ((c.tc : Thread Cert.BetweenIdeal.nD Cert.BetweenIdeal.τ).loc Cert.BetweenIdeal.main_arg3)
      ∧ m' ((c.tc : Thread Cert.BetweenRefIdeal.nD Cert.BetweenRefIdeal.τ).loc Cert.BetweenRefIdeal.main_arg4) = m ((c.tc : Thread Cert.BetweenIdeal.nD Cert.BetweenIdeal.τ).loc Cert.BetweenIdeal.main_arg4)
      ∧ m' ((c.tc : Thread Cert.BetweenRefIdeal.nD Cert.BetweenRefIdeal.τ).loc Cert.BetweenRefIdeal.main_arg5) = m ((c.tc : Thread Cert.BetweenIdeal.nD Cert.BetweenIdeal.τ).loc Cert.BetweenIdeal.main_arg5)
      ∧ m' ((c.tc : Thread Cert.BetweenRefIdeal.nD Cert.BetweenRefIdeal.τ).loc Cert.BetweenRefIdeal.main_arg6) = m ((c.tc : Thread Cert.BetweenIdeal.nD Cert.BetweenIdeal.τ).loc Cert.BetweenIdeal.main_arg6)
      ∧ m' ((c.tc : Thread Cert.BetweenRefIdeal.nD Cert.BetweenRefIdeal.τ).loc Cert.BetweenRefIdeal.main_arg7) = m ((c.tc : Thread Cert.BetweenIdeal.nD Cert.BetweenIdeal.τ).loc Cert.BetweenIdeal.main_arg7)
      ∧ m' ((c.tc : Thread Cert.BetweenRefIdeal.nD Cert.BetweenRefIdeal.τ).loc Cert.BetweenRefIdeal.main_arg8) = m ((c.tc : Thread Cert.BetweenIdeal.nD Cert.BetweenIdeal.τ).loc Cert.BetweenIdeal.main_arg8)
      ∧ m' ((c.tc : Thread Cert.BetweenRefIdeal.nD Cert.BetweenRefIdeal.τ).loc Cert.BetweenRefIdeal.main_arg9) = m ((c.tc : Thread Cert.BetweenIdeal.nD Cert.BetweenIdeal.τ).loc Cert.BetweenIdeal.main_arg9)
      ∧ m' ((c.tc : Thread Cert.BetweenRefIdeal.nD Cert.BetweenRefIdeal.τ).loc Cert.BetweenRefIdeal.main_arg10) = m ((c.tc : Thread Cert.BetweenIdeal.nD Cert.BetweenIdeal.τ).loc Cert.BetweenIdeal.main_arg10)
      ∧ m' ((c.tc : Thread Cert.BetweenRefIdeal.nD Cert.BetweenRefIdeal.τ).loc Cert.BetweenRefIdeal.main_arg11) = m ((c.tc : Thread Cert.BetweenIdeal.nD Cert.BetweenIdeal.τ).loc Cert.BetweenIdeal.main_arg11)
      ∧ m' ((c.tc : Thread Cert.BetweenRefIdeal.nD Cert.BetweenRefIdeal.τ).loc Cert.BetweenRefIdeal.main_arg12) = m ((c.tc : Thread Cert.BetweenIdeal.nD Cert.BetweenIdeal.τ).loc Cert.BetweenIdeal.main_arg12)
      ∧ m' ((c.tc : Thread Cert.BetweenRefIdeal.nD Cert.BetweenRefIdeal.τ).loc Cert.BetweenRefIdeal.main_arg13) = m ((c.tc : Thread Cert.BetweenIdeal.nD Cert.BetweenIdeal.τ).loc Cert.BetweenIdeal.main_arg13)
      ∧ m' ((c.tc : Thread Cert.BetweenRefIdeal.nD Cert.BetweenRefIdeal.τ).loc Cert.BetweenRefIdeal.main_arg14) = m ((c.tc : Thread Cert.BetweenIdeal.nD Cert.BetweenIdeal.τ).loc Cert.BetweenIdeal.main_arg14)
      ∧ m' ((c.tc : Thread Cert.BetweenRefIdeal.nD Cert.BetweenRefIdeal.τ).loc Cert.BetweenRefIdeal.main_arg15) = m ((c.tc : Thread Cert.BetweenIdeal.nD Cert.BetweenIdeal.τ).loc Cert.BetweenIdeal.main_arg15)) →
    ∃ (v0 : (c : Dev Cert.BetweenIdeal.nD) → Buf (Elt Ideal) ((c.tc : Thread Cert.BetweenIdeal.nD Cert.BetweenIdeal.τ).loc Cert.BetweenIdeal.main_v125)) (v1 : (c : Dev Cert.BetweenIdeal.nD) → Buf (Elt Ideal) ((c.tc : Thread Cert.BetweenIdeal.nD Cert.BetweenIdeal.τ).loc Cert.BetweenIdeal.main_v169)) (v2 : (c : Dev Cert.BetweenIdeal.nD) → Buf (Elt Ideal) ((c.tc : Thread Cert.BetweenIdeal.nD Cert.BetweenIdeal.τ).loc Cert.BetweenIdeal.main_v170)) (v3 : (c : Dev Cert.BetweenIdeal.nD) → Buf (Elt Ideal) ((c.tc : Thread Cert.BetweenIdeal.nD Cert.BetweenIdeal.τ).loc Cert.BetweenIdeal.main_v171)) (v4 : (c : Dev Cert.BetweenIdeal.nD) → Buf (Elt Ideal) ((c.tc : Thread Cert.BetweenIdeal.nD Cert.BetweenIdeal.τ).loc Cert.BetweenIdeal.main_v172)) (v5 : (c : Dev Cert.BetweenIdeal.nD) → Buf (Elt Ideal) ((c.tc : Thread Cert.BetweenIdeal.nD Cert.BetweenIdeal.τ).loc Cert.BetweenIdeal.main_v173)) (v6 : (c : Dev Cert.BetweenIdeal.nD) → Buf (Elt Ideal) ((c.tc : Thread Cert.BetweenIdeal.nD Cert.BetweenIdeal.τ).loc Cert.BetweenIdeal.main_v174)) (v7 : (c : Dev Cert.BetweenIdeal.nD) → Buf (Elt Ideal) ((c.tc : Thread Cert.BetweenIdeal.nD Cert.BetweenIdeal.τ).loc Cert.BetweenIdeal.main_v175)) (v8 : (c : Dev Cert.BetweenIdeal.nD) → Buf (Elt Ideal) ((c.tc : Thread Cert.BetweenIdeal.nD Cert.BetweenIdeal.τ).loc Cert.BetweenIdeal.main_v176)) (v9 : (c : Dev Cert.BetweenIdeal.nD) → Buf (Elt Ideal) ((c.tc : Thread Cert.BetweenIdeal.nD Cert.BetweenIdeal.τ).loc Cert.BetweenIdeal.main_v177)) (v10 : (c : Dev Cert.BetweenIdeal.nD) → Buf (Elt Ideal) ((c.tc : Thread Cert.BetweenIdeal.nD Cert.BetweenIdeal.τ).loc Cert.BetweenIdeal.main_v178)),
      θ_run (Cert.BetweenIdeal.defs (F := Ideal)) (onTc (τ := Cert.BetweenIdeal.τ) (Cert.BetweenIdeal.main (F := Ideal))) ⟨m, fun _ => 0, g⟩ (fun r => ∀ c : Dev Cert.BetweenIdeal.nD,
          r.2.mem ((c.tc : Thread Cert.BetweenIdeal.nD Cert.BetweenIdeal.τ).loc Cert.BetweenIdeal.main_v125) = v0 c
          ∧ r.2.mem ((c.tc : Thread Cert.BetweenIdeal.nD Cert.BetweenIdeal.τ).loc Cert.BetweenIdeal.main_v169) = v1 c
          ∧ r.2.mem ((c.tc : Thread Cert.BetweenIdeal.nD Cert.BetweenIdeal.τ).loc Cert.BetweenIdeal.main_v170) = v2 c
          ∧ r.2.mem ((c.tc : Thread Cert.BetweenIdeal.nD Cert.BetweenIdeal.τ).loc Cert.BetweenIdeal.main_v171) = v3 c
          ∧ r.2.mem ((c.tc : Thread Cert.BetweenIdeal.nD Cert.BetweenIdeal.τ).loc Cert.BetweenIdeal.main_v172) = v4 c
          ∧ r.2.mem ((c.tc : Thread Cert.BetweenIdeal.nD Cert.BetweenIdeal.τ).loc Cert.BetweenIdeal.main_v173) = v5 c
          ∧ r.2.mem ((c.tc : Thread Cert.BetweenIdeal.nD Cert.BetweenIdeal.τ).loc Cert.BetweenIdeal.main_v174) = v6 c
          ∧ r.2.mem ((c.tc : Thread Cert.BetweenIdeal.nD Cert.BetweenIdeal.τ).loc Cert.BetweenIdeal.main_v175) = v7 c
          ∧ r.2.mem ((c.tc : Thread Cert.BetweenIdeal.nD Cert.BetweenIdeal.τ).loc Cert.BetweenIdeal.main_v176) = v8 c
          ∧ r.2.mem ((c.tc : Thread Cert.BetweenIdeal.nD Cert.BetweenIdeal.τ).loc Cert.BetweenIdeal.main_v177) = v9 c
          ∧ r.2.mem ((c.tc : Thread Cert.BetweenIdeal.nD Cert.BetweenIdeal.τ).loc Cert.BetweenIdeal.main_v178) = v10 c
          ∧ r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
          ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
          ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
          ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
          ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4)
          ∧ r.2.mem ((c.tc : Thread Cert.BetweenIdeal.nD Cert.BetweenIdeal.τ).loc Cert.BetweenIdeal.main_arg5) = m ((c.tc : Thread Cert.BetweenIdeal.nD Cert.BetweenIdeal.τ).loc Cert.BetweenIdeal.main_arg5)
          ∧ r.2.mem ((c.tc : Thread Cert.BetweenIdeal.nD Cert.BetweenIdeal.τ).loc Cert.BetweenIdeal.main_arg6) = m ((c.tc : Thread Cert.BetweenIdeal.nD Cert.BetweenIdeal.τ).loc Cert.BetweenIdeal.main_arg6)
          ∧ r.2.mem ((c.tc : Thread Cert.BetweenIdeal.nD Cert.BetweenIdeal.τ).loc Cert.BetweenIdeal.main_arg7) = m ((c.tc : Thread Cert.BetweenIdeal.nD Cert.BetweenIdeal.τ).loc Cert.BetweenIdeal.main_arg7)
          ∧ r.2.mem ((c.tc : Thread Cert.BetweenIdeal.nD Cert.BetweenIdeal.τ).loc Cert.BetweenIdeal.main_arg8) = m ((c.tc : Thread Cert.BetweenIdeal.nD Cert.BetweenIdeal.τ).loc Cert.BetweenIdeal.main_arg8)
          ∧ r.2.mem ((c.tc : Thread Cert.BetweenIdeal.nD Cert.BetweenIdeal.τ).loc Cert.BetweenIdeal.main_arg9) = m ((c.tc : Thread Cert.BetweenIdeal.nD Cert.BetweenIdeal.τ).loc Cert.BetweenIdeal.main_arg9)
          ∧ r.2.mem ((c.tc : Thread Cert.BetweenIdeal.nD Cert.BetweenIdeal.τ).loc Cert.BetweenIdeal.main_arg10) = m ((c.tc : Thread Cert.BetweenIdeal.nD Cert.BetweenIdeal.τ).loc Cert.BetweenIdeal.main_arg10)
          ∧ r.2.mem ((c.tc : Thread Cert.BetweenIdeal.nD Cert.BetweenIdeal.τ).loc Cert.BetweenIdeal.main_arg11) = m ((c.tc : Thread Cert.BetweenIdeal.nD Cert.BetweenIdeal.τ).loc Cert.BetweenIdeal.main_arg11)
          ∧ r.2.mem ((c.tc : Thread Cert.BetweenIdeal.nD Cert.BetweenIdeal.τ).loc Cert.BetweenIdeal.main_arg12) = m ((c.tc : Thread Cert.BetweenIdeal.nD Cert.BetweenIdeal.τ).loc Cert.BetweenIdeal.main_arg12)
          ∧ r.2.mem ((c.tc : Thread Cert.BetweenIdeal.nD Cert.BetweenIdeal.τ).loc Cert.BetweenIdeal.main_arg13) = m ((c.tc : Thread Cert.BetweenIdeal.nD Cert.BetweenIdeal.τ).loc Cert.BetweenIdeal.main_arg13)
          ∧ r.2.mem ((c.tc : Thread Cert.BetweenIdeal.nD Cert.BetweenIdeal.τ).loc Cert.BetweenIdeal.main_arg14) = m ((c.tc : Thread Cert.BetweenIdeal.nD Cert.BetweenIdeal.τ).loc Cert.BetweenIdeal.main_arg14)
          ∧ r.2.mem ((c.tc : Thread Cert.BetweenIdeal.nD Cert.BetweenIdeal.τ).loc Cert.BetweenIdeal.main_arg15) = m ((c.tc : Thread Cert.BetweenIdeal.nD Cert.BetweenIdeal.τ).loc Cert.BetweenIdeal.main_arg15))
      ∧ θ_run (Cert.BetweenRefIdeal.defs (F := Ideal)) (onTc (τ := Cert.BetweenRefIdeal.τ) (Cert.BetweenRefIdeal.main (F := Ideal))) ⟨m', fun _ => 0, g'⟩ (fun r => ∀ c : Dev Cert.BetweenRefIdeal.nD,
          r.2.mem ((c.tc : Thread Cert.BetweenRefIdeal.nD Cert.BetweenRefIdeal.τ).loc Cert.BetweenRefIdeal.main_v104) = v0 c
          ∧ r.2.mem ((c.tc : Thread Cert.BetweenRefIdeal.nD Cert.BetweenRefIdeal.τ).loc Cert.BetweenRefIdeal.main_v145) = v1 c
          ∧ r.2.mem ((c.tc : Thread Cert.BetweenRefIdeal.nD Cert.BetweenRefIdeal.τ).loc Cert.BetweenRefIdeal.main_v146) = v2 c
          ∧ r.2.mem ((c.tc : Thread Cert.BetweenRefIdeal.nD Cert.BetweenRefIdeal.τ).loc Cert.BetweenRefIdeal.main_v147) = v3 c
          ∧ r.2.mem ((c.tc : Thread Cert.BetweenRefIdeal.nD Cert.BetweenRefIdeal.τ).loc Cert.BetweenRefIdeal.main_v148) = v4 c
          ∧ r.2.mem ((c.tc : Thread Cert.BetweenRefIdeal.nD Cert.BetweenRefIdeal.τ).loc Cert.BetweenRefIdeal.main_v149) = v5 c
          ∧ r.2.mem ((c.tc : Thread Cert.BetweenRefIdeal.nD Cert.BetweenRefIdeal.τ).loc Cert.BetweenRefIdeal.main_v150) = v6 c
          ∧ r.2.mem ((c.tc : Thread Cert.BetweenRefIdeal.nD Cert.BetweenRefIdeal.τ).loc Cert.BetweenRefIdeal.main_v151) = v7 c
          ∧ r.2.mem ((c.tc : Thread Cert.BetweenRefIdeal.nD Cert.BetweenRefIdeal.τ).loc Cert.BetweenRefIdeal.main_v152) = v8 c
          ∧ r.2.mem ((c.tc : Thread Cert.BetweenRefIdeal.nD Cert.BetweenRefIdeal.τ).loc Cert.BetweenRefIdeal.main_v153) = v9 c
          ∧ r.2.mem ((c.tc : Thread Cert.BetweenRefIdeal.nD Cert.BetweenRefIdeal.τ).loc Cert.BetweenRefIdeal.main_v154) = v10 c
          ∧ r.2.mem ((c.tc : Thread Cert.BetweenRefIdeal.nD Cert.BetweenRefIdeal.τ).loc Cert.BetweenRefIdeal.main_arg0) = m' ((c.tc : Thread Cert.BetweenRefIdeal.nD Cert.BetweenRefIdeal.τ).loc Cert.BetweenRefIdeal.main_arg0)
          ∧ r.2.mem ((c.tc : Thread Cert.BetweenRefIdeal.nD Cert.BetweenRefIdeal.τ).loc Cert.BetweenRefIdeal.main_arg1) = m' ((c.tc : Thread Cert.BetweenRefIdeal.nD Cert.BetweenRefIdeal.τ).loc Cert.BetweenRefIdeal.main_arg1)
          ∧ r.2.mem ((c.tc : Thread Cert.BetweenRefIdeal.nD Cert.BetweenRefIdeal.τ).loc Cert.BetweenRefIdeal.main_arg2) = m' ((c.tc : Thread Cert.BetweenRefIdeal.nD Cert.BetweenRefIdeal.τ).loc Cert.BetweenRefIdeal.main_arg2)
          ∧ r.2.mem ((c.tc : Thread Cert.BetweenRefIdeal.nD Cert.BetweenRefIdeal.τ).loc Cert.BetweenRefIdeal.main_arg3) = m' ((c.tc : Thread Cert.BetweenRefIdeal.nD Cert.BetweenRefIdeal.τ).loc Cert.BetweenRefIdeal.main_arg3)
          ∧ r.2.mem ((c.tc : Thread Cert.BetweenRefIdeal.nD Cert.BetweenRefIdeal.τ).loc Cert.BetweenRefIdeal.main_arg4) = m' ((c.tc : Thread Cert.BetweenRefIdeal.nD Cert.BetweenRefIdeal.τ).loc Cert.BetweenRefIdeal.main_arg4)
          ∧ r.2.mem ((c.tc : Thread Cert.BetweenRefIdeal.nD Cert.BetweenRefIdeal.τ).loc Cert.BetweenRefIdeal.main_arg5) = m' ((c.tc : Thread Cert.BetweenRefIdeal.nD Cert.BetweenRefIdeal.τ).loc Cert.BetweenRefIdeal.main_arg5)
          ∧ r.2.mem ((c.tc : Thread Cert.BetweenRefIdeal.nD Cert.BetweenRefIdeal.τ).loc Cert.BetweenRefIdeal.main_arg6) = m' ((c.tc : Thread Cert.BetweenRefIdeal.nD Cert.BetweenRefIdeal.τ).loc Cert.BetweenRefIdeal.main_arg6)
          ∧ r.2.mem ((c.tc : Thread Cert.BetweenRefIdeal.nD Cert.BetweenRefIdeal.τ).loc Cert.BetweenRefIdeal.main_arg7) = m' ((c.tc : Thread Cert.BetweenRefIdeal.nD Cert.BetweenRefIdeal.τ).loc Cert.BetweenRefIdeal.main_arg7)
          ∧ r.2.mem ((c.tc : Thread Cert.BetweenRefIdeal.nD Cert.BetweenRefIdeal.τ).loc Cert.BetweenRefIdeal.main_arg8) = m' ((c.tc : Thread Cert.BetweenRefIdeal.nD Cert.BetweenRefIdeal.τ).loc Cert.BetweenRefIdeal.main_arg8)
          ∧ r.2.mem ((c.tc : Thread Cert.BetweenRefIdeal.nD Cert.BetweenRefIdeal.τ).loc Cert.BetweenRefIdeal.main_arg9) = m' ((c.tc : Thread Cert.BetweenRefIdeal.nD Cert.BetweenRefIdeal.τ).loc Cert.BetweenRefIdeal.main_arg9)
          ∧ r.2.mem ((c.tc : Thread Cert.BetweenRefIdeal.nD Cert.BetweenRefIdeal.τ).loc Cert.BetweenRefIdeal.main_arg10) = m' ((c.tc : Thread Cert.BetweenRefIdeal.nD Cert.BetweenRefIdeal.τ).loc Cert.BetweenRefIdeal.main_arg10)
          ∧ r.2.mem ((c.tc : Thread Cert.BetweenRefIdeal.nD Cert.BetweenRefIdeal.τ).loc Cert.BetweenRefIdeal.main_arg11) = m' ((c.tc : Thread Cert.BetweenRefIdeal.nD Cert.BetweenRefIdeal.τ).loc Cert.BetweenRefIdeal.main_arg11)
          ∧ r.2.mem ((c.tc : Thread Cert.BetweenRefIdeal.nD Cert.BetweenRefIdeal.τ).loc Cert.BetweenRefIdeal.main_arg12) = m' ((c.tc : Thread Cert.BetweenRefIdeal.nD Cert.BetweenRefIdeal.τ).loc Cert.BetweenRefIdeal.main_arg12)
          ∧ r.2.mem ((c.tc : Thread Cert.BetweenRefIdeal.nD Cert.BetweenRefIdeal.τ).loc Cert.BetweenRefIdeal.main_arg13) = m' ((c.tc : Thread Cert.BetweenRefIdeal.nD Cert.BetweenRefIdeal.τ).loc Cert.BetweenRefIdeal.main_arg13)
          ∧ r.2.mem ((c.tc : Thread Cert.BetweenRefIdeal.nD Cert.BetweenRefIdeal.τ).loc Cert.BetweenRefIdeal.main_arg14) = m' ((c.tc : Thread Cert.BetweenRefIdeal.nD Cert.BetweenRefIdeal.τ).loc Cert.BetweenRefIdeal.main_arg14)
          ∧ r.2.mem ((c.tc : Thread Cert.BetweenRefIdeal.nD Cert.BetweenRefIdeal.τ).loc Cert.BetweenRefIdeal.main_arg15) = m' ((c.tc : Thread Cert.BetweenRefIdeal.nD Cert.BetweenRefIdeal.τ).loc Cert.BetweenRefIdeal.main_arg15))

def preserves_Start_StartIdeal : Prop :=
  True

def algebraic_StartIdeal_StartRefIdeal [hStartIdeal : Cert.StartIdeal.Facts] [hStartRefIdeal : Cert.StartRefIdeal.Facts] : Prop :=
  ∀ (m : (ℓ : Loc Cert.StartIdeal.nD Cert.StartIdeal.τ Cert.StartIdeal.sig) → Buf (Elt Ideal) ℓ) (g : Dev Cert.StartIdeal.nD → PrngReg)
    (m' : (ℓ : Loc Cert.StartRefIdeal.nD Cert.StartRefIdeal.τ Cert.StartRefIdeal.sig) → Buf (Elt Ideal) ℓ) (g' : Dev Cert.StartRefIdeal.nD → PrngReg), Pre_StartIdeal m →
    (∀ c : Dev Cert.StartIdeal.nD,
      m' ((c.tc : Thread Cert.StartRefIdeal.nD Cert.StartRefIdeal.τ).loc Cert.StartRefIdeal.main_arg0) = m ((c.tc : Thread Cert.StartIdeal.nD Cert.StartIdeal.τ).loc Cert.StartIdeal.main_arg0)
      ∧ m' ((c.tc : Thread Cert.StartRefIdeal.nD Cert.StartRefIdeal.τ).loc Cert.StartRefIdeal.main_arg1) = m ((c.tc : Thread Cert.StartIdeal.nD Cert.StartIdeal.τ).loc Cert.StartIdeal.main_arg1)
      ∧ m' ((c.tc : Thread Cert.StartRefIdeal.nD Cert.StartRefIdeal.τ).loc Cert.StartRefIdeal.main_arg2) = m ((c.tc : Thread Cert.StartIdeal.nD Cert.StartIdeal.τ).loc Cert.StartIdeal.main_arg2)
      ∧ m' ((c.tc : Thread Cert.StartRefIdeal.nD Cert.StartRefIdeal.τ).loc Cert.StartRefIdeal.main_arg3) = m ((c.tc : Thread Cert.StartIdeal.nD Cert.StartIdeal.τ).loc Cert.StartIdeal.main_arg3)
      ∧ m' ((c.tc : Thread Cert.StartRefIdeal.nD Cert.StartRefIdeal.τ).loc Cert.StartRefIdeal.main_arg4) = m ((c.tc : Thread Cert.StartIdeal.nD Cert.StartIdeal.τ).loc Cert.StartIdeal.main_arg4)
      ∧ m' ((c.tc : Thread Cert.StartRefIdeal.nD Cert.StartRefIdeal.τ).loc Cert.StartRefIdeal.main_arg5) = m ((c.tc : Thread Cert.StartIdeal.nD Cert.StartIdeal.τ).loc Cert.StartIdeal.main_arg5)
      ∧ m' ((c.tc : Thread Cert.StartRefIdeal.nD Cert.StartRefIdeal.τ).loc Cert.StartRefIdeal.main_arg6) = m ((c.tc : Thread Cert.StartIdeal.nD Cert.StartIdeal.τ).loc Cert.StartIdeal.main_arg6)
      ∧ m' ((c.tc : Thread Cert.StartRefIdeal.nD Cert.StartRefIdeal.τ).loc Cert.StartRefIdeal.main_arg7) = m ((c.tc : Thread Cert.StartIdeal.nD Cert.StartIdeal.τ).loc Cert.StartIdeal.main_arg7)) →
    ∃ (v0 : (c : Dev Cert.StartIdeal.nD) → Buf (Elt Ideal) ((c.tc : Thread Cert.StartIdeal.nD Cert.StartIdeal.τ).loc Cert.StartIdeal.main_v33)) (v1 : (c : Dev Cert.StartIdeal.nD) → Buf (Elt Ideal) ((c.tc : Thread Cert.StartIdeal.nD Cert.StartIdeal.τ).loc Cert.StartIdeal.main_v111)) (v2 : (c : Dev Cert.StartIdeal.nD) → Buf (Elt Ideal) ((c.tc : Thread Cert.StartIdeal.nD Cert.StartIdeal.τ).loc Cert.StartIdeal.main_v117)),
      θ_run (Cert.StartIdeal.defs (F := Ideal)) (onTc (τ := Cert.StartIdeal.τ) (Cert.StartIdeal.main (F := Ideal))) ⟨m, fun _ => 0, g⟩ (fun r => ∀ c : Dev Cert.StartIdeal.nD,
          r.2.mem ((c.tc : Thread Cert.StartIdeal.nD Cert.StartIdeal.τ).loc Cert.StartIdeal.main_v33) = v0 c
          ∧ r.2.mem ((c.tc : Thread Cert.StartIdeal.nD Cert.StartIdeal.τ).loc Cert.StartIdeal.main_v111) = v1 c
          ∧ r.2.mem ((c.tc : Thread Cert.StartIdeal.nD Cert.StartIdeal.τ).loc Cert.StartIdeal.main_v117) = v2 c
          ∧ r.2.mem ((c.tc : Thread Cert.StartIdeal.nD Cert.StartIdeal.τ).loc Cert.StartIdeal.main_arg0) = m ((c.tc : Thread Cert.StartIdeal.nD Cert.StartIdeal.τ).loc Cert.StartIdeal.main_arg0)
          ∧ r.2.mem ((c.tc : Thread Cert.StartIdeal.nD Cert.StartIdeal.τ).loc Cert.StartIdeal.main_arg1) = m ((c.tc : Thread Cert.StartIdeal.nD Cert.StartIdeal.τ).loc Cert.StartIdeal.main_arg1)
          ∧ r.2.mem ((c.tc : Thread Cert.StartIdeal.nD Cert.StartIdeal.τ).loc Cert.StartIdeal.main_arg2) = m ((c.tc : Thread Cert.StartIdeal.nD Cert.StartIdeal.τ).loc Cert.StartIdeal.main_arg2)
          ∧ r.2.mem ((c.tc : Thread Cert.StartIdeal.nD Cert.StartIdeal.τ).loc Cert.StartIdeal.main_arg3) = m ((c.tc : Thread Cert.StartIdeal.nD Cert.StartIdeal.τ).loc Cert.StartIdeal.main_arg3)
          ∧ r.2.mem ((c.tc : Thread Cert.StartIdeal.nD Cert.StartIdeal.τ).loc Cert.StartIdeal.main_arg4) = m ((c.tc : Thread Cert.StartIdeal.nD Cert.StartIdeal.τ).loc Cert.StartIdeal.main_arg4)
          ∧ r.2.mem ((c.tc : Thread Cert.StartIdeal.nD Cert.StartIdeal.τ).loc Cert.StartIdeal.main_arg5) = m ((c.tc : Thread Cert.StartIdeal.nD Cert.StartIdeal.τ).loc Cert.StartIdeal.main_arg5)
          ∧ r.2.mem ((c.tc : Thread Cert.StartIdeal.nD Cert.StartIdeal.τ).loc Cert.StartIdeal.main_arg6) = m ((c.tc : Thread Cert.StartIdeal.nD Cert.StartIdeal.τ).loc Cert.StartIdeal.main_arg6)
          ∧ r.2.mem ((c.tc : Thread Cert.StartIdeal.nD Cert.StartIdeal.τ).loc Cert.StartIdeal.main_arg7) = m ((c.tc : Thread Cert.StartIdeal.nD Cert.StartIdeal.τ).loc Cert.StartIdeal.main_arg7))
      ∧ θ_run (Cert.StartRefIdeal.defs (F := Ideal)) (onTc (τ := Cert.StartRefIdeal.τ) (Cert.StartRefIdeal.main (F := Ideal))) ⟨m', fun _ => 0, g'⟩ (fun r => ∀ c : Dev Cert.StartRefIdeal.nD,
          r.2.mem ((c.tc : Thread Cert.StartRefIdeal.nD Cert.StartRefIdeal.τ).loc Cert.StartRefIdeal.main_v33) = v0 c
          ∧ r.2.mem ((c.tc : Thread Cert.StartRefIdeal.nD Cert.StartRefIdeal.τ).loc Cert.StartRefIdeal.main_v108) = v1 c
          ∧ r.2.mem ((c.tc : Thread Cert.StartRefIdeal.nD Cert.StartRefIdeal.τ).loc Cert.StartRefIdeal.main_v111) = v2 c
          ∧ r.2.mem ((c.tc : Thread Cert.StartRefIdeal.nD Cert.StartRefIdeal.τ).loc Cert.StartRefIdeal.main_arg0) = m' ((c.tc : Thread Cert.StartRefIdeal.nD Cert.StartRefIdeal.τ).loc Cert.StartRefIdeal.main_arg0)
          ∧ r.2.mem ((c.tc : Thread Cert.StartRefIdeal.nD Cert.StartRefIdeal.τ).loc Cert.StartRefIdeal.main_arg1) = m' ((c.tc : Thread Cert.StartRefIdeal.nD Cert.StartRefIdeal.τ).loc Cert.StartRefIdeal.main_arg1)
          ∧ r.2.mem ((c.tc : Thread Cert.StartRefIdeal.nD Cert.StartRefIdeal.τ).loc Cert.StartRefIdeal.main_arg2) = m' ((c.tc : Thread Cert.StartRefIdeal.nD Cert.StartRefIdeal.τ).loc Cert.StartRefIdeal.main_arg2)
          ∧ r.2.mem ((c.tc : Thread Cert.StartRefIdeal.nD Cert.StartRefIdeal.τ).loc Cert.StartRefIdeal.main_arg3) = m' ((c.tc : Thread Cert.StartRefIdeal.nD Cert.StartRefIdeal.τ).loc Cert.StartRefIdeal.main_arg3)
          ∧ r.2.mem ((c.tc : Thread Cert.StartRefIdeal.nD Cert.StartRefIdeal.τ).loc Cert.StartRefIdeal.main_arg4) = m' ((c.tc : Thread Cert.StartRefIdeal.nD Cert.StartRefIdeal.τ).loc Cert.StartRefIdeal.main_arg4)
          ∧ r.2.mem ((c.tc : Thread Cert.StartRefIdeal.nD Cert.StartRefIdeal.τ).loc Cert.StartRefIdeal.main_arg5) = m' ((c.tc : Thread Cert.StartRefIdeal.nD Cert.StartRefIdeal.τ).loc Cert.StartRefIdeal.main_arg5)
          ∧ r.2.mem ((c.tc : Thread Cert.StartRefIdeal.nD Cert.StartRefIdeal.τ).loc Cert.StartRefIdeal.main_arg6) = m' ((c.tc : Thread Cert.StartRefIdeal.nD Cert.StartRefIdeal.τ).loc Cert.StartRefIdeal.main_arg6)
          ∧ r.2.mem ((c.tc : Thread Cert.StartRefIdeal.nD Cert.StartRefIdeal.τ).loc Cert.StartRefIdeal.main_arg7) = m' ((c.tc : Thread Cert.StartRefIdeal.nD Cert.StartRefIdeal.τ).loc Cert.StartRefIdeal.main_arg7))

def preserves_Five_FiveIdeal : Prop :=
  True

def algebraic_FiveIdeal_FiveRefIdeal [hFiveIdeal : Cert.FiveIdeal.Facts] [hFiveRefIdeal : Cert.FiveRefIdeal.Facts] : Prop :=
  ∀ (m : (ℓ : Loc Cert.FiveIdeal.nD Cert.FiveIdeal.τ Cert.FiveIdeal.sig) → Buf (Elt Ideal) ℓ) (g : Dev Cert.FiveIdeal.nD → PrngReg)
    (m' : (ℓ : Loc Cert.FiveRefIdeal.nD Cert.FiveRefIdeal.τ Cert.FiveRefIdeal.sig) → Buf (Elt Ideal) ℓ) (g' : Dev Cert.FiveRefIdeal.nD → PrngReg), Pre_FiveIdeal m →
    (∀ c : Dev Cert.FiveIdeal.nD,
      m' ((c.tc : Thread Cert.FiveRefIdeal.nD Cert.FiveRefIdeal.τ).loc Cert.FiveRefIdeal.main_arg0) = m ((c.tc : Thread Cert.FiveIdeal.nD Cert.FiveIdeal.τ).loc Cert.FiveIdeal.main_arg0)
      ∧ m' ((c.tc : Thread Cert.FiveRefIdeal.nD Cert.FiveRefIdeal.τ).loc Cert.FiveRefIdeal.main_arg1) = m ((c.tc : Thread Cert.FiveIdeal.nD Cert.FiveIdeal.τ).loc Cert.FiveIdeal.main_arg1)
      ∧ m' ((c.tc : Thread Cert.FiveRefIdeal.nD Cert.FiveRefIdeal.τ).loc Cert.FiveRefIdeal.main_arg2) = m ((c.tc : Thread Cert.FiveIdeal.nD Cert.FiveIdeal.τ).loc Cert.FiveIdeal.main_arg2)
      ∧ m' ((c.tc : Thread Cert.FiveRefIdeal.nD Cert.FiveRefIdeal.τ).loc Cert.FiveRefIdeal.main_arg3) = m ((c.tc : Thread Cert.FiveIdeal.nD Cert.FiveIdeal.τ).loc Cert.FiveIdeal.main_arg3)
      ∧ m' ((c.tc : Thread Cert.FiveRefIdeal.nD Cert.FiveRefIdeal.τ).loc Cert.FiveRefIdeal.main_arg4) = m ((c.tc : Thread Cert.FiveIdeal.nD Cert.FiveIdeal.τ).loc Cert.FiveIdeal.main_arg4)
      ∧ m' ((c.tc : Thread Cert.FiveRefIdeal.nD Cert.FiveRefIdeal.τ).loc Cert.FiveRefIdeal.main_arg5) = m ((c.tc : Thread Cert.FiveIdeal.nD Cert.FiveIdeal.τ).loc Cert.FiveIdeal.main_arg5)
      ∧ m' ((c.tc : Thread Cert.FiveRefIdeal.nD Cert.FiveRefIdeal.τ).loc Cert.FiveRefIdeal.main_arg6) = m ((c.tc : Thread Cert.FiveIdeal.nD Cert.FiveIdeal.τ).loc Cert.FiveIdeal.main_arg6)) →
    ∃ (v0 : (c : Dev Cert.FiveIdeal.nD) → Buf (Elt Ideal) ((c.tc : Thread Cert.FiveIdeal.nD Cert.FiveIdeal.τ).loc Cert.FiveIdeal.main_v25)) (v1 : (c : Dev Cert.FiveIdeal.nD) → Buf (Elt Ideal) ((c.tc : Thread Cert.FiveIdeal.nD Cert.FiveIdeal.τ).loc Cert.FiveIdeal.main_v39)),
      θ_run (Cert.FiveIdeal.defs (F := Ideal)) (onTc (τ := Cert.FiveIdeal.τ) (Cert.FiveIdeal.main (F := Ideal))) ⟨m, fun _ => 0, g⟩ (fun r => ∀ c : Dev Cert.FiveIdeal.nD,
          r.2.mem ((c.tc : Thread Cert.FiveIdeal.nD Cert.FiveIdeal.τ).loc Cert.FiveIdeal.main_v25) = v0 c
          ∧ r.2.mem ((c.tc : Thread Cert.FiveIdeal.nD Cert.FiveIdeal.τ).loc Cert.FiveIdeal.main_v39) = v1 c
          ∧ r.2.mem ((c.tc : Thread Cert.FiveIdeal.nD Cert.FiveIdeal.τ).loc Cert.FiveIdeal.main_arg0) = m ((c.tc : Thread Cert.FiveIdeal.nD Cert.FiveIdeal.τ).loc Cert.FiveIdeal.main_arg0)
          ∧ r.2.mem ((c.tc : Thread Cert.FiveIdeal.nD Cert.FiveIdeal.τ).loc Cert.FiveIdeal.main_arg1) = m ((c.tc : Thread Cert.FiveIdeal.nD Cert.FiveIdeal.τ).loc Cert.FiveIdeal.main_arg1)
          ∧ r.2.mem ((c.tc : Thread Cert.FiveIdeal.nD Cert.FiveIdeal.τ).loc Cert.FiveIdeal.main_arg2) = m ((c.tc : Thread Cert.FiveIdeal.nD Cert.FiveIdeal.τ).loc Cert.FiveIdeal.main_arg2)
          ∧ r.2.mem ((c.tc : Thread Cert.FiveIdeal.nD Cert.FiveIdeal.τ).loc Cert.FiveIdeal.main_arg3) = m ((c.tc : Thread Cert.FiveIdeal.nD Cert.FiveIdeal.τ).loc Cert.FiveIdeal.main_arg3)
          ∧ r.2.mem ((c.tc : Thread Cert.FiveIdeal.nD Cert.FiveIdeal.τ).loc Cert.FiveIdeal.main_arg4) = m ((c.tc : Thread Cert.FiveIdeal.nD Cert.FiveIdeal.τ).loc Cert.FiveIdeal.main_arg4)
          ∧ r.2.mem ((c.tc : Thread Cert.FiveIdeal.nD Cert.FiveIdeal.τ).loc Cert.FiveIdeal.main_arg5) = m ((c.tc : Thread Cert.FiveIdeal.nD Cert.FiveIdeal.τ).loc Cert.FiveIdeal.main_arg5)
          ∧ r.2.mem ((c.tc : Thread Cert.FiveIdeal.nD Cert.FiveIdeal.τ).loc Cert.FiveIdeal.main_arg6) = m ((c.tc : Thread Cert.FiveIdeal.nD Cert.FiveIdeal.τ).loc Cert.FiveIdeal.main_arg6))
      ∧ θ_run (Cert.FiveRefIdeal.defs (F := Ideal)) (onTc (τ := Cert.FiveRefIdeal.τ) (Cert.FiveRefIdeal.main (F := Ideal))) ⟨m', fun _ => 0, g'⟩ (fun r => ∀ c : Dev Cert.FiveRefIdeal.nD,
          r.2.mem ((c.tc : Thread Cert.FiveRefIdeal.nD Cert.FiveRefIdeal.τ).loc Cert.FiveRefIdeal.main_v21) = v0 c
          ∧ r.2.mem ((c.tc : Thread Cert.FiveRefIdeal.nD Cert.FiveRefIdeal.τ).loc Cert.FiveRefIdeal.main_v32) = v1 c
          ∧ r.2.mem ((c.tc : Thread Cert.FiveRefIdeal.nD Cert.FiveRefIdeal.τ).loc Cert.FiveRefIdeal.main_arg0) = m' ((c.tc : Thread Cert.FiveRefIdeal.nD Cert.FiveRefIdeal.τ).loc Cert.FiveRefIdeal.main_arg0)
          ∧ r.2.mem ((c.tc : Thread Cert.FiveRefIdeal.nD Cert.FiveRefIdeal.τ).loc Cert.FiveRefIdeal.main_arg1) = m' ((c.tc : Thread Cert.FiveRefIdeal.nD Cert.FiveRefIdeal.τ).loc Cert.FiveRefIdeal.main_arg1)
          ∧ r.2.mem ((c.tc : Thread Cert.FiveRefIdeal.nD Cert.FiveRefIdeal.τ).loc Cert.FiveRefIdeal.main_arg2) = m' ((c.tc : Thread Cert.FiveRefIdeal.nD Cert.FiveRefIdeal.τ).loc Cert.FiveRefIdeal.main_arg2)
          ∧ r.2.mem ((c.tc : Thread Cert.FiveRefIdeal.nD Cert.FiveRefIdeal.τ).loc Cert.FiveRefIdeal.main_arg3) = m' ((c.tc : Thread Cert.FiveRefIdeal.nD Cert.FiveRefIdeal.τ).loc Cert.FiveRefIdeal.main_arg3)
          ∧ r.2.mem ((c.tc : Thread Cert.FiveRefIdeal.nD Cert.FiveRefIdeal.τ).loc Cert.FiveRefIdeal.main_arg4) = m' ((c.tc : Thread Cert.FiveRefIdeal.nD Cert.FiveRefIdeal.τ).loc Cert.FiveRefIdeal.main_arg4)
          ∧ r.2.mem ((c.tc : Thread Cert.FiveRefIdeal.nD Cert.FiveRefIdeal.τ).loc Cert.FiveRefIdeal.main_arg5) = m' ((c.tc : Thread Cert.FiveRefIdeal.nD Cert.FiveRefIdeal.τ).loc Cert.FiveRefIdeal.main_arg5)
          ∧ r.2.mem ((c.tc : Thread Cert.FiveRefIdeal.nD Cert.FiveRefIdeal.τ).loc Cert.FiveRefIdeal.main_arg6) = m' ((c.tc : Thread Cert.FiveRefIdeal.nD Cert.FiveRefIdeal.τ).loc Cert.FiveRefIdeal.main_arg6))

def Claim : Prop :=
  ∃ (hKernel : Cert.Kernel.Facts) (hKernelIdeal : Cert.KernelIdeal.Facts) (hReferenceIdeal : Cert.ReferenceIdeal.Facts) (hExpert : Cert.Expert.Facts) (hExpertIdeal : Cert.ExpertIdeal.Facts) (hExpertRefIdeal : Cert.ExpertRefIdeal.Facts) (hMoe : Cert.Moe.Facts) (hMoeIdeal : Cert.MoeIdeal.Facts) (hMoeRefIdeal : Cert.MoeRefIdeal.Facts) (hBetween : Cert.Between.Facts) (hBetweenIdeal : Cert.BetweenIdeal.Facts) (hBetweenRefIdeal : Cert.BetweenRefIdeal.Facts) (hStart : Cert.Start.Facts) (hStartIdeal : Cert.StartIdeal.Facts) (hStartRefIdeal : Cert.StartRefIdeal.Facts) (hFive : Cert.Five.Facts) (hFiveIdeal : Cert.FiveIdeal.Facts) (hFiveRefIdeal : Cert.FiveRefIdeal.Facts),
    quiescent_Kernel (hKernel := hKernel)
    ∧ quiescent_KernelIdeal (hKernelIdeal := hKernelIdeal)
    ∧ quiescent_ReferenceIdeal (hReferenceIdeal := hReferenceIdeal)
    ∧ quiescent_Expert (hExpert := hExpert)
    ∧ quiescent_ExpertIdeal (hExpertIdeal := hExpertIdeal)
    ∧ quiescent_ExpertRefIdeal (hExpertRefIdeal := hExpertRefIdeal)
    ∧ quiescent_Moe (hMoe := hMoe)
    ∧ quiescent_MoeIdeal (hMoeIdeal := hMoeIdeal)
    ∧ quiescent_MoeRefIdeal (hMoeRefIdeal := hMoeRefIdeal)
    ∧ quiescent_Between (hBetween := hBetween)
    ∧ quiescent_BetweenIdeal (hBetweenIdeal := hBetweenIdeal)
    ∧ quiescent_BetweenRefIdeal (hBetweenRefIdeal := hBetweenRefIdeal)
    ∧ quiescent_Start (hStart := hStart)
    ∧ quiescent_StartIdeal (hStartIdeal := hStartIdeal)
    ∧ quiescent_StartRefIdeal (hStartRefIdeal := hStartRefIdeal)
    ∧ quiescent_Five (hFive := hFive)
    ∧ quiescent_FiveIdeal (hFiveIdeal := hFiveIdeal)
    ∧ quiescent_FiveRefIdeal (hFiveRefIdeal := hFiveRefIdeal)
    ∧ preserves_Kernel_KernelIdeal
    ∧ algebraic_KernelIdeal_ReferenceIdeal (hKernelIdeal := hKernelIdeal) (hReferenceIdeal := hReferenceIdeal)
    ∧ preserves_Expert_ExpertIdeal
    ∧ algebraic_ExpertIdeal_ExpertRefIdeal (hExpertIdeal := hExpertIdeal) (hExpertRefIdeal := hExpertRefIdeal)
    ∧ preserves_Moe_MoeIdeal
    ∧ algebraic_MoeIdeal_MoeRefIdeal (hMoeIdeal := hMoeIdeal) (hMoeRefIdeal := hMoeRefIdeal)
    ∧ preserves_Between_BetweenIdeal
    ∧ algebraic_BetweenIdeal_BetweenRefIdeal (hBetweenIdeal := hBetweenIdeal) (hBetweenRefIdeal := hBetweenRefIdeal)
    ∧ preserves_Start_StartIdeal
    ∧ algebraic_StartIdeal_StartRefIdeal (hStartIdeal := hStartIdeal) (hStartRefIdeal := hStartRefIdeal)
    ∧ preserves_Five_FiveIdeal
    ∧ algebraic_FiveIdeal_FiveRefIdeal (hFiveIdeal := hFiveIdeal) (hFiveRefIdeal := hFiveRefIdeal)
-- ==== Kernel.lean ====
abbrev S4x8192x256 : Shape := ⟨3, ![4, 8192, 256]⟩
abbrev S4x256 : Shape := ⟨2, ![4, 256]⟩
abbrev S4x256x256 : Shape := ⟨3, ![4, 256, 256]⟩
abbrev S1x256 : Shape := ⟨2, ![1, 256]⟩
abbrev S1x1x256 : Shape := ⟨3, ![1, 1, 256]⟩

abbrev nBuf : Space → Nat
  | .hbm => 5
  | .vmem => 9
  | .smem => 0
  | _ => 0

abbrev bufTy : (tb : Table) → Fin (tcTables nBuf tb) → BufTy
  | .hbm, ⟨0, _⟩ => ⟨S4x8192x256, .f32⟩
  | .hbm, ⟨1, _⟩ => ⟨S4x8192x256, .f32⟩
  | .hbm, ⟨2, _⟩ => ⟨S4x256, .f32⟩
  | .hbm, ⟨3, _⟩ => ⟨S4x8192x256, .f32⟩
  | .hbm, ⟨4, _⟩ => ⟨S4x256, .f32⟩
  | .local _ .vmem, ⟨0, _⟩ => ⟨S4x256x256, .f32⟩
  | .local _ .vmem, ⟨1, _⟩ => ⟨S4x256x256, .f32⟩
  | .local _ .vmem, ⟨2, _⟩ => ⟨S4x256x256, .f32⟩
  | .local _ .vmem, ⟨3, _⟩ => ⟨S4x256x256, .f32⟩
  | .local _ .vmem, ⟨4, _⟩ => ⟨S4x256, .f32⟩
  | .local _ .vmem, ⟨5, _⟩ => ⟨S4x256x256, .f32⟩
  | .local _ .vmem, ⟨6, _⟩ => ⟨S4x256x256, .f32⟩
  | .local _ .vmem, ⟨7, _⟩ => ⟨S4x256, .f32⟩
  | .local _ .vmem, ⟨8, _⟩ => ⟨S4x256, .f32⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_5 : BitVec 32 := 0#32
  let c256_i32 : BitVec 32 := 256#32
  let v7 : BitVec 32 := Scalar.addi c0_i32_5 c256_i32
  let c1_i32 : BitVec 32 := 1#32
  ⟨c0_i32_5, v7, c1_i32⟩
def k0_off1 (k0_t1 : Fin k0_t1_loop.trips) : Fin 3 → Nat :=
  let c0_23 : Index := 0#32
  let c0_i32_5 : BitVec 32 := 0#32
  let c1_i32 : BitVec 32 := 1#32
  let arg7 : BitVec 32 := Scf.iv c0_i32_5 c1_i32 k0_t1
  let v25 : Index := Scalar.indexCast arg7
  let c0_24 : Index := 0#32
  ![0, v25.toNat, 0]
def k0_off2 (k0_t1 : Fin k0_t1_loop.trips) : Fin 3 → Nat :=
  let c1_29 : Index := 1#32
  let c0_i32_5 : BitVec 32 := 0#32
  let c1_i32 : BitVec 32 := 1#32
  let arg7 : BitVec 32 := Scf.iv c0_i32_5 c1_i32 k0_t1
  let v37 : Index := Scalar.indexCast arg7
  let c0_30 : Index := 0#32
  ![1, v37.toNat, 0]
def k0_off3 (k0_t1 : Fin k0_t1_loop.trips) : Fin 3 → Nat :=
  let c2_35 : Index := 2#32
  let c0_i32_5 : BitVec 32 := 0#32
  let c1_i32 : BitVec 32 := 1#32
  let arg7 : BitVec 32 := Scf.iv c0_i32_5 c1_i32 k0_t1
  let v49 : Index := Scalar.indexCast arg7
  let c0_36 : Index := 0#32
  ![2, v49.toNat, 0]
def k0_off4 (k0_t1 : Fin k0_t1_loop.trips) : Fin 3 → Nat :=
  let c3_41 : Index := 3#32
  let c0_i32_5 : BitVec 32 := 0#32
  let c1_i32 : BitVec 32 := 1#32
  let arg7 : BitVec 32 := Scf.iv c0_i32_5 c1_i32 k0_t1
  let v61 : Index := Scalar.indexCast arg7
  let c0_42 : Index := 0#32
  ![3, v61.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x8192x256 : Shape := ⟨3, ![4, 8192, 256]⟩
abbrev S4x256 : Shape := ⟨2, ![4, 256]⟩
abbrev S8192x4x256 : Shape := ⟨3, ![8192, 4, 256]⟩
abbrev S_ : Shape := ⟨0, ![]⟩
abbrev S1x4x256 : Shape := ⟨3, ![1, 4, 256]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x256, .f32⟩
  | .hbm, ⟨1, _⟩ => ⟨S4x8192x256, .f32⟩
  | .hbm, ⟨2, _⟩ => ⟨S4x256, .f32⟩
  | .hbm, ⟨3, _⟩ => ⟨S8192x4x256, .f32⟩
  | .hbm, ⟨4, _⟩ => ⟨S8192x4x256, .f32⟩
  | .hbm, ⟨5, _⟩ => ⟨S_, .f32⟩
  | .hbm, ⟨6, _⟩ => ⟨S8192x4x256, .f32⟩
  | .hbm, ⟨7, _⟩ => ⟨S_, .i32⟩
  | .hbm, ⟨8, _⟩ => ⟨S8192x4x256, .f32⟩
  | .hbm, ⟨9, _⟩ => ⟨S8192x4x256, .f32⟩
  | .hbm, ⟨10, _⟩ => ⟨S_, .i32⟩
  | .hbm, ⟨11, _⟩ => ⟨S4x256, .f32⟩
  | .hbm, ⟨12, _⟩ => ⟨S8192x4x256, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1x4x256, .f32⟩
  | .hbm, ⟨18, _⟩ => ⟨S4x256, .f32⟩
  | .hbm, ⟨19, _⟩ => ⟨S_, .i32⟩
  | .hbm, ⟨20, _⟩ => ⟨S_, .i32⟩
  | .hbm, ⟨21, _⟩ => ⟨S1x4x256, .f32⟩
  | .hbm, ⟨22, _⟩ => ⟨S4x256, .f32⟩
  | .hbm, ⟨23, _⟩ => ⟨S4x256, .f32⟩
  | .hbm, ⟨24, _⟩ => ⟨S4x256, .f32⟩
  | .hbm, ⟨25, _⟩ => ⟨S1x4x256, .f32⟩
  | .hbm, ⟨26, _⟩ => ⟨S_, .i32⟩
  | .hbm, ⟨27, _⟩ => ⟨S_, .i32⟩
  | .hbm, ⟨28, _⟩ => ⟨S8192x4x256, .f32⟩
  | .hbm, ⟨29, _⟩ => ⟨S_, .i32⟩
  | .hbm, ⟨30, _⟩ => ⟨S_, .i32⟩
  | .hbm, ⟨31, _⟩ => ⟨S4x8192x256, .f32⟩
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_4 : Ref sig .tc := ⟨.hbm, 13, rfl⟩
abbrev main_while0c_v5 : Ref sig .tc := ⟨.hbm, 14, rfl⟩
abbrev main_while0b_call0_c : Ref sig .tc := ⟨.hbm, 15, rfl⟩
abbrev main_while0b_call0_c_0 : Ref sig .tc := ⟨.hbm, 16, rfl⟩
abbrev main_while0b_call0_v0 : Ref sig .tc := ⟨.hbm, 17, rfl⟩
abbrev main_while0b_v5 : Ref sig .tc := ⟨.hbm, 18, rfl⟩
abbrev main_while0b_call1_c : Ref sig .tc := ⟨.hbm, 19, rfl⟩
abbrev main_while0b_call1_c_0 : Ref sig .tc := ⟨.hbm, 20, rfl⟩
abbrev main_while0b_call1_v0 : Ref sig .tc := ⟨.hbm, 21, rfl⟩
abbrev main_while0b_v6 : Ref sig .tc := ⟨.hbm, 22, rfl⟩
abbrev main_while0b_v7 : Ref sig .tc := ⟨.hbm, 23, rfl⟩
abbrev main_while0b_v8 : Ref sig .tc := ⟨.hbm, 24, rfl⟩
abbrev main_while0b_call2_v0 : Ref sig .tc := ⟨.hbm, 25, rfl⟩
abbrev main_while0b_call2_c : Ref sig .tc := ⟨.hbm, 26, rfl⟩
abbrev main_while0b_call2_c_0 : Ref sig .tc := ⟨.hbm, 27, rfl⟩
abbrev main_while0b_v9 : Ref sig .tc := ⟨.hbm, 28, rfl⟩
abbrev main_while0b_c_4 : Ref sig .tc := ⟨.hbm, 29, rfl⟩
abbrev main_while0b_v10 : Ref sig .tc := ⟨.hbm, 30, rfl⟩
abbrev main_v4 : Ref sig .tc := ⟨.hbm, 31, rfl⟩

abbrev nD : Nat := 1
abbrev τ : Topo := Topo.v7x

variable {F : FTy → Type} [FloatOps F]

abbrev main_while0_count : Scf.Loop 32 := ⟨0#32, 8192#32, 1#32⟩
-- ==== Expert.lean ====
abbrev S32768x1024 : Shape := ⟨2, ![32768, 1024]⟩
abbrev S1024x7168 : Shape := ⟨2, ![1024, 7168]⟩
abbrev S3584x1024 : Shape := ⟨2, ![3584, 1024]⟩
abbrev S32768x7168 : Shape := ⟨2, ![32768, 7168]⟩
abbrev S512x1024 : Shape := ⟨2, ![512, 1024]⟩
abbrev S1024x1024 : Shape := ⟨2, ![1024, 1024]⟩
abbrev S32768x3584 : Shape := ⟨2, ![32768, 3584]⟩
abbrev S_ : Shape := ⟨0, ![]⟩
abbrev S256x3584 : Shape := ⟨2, ![256, 3584]⟩
abbrev S256x1024 : Shape := ⟨2, ![256, 1024]⟩

abbrev nBuf : Space → Nat
  | .hbm => 19
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x7168, .f32⟩
  | .hbm, ⟨2, _⟩ => ⟨S3584x1024, .f32⟩
  | .hbm, ⟨3, _⟩ => ⟨S1024x7168, .bf16⟩
  | .hbm, ⟨4, _⟩ => ⟨S32768x7168, .f32⟩
  | .hbm, ⟨5, _⟩ => ⟨S32768x3584, .f32⟩
  | .hbm, ⟨6, _⟩ => ⟨S32768x3584, .f32⟩
  | .hbm, ⟨7, _⟩ => ⟨S32768x3584, .f32⟩
  | .hbm, ⟨8, _⟩ => ⟨S32768x3584, .f32⟩
  | .hbm, ⟨9, _⟩ => ⟨S_, .f32⟩
  | .hbm, ⟨10, _⟩ => ⟨S32768x3584, .f32⟩
  | .hbm, ⟨11, _⟩ => ⟨S32768x3584, .f32⟩
  | .hbm, ⟨12, _⟩ => ⟨S_, .f32⟩
  | .hbm, ⟨13, _⟩ => ⟨S32768x3584, .f32⟩
  | .hbm, ⟨14, _⟩ => ⟨S32768x3584, .f32⟩
  | .hbm, ⟨15, _⟩ => ⟨S32768x3584, .f32⟩
  | .hbm, ⟨16, _⟩ => ⟨S32768x3584, .f32⟩
  | .hbm, ⟨17, _⟩ => ⟨S3584x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S256x3584, .f32⟩
  | .local _ .vmem, ⟨7, _⟩ => ⟨S256x3584, .f32⟩
  | .local _ .vmem, ⟨8, _⟩ => ⟨S3584x1024, .bf16⟩
  | .local _ .vmem, ⟨9, _⟩ => ⟨S256x1024, .f32⟩
  | .local _ .vmem, ⟨10, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![64, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![128, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x3584 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S3584x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ExpertRefIdeal.lean ====
abbrev S32768x1024 : Shape := ⟨2, ![32768, 1024]⟩
abbrev S1024x7168 : Shape := ⟨2, ![1024, 7168]⟩
abbrev S3584x1024 : Shape := ⟨2, ![3584, 1024]⟩
abbrev S32768x7168 : Shape := ⟨2, ![32768, 7168]⟩
abbrev S32768x3584 : Shape := ⟨2, ![32768, 3584]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x7168, .f32⟩
  | .hbm, ⟨2, _⟩ => ⟨S3584x1024, .f32⟩
  | .hbm, ⟨3, _⟩ => ⟨S32768x7168, .f32⟩
  | .hbm, ⟨4, _⟩ => ⟨S32768x3584, .f32⟩
  | .hbm, ⟨5, _⟩ => ⟨S32768x3584, .f32⟩
  | .hbm, ⟨6, _⟩ => ⟨S32768x3584, .f32⟩
  | .hbm, ⟨7, _⟩ => ⟨S32768x3584, .f32⟩
  | .hbm, ⟨8, _⟩ => ⟨S_, .f32⟩
  | .hbm, ⟨9, _⟩ => ⟨S32768x3584, .f32⟩
  | .hbm, ⟨10, _⟩ => ⟨S32768x3584, .f32⟩
  | .hbm, ⟨11, _⟩ => ⟨S_, .f32⟩
  | .hbm, ⟨12, _⟩ => ⟨S32768x3584, .f32⟩
  | .hbm, ⟨13, _⟩ => ⟨S32768x3584, .f32⟩
  | .hbm, ⟨14, _⟩ => ⟨S32768x3584, .f32⟩
  | .hbm, ⟨15, _⟩ => ⟨S32768x3584, .f32⟩
  | .hbm, ⟨16, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Moe.lean ====
abbrev S4x8192x1024 : Shape := ⟨3, ![4, 8192, 1024]⟩
abbrev S4x1024 : Shape := ⟨2, ![4, 1024]⟩
abbrev S1024x6144 : Shape := ⟨2, ![1024, 6144]⟩
abbrev S6144 : Shape := ⟨1, ![6144]⟩
abbrev S1024 : Shape := ⟨1, ![1024]⟩
abbrev S1024x8 : Shape := ⟨2, ![1024, 8]⟩
abbrev S8 : Shape := ⟨1, ![8]⟩
abbrev S8x1024x7168 : Shape := ⟨3, ![8, 1024, 7168]⟩
abbrev S8x3584x1024 : Shape := ⟨3, ![8, 3584, 1024]⟩
abbrev S_ : Shape := ⟨0, ![]⟩
abbrev S4x6144 : Shape := ⟨2, ![4, 6144]⟩
abbrev S1x6144 : Shape := ⟨2, ![1, 6144]⟩
abbrev S4x1x6144 : Shape := ⟨3, ![4, 1, 6144]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x8 : Shape := ⟨2, ![32768, 8]⟩
abbrev S1x8 : Shape := ⟨2, ![1, 8]⟩
abbrev S32768x2 : Shape := ⟨2, ![32768, 2]⟩
abbrev S32768 : Shape := ⟨1, ![32768]⟩
abbrev S32768x1 : Shape := ⟨2, ![32768, 1]⟩
abbrev S32768x2x1 : Shape := ⟨3, ![32768, 2, 1]⟩
abbrev S1x1x8 : Shape := ⟨3, ![1, 1, 8]⟩
abbrev S32768x2x8 : Shape := ⟨3, ![32768, 2, 8]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S32768x7168 : Shape := ⟨2, ![32768, 7168]⟩
abbrev S512x1024 : Shape := ⟨2, ![512, 1024]⟩
abbrev S1024x1024 : Shape := ⟨2, ![1024, 1024]⟩
abbrev S32768x3584 : Shape := ⟨2, ![32768, 3584]⟩
abbrev S256x3584 : Shape := ⟨2, ![256, 3584]⟩
abbrev S256x1024 : Shape := ⟨2, ![256, 1024]⟩

abbrev nBuf : Space → Nat
  | .hbm => 299
  | .vmem => 88
  | .smem => 0
  | _ => 0

abbrev hbmTy0_0 (i : Nat) : BufTy := match i % 128 with
  | 0 => ⟨S4x8192x1024, .f32⟩
  | 1 => ⟨S4x1024, .f32⟩
  | 2 => ⟨S1024x6144, .f32⟩
  | 3 => ⟨S6144, .f32⟩
  | 4 => ⟨S1024, .f32⟩
  | 5 => ⟨S1024x8, .f32⟩
  | 6 => ⟨S8, .f32⟩
  | 7 => ⟨S8x1024x7168, .f32⟩
  | 8 => ⟨S8x3584x1024, .f32⟩
  | 9 => ⟨S1024, .f32⟩
  | 10 => ⟨S4x1024, .f32⟩
  | 11 => ⟨S4x1024, .f32⟩
  | 12 => ⟨S_, .f32⟩
  | 13 => ⟨S4x1024, .f32⟩
  | 14 => ⟨S4x1024, .f32⟩
  | 15 => ⟨S_, .f32⟩
  | 16 => ⟨S4x1024, .f32⟩
  | 17 => ⟨S4x1024, .f32⟩
  | 18 => ⟨S4x1024, .f32⟩
  | 19 => ⟨S4x6144, .f32⟩
  | 20 => ⟨S1x6144, .f32⟩
  | 21 => ⟨S4x6144, .f32⟩
  | 22 => ⟨S4x6144, .f32⟩
  | 23 => ⟨S4x1x6144, .f32⟩
  | 24 => ⟨S4x1x1024, .f32⟩
  | 25 => ⟨S4x1x1024, .f32⟩
  | 26 => ⟨S4x1x1024, .f32⟩
  | 27 => ⟨S4x1x1024, .f32⟩
  | 28 => ⟨S4x1x1024, .f32⟩
  | 29 => ⟨S4x1x1024, .f32⟩
  | 30 => ⟨S4x8192x1024, .f32⟩
  | 31 => ⟨S_, .f32⟩
  | 32 => ⟨S4x8192, .f32⟩
  | 33 => ⟨S4x8192x1, .f32⟩
  | 34 => ⟨S_, .f32⟩
  | 35 => ⟨S4x8192x1, .f32⟩
  | 36 => ⟨S4x8192x1, .f32⟩
  | 37 => ⟨S_, .f32⟩
  | 38 => ⟨S4x8192x1, .f32⟩
  | 39 => ⟨S4x8192x1, .f32⟩
  | 40 => ⟨S4x8192x1, .f32⟩
  | 41 => ⟨S4x8192x1024, .f32⟩
  | 42 => ⟨S4x8192x1024, .f32⟩
  | 43 => ⟨S1x1x1024, .f32⟩
  | 44 => ⟨S4x8192x1024, .f32⟩
  | 45 => ⟨S4x8192x1024, .f32⟩
  | 46 => ⟨S_, .f32⟩
  | 47 => ⟨S4x1x1024, .f32⟩
  | 48 => ⟨S4x1x1024, .f32⟩
  | 49 => ⟨S4x8192x1024, .f32⟩
  | 50 => ⟨S4x8192x1024, .f32⟩
  | 51 => ⟨S4x8192x1024, .f32⟩
  | 52 => ⟨S4x8192x1024, .f32⟩
  | 53 => ⟨S32768x1024, .f32⟩
  | 54 => ⟨S32768x8, .f32⟩
  | 55 => ⟨S1x8, .f32⟩
  | 56 => ⟨S32768x8, .f32⟩
  | 57 => ⟨S32768x8, .f32⟩
  | 58 => ⟨S32768x2, .f32⟩
  | 59 => ⟨S32768x2, .i32⟩
  | 60 => ⟨S_, .f32⟩
  | 61 => ⟨S32768, .f32⟩
  | 62 => ⟨S_, .f32⟩
  | 63 => ⟨S32768, .f32⟩
  | 64 => ⟨S32768, .f32⟩
  | 65 => ⟨S32768x1, .f32⟩
  | 66 => ⟨S32768x2, .f32⟩
  | 67 => ⟨S32768x2, .f32⟩
  | 68 => ⟨S32768x2, .f32⟩
  | 69 => ⟨S_, .f32⟩
  | 70 => ⟨S32768, .f32⟩
  | 71 => ⟨S32768x1, .f32⟩
  | 72 => ⟨S32768x2, .f32⟩
  | 73 => ⟨S32768x2, .f32⟩
  | 74 => ⟨S32768x2x1, .i32⟩
  | 75 => ⟨S1x1x8, .i32⟩
  | 76 => ⟨S32768x2x8, .i32⟩
  | 77 => ⟨S32768x2x8, .i32⟩
  | 78 => ⟨S32768x2x8, .i1⟩
  | 79 => ⟨S32768x2x8, .f32⟩
  | 80 => ⟨S32768x2x1, .f32⟩
  | 81 => ⟨S32768x2x8, .f32⟩
  | 82 => ⟨S32768x2x8, .f32⟩
  | 83 => ⟨S_, .f32⟩
  | 84 => ⟨S32768x8, .f32⟩
  | 85 => ⟨S_, .f32⟩
  | 86 => ⟨S32768x1024, .f32⟩
  | 87 => ⟨S32768x1, .f32⟩
  | 88 => ⟨S1x1024x7168, .f32⟩
  | 89 => ⟨S1024x7168, .f32⟩
  | 90 => ⟨S1x3584x1024, .f32⟩
  | 91 => ⟨S3584x1024, .f32⟩
  | 92 => ⟨S1024x7168, .bf16⟩
  | 93 => ⟨S32768x7168, .f32⟩
  | 94 => ⟨S32768x3584, .f32⟩
  | 95 => ⟨S32768x3584, .f32⟩
  | 96 => ⟨S32768x3584, .f32⟩
  | 97 => ⟨S32768x3584, .f32⟩
  | 98 => ⟨S_, .f32⟩
  | 99 => ⟨S32768x3584, .f32⟩
  | 100 => ⟨S32768x3584, .f32⟩
  | 101 => ⟨S_, .f32⟩
  | 102 => ⟨S32768x3584, .f32⟩
  | 103 => ⟨S32768x3584, .f32⟩
  | 104 => ⟨S32768x3584, .f32⟩
  | 105 => ⟨S32768x3584, .f32⟩
  | 106 => ⟨S3584x1024, .bf16⟩
  | 107 => ⟨S32768x1024, .f32⟩
  | 108 => ⟨S32768x1024, .f32⟩
  | 109 => ⟨S32768x1024, .f32⟩
  | 110 => ⟨S32768x1024, .f32⟩
  | 111 => ⟨S32768x1, .f32⟩
  | 112 => ⟨S1x1024x7168, .f32⟩
  | 113 => ⟨S1024x7168, .f32⟩
  | 114 => ⟨S1x3584x1024, .f32⟩
  | 115 => ⟨S3584x1024, .f32⟩
  | 116 => ⟨S1024x7168, .bf16⟩
  | 117 => ⟨S32768x7168, .f32⟩
  | 118 => ⟨S32768x3584, .f32⟩
  | 119 => ⟨S32768x3584, .f32⟩
  | 120 => ⟨S32768x3584, .f32⟩
  | 121 => ⟨S32768x3584, .f32⟩
  | 122 => ⟨S_, .f32⟩
  | 123 => ⟨S32768x3584, .f32⟩
  | 124 => ⟨S32768x3584, .f32⟩
  | 125 => ⟨S_, .f32⟩
  | 126 => ⟨S32768x3584, .f32⟩
  | 127 => ⟨S32768x3584, .f32⟩
  | _ => ⟨S4x8192x1024, .f32⟩

abbrev hbmTy0_1 (i : Nat) : BufTy := match i % 128 with
  | 0 => ⟨S32768x3584, .f32⟩
  | 1 => ⟨S32768x3584, .f32⟩
  | 2 => ⟨S3584x1024, .bf16⟩
  | 3 => ⟨S32768x1024, .f32⟩
  | 4 => ⟨S32768x1024, .f32⟩
  | 5 => ⟨S32768x1024, .f32⟩
  | 6 => ⟨S32768x1024, .f32⟩
  | 7 => ⟨S32768x1, .f32⟩
  | 8 => ⟨S1x1024x7168, .f32⟩
  | 9 => ⟨S1024x7168, .f32⟩
  | 10 => ⟨S1x3584x1024, .f32⟩
  | 11 => ⟨S3584x1024, .f32⟩
  | 12 => ⟨S1024x7168, .bf16⟩
  | 13 => ⟨S32768x7168, .f32⟩
  | 14 => ⟨S32768x3584, .f32⟩
  | 15 => ⟨S32768x3584, .f32⟩
  | 16 => ⟨S32768x3584, .f32⟩
  | 17 => ⟨S32768x3584, .f32⟩
  | 18 => ⟨S_, .f32⟩
  | 19 => ⟨S32768x3584, .f32⟩
  | 20 => ⟨S32768x3584, .f32⟩
  | 21 => ⟨S_, .f32⟩
  | 22 => ⟨S32768x3584, .f32⟩
  | 23 => ⟨S32768x3584, .f32⟩
  | 24 => ⟨S32768x3584, .f32⟩
  | 25 => ⟨S32768x3584, .f32⟩
  | 26 => ⟨S3584x1024, .bf16⟩
  | 27 => ⟨S32768x1024, .f32⟩
  | 28 => ⟨S32768x1024, .f32⟩
  | 29 => ⟨S32768x1024, .f32⟩
  | 30 => ⟨S32768x1024, .f32⟩
  | 31 => ⟨S32768x1, .f32⟩
  | 32 => ⟨S1x1024x7168, .f32⟩
  | 33 => ⟨S1024x7168, .f32⟩
  | 34 => ⟨S1x3584x1024, .f32⟩
  | 35 => ⟨S3584x1024, .f32⟩
  | 36 => ⟨S1024x7168, .bf16⟩
  | 37 => ⟨S32768x7168, .f32⟩
  | 38 => ⟨S32768x3584, .f32⟩
  | 39 => ⟨S32768x3584, .f32⟩
  | 40 => ⟨S32768x3584, .f32⟩
  | 41 => ⟨S32768x3584, .f32⟩
  | 42 => ⟨S_, .f32⟩
  | 43 => ⟨S32768x3584, .f32⟩
  | 44 => ⟨S32768x3584, .f32⟩
  | 45 => ⟨S_, .f32⟩
  | 46 => ⟨S32768x3584, .f32⟩
  | 47 => ⟨S32768x3584, .f32⟩
  | 48 => ⟨S32768x3584, .f32⟩
  | 49 => ⟨S32768x3584, .f32⟩
  | 50 => ⟨S3584x1024, .bf16⟩
  | 51 => ⟨S32768x1024, .f32⟩
  | 52 => ⟨S32768x1024, .f32⟩
  | 53 => ⟨S32768x1024, .f32⟩
  | 54 => ⟨S32768x1024, .f32⟩
  | 55 => ⟨S32768x1, .f32⟩
  | 56 => ⟨S1x1024x7168, .f32⟩
  | 57 => ⟨S1024x7168, .f32⟩
  | 58 => ⟨S1x3584x1024, .f32⟩
  | 59 => ⟨S3584x1024, .f32⟩
  | 60 => ⟨S1024x7168, .bf16⟩
  | 61 => ⟨S32768x7168, .f32⟩
  | 62 => ⟨S32768x3584, .f32⟩
  | 63 => ⟨S32768x3584, .f32⟩
  | 64 => ⟨S32768x3584, .f32⟩
  | 65 => ⟨S32768x3584, .f32⟩
  | 66 => ⟨S_, .f32⟩
  | 67 => ⟨S32768x3584, .f32⟩
  | 68 => ⟨S32768x3584, .f32⟩
  | 69 => ⟨S_, .f32⟩
  | 70 => ⟨S32768x3584, .f32⟩
  | 71 => ⟨S32768x3584, .f32⟩
  | 72 => ⟨S32768x3584, .f32⟩
  | 73 => ⟨S32768x3584, .f32⟩
  | 74 => ⟨S3584x1024, .bf16⟩
  | 75 => ⟨S32768x1024, .f32⟩
  | 76 => ⟨S32768x1024, .f32⟩
  | 77 => ⟨S32768x1024, .f32⟩
  | 78 => ⟨S32768x1024, .f32⟩
  | 79 => ⟨S32768x1, .f32⟩
  | 80 => ⟨S1x1024x7168, .f32⟩
  | 81 => ⟨S1024x7168, .f32⟩
  | 82 => ⟨S1x3584x1024, .f32⟩
  | 83 => ⟨S3584x1024, .f32⟩
  | 84 => ⟨S1024x7168, .bf16⟩
  | 85 => ⟨S32768x7168, .f32⟩
  | 86 => ⟨S32768x3584, .f32⟩
  | 87 => ⟨S32768x3584, .f32⟩
  | 88 => ⟨S32768x3584, .f32⟩
  | 89 => ⟨S32768x3584, .f32⟩
  | 90 => ⟨S_, .f32⟩
  | 91 => ⟨S32768x3584, .f32⟩
  | 92 => ⟨S32768x3584, .f32⟩
  | 93 => ⟨S_, .f32⟩
  | 94 => ⟨S32768x3584, .f32⟩
  | 95 => ⟨S32768x3584, .f32⟩
  | 96 => ⟨S32768x3584, .f32⟩
  | 97 => ⟨S32768x3584, .f32⟩
  | 98 => ⟨S3584x1024, .bf16⟩
  | 99 => ⟨S32768x1024, .f32⟩
  | 100 => ⟨S32768x1024, .f32⟩
  | 101 => ⟨S32768x1024, .f32⟩
  | 102 => ⟨S32768x1024, .f32⟩
  | 103 => ⟨S32768x1, .f32⟩
  | 104 => ⟨S1x1024x7168, .f32⟩
  | 105 => ⟨S1024x7168, .f32⟩
  | 106 => ⟨S1x3584x1024, .f32⟩
  | 107 => ⟨S3584x1024, .f32⟩
  | 108 => ⟨S1024x7168, .bf16⟩
  | 109 => ⟨S32768x7168, .f32⟩
  | 110 => ⟨S32768x3584, .f32⟩
  | 111 => ⟨S32768x3584, .f32⟩
  | 112 => ⟨S32768x3584, .f32⟩
  | 113 => ⟨S32768x3584, .f32⟩
  | 114 => ⟨S_, .f32⟩
  | 115 => ⟨S32768x3584, .f32⟩
  | 116 => ⟨S32768x3584, .f32⟩
  | 117 => ⟨S_, .f32⟩
  | 118 => ⟨S32768x3584, .f32⟩
  | 119 => ⟨S32768x3584, .f32⟩
  | 120 => ⟨S32768x3584, .f32⟩
  | 121 => ⟨S32768x3584, .f32⟩
  | 122 => ⟨S3584x1024, .bf16⟩
  | 123 => ⟨S32768x1024, .f32⟩
  | 124 => ⟨S32768x1024, .f32⟩
  | 125 => ⟨S32768x1024, .f32⟩
  | 126 => ⟨S32768x1024, .f32⟩
  | 127 => ⟨S32768x1, .f32⟩
  | _ => ⟨S4x8192x1024, .f32⟩

abbrev hbmTy0_2 (i : Nat) : BufTy := match i % 128 with
  | 0 => ⟨S1x1024x7168, .f32⟩
  | 1 => ⟨S1024x7168, .f32⟩
  | 2 => ⟨S1x3584x1024, .f32⟩
  | 3 => ⟨S3584x1024, .f32⟩
  | 4 => ⟨S1024x7168, .bf16⟩
  | 5 => ⟨S32768x7168, .f32⟩
  | 6 => ⟨S32768x3584, .f32⟩
  | 7 => ⟨S32768x3584, .f32⟩
  | 8 => ⟨S32768x3584, .f32⟩
  | 9 => ⟨S32768x3584, .f32⟩
  | 10 => ⟨S_, .f32⟩
  | 11 => ⟨S32768x3584, .f32⟩
  | 12 => ⟨S32768x3584, .f32⟩
  | 13 => ⟨S_, .f32⟩
  | 14 => ⟨S32768x3584, .f32⟩
  | 15 => ⟨S32768x3584, .f32⟩
  | 16 => ⟨S32768x3584, .f32⟩
  | 17 => ⟨S32768x3584, .f32⟩
  | 18 => ⟨S3584x1024, .bf16⟩
  | 19 => ⟨S32768x1024, .f32⟩
  | 20 => ⟨S32768x1024, .f32⟩
  | 21 => ⟨S32768x1024, .f32⟩
  | 22 => ⟨S32768x1024, .f32⟩
  | 23 => ⟨S4x8192x1024, .f32⟩
  | 24 => ⟨S4x8192x1024, .f32⟩
  | 25 => ⟨S4x8192x1024, .f32⟩
  | 26 => ⟨S4x8192x1024, .f32⟩
  | 27 => ⟨S4x8192x1024, .f32⟩
  | 28 => ⟨S_, .f32⟩
  | 29 => ⟨S4x8192, .f32⟩
  | 30 => ⟨S4x8192x1, .f32⟩
  | 31 => ⟨S_, .f32⟩
  | 32 => ⟨S4x8192x1, .f32⟩
  | 33 => ⟨S4x8192x1, .f32⟩
  | 34 => ⟨S_, .f32⟩
  | 35 => ⟨S4x8192x1, .f32⟩
  | 36 => ⟨S4x8192x1, .f32⟩
  | 37 => ⟨S4x8192x1, .f32⟩
  | 38 => ⟨S4x8192x1024, .f32⟩
  | 39 => ⟨S4x8192x1024, .f32⟩
  | 40 => ⟨S1x1x1024, .f32⟩
  | 41 => ⟨S4x8192x1024, .f32⟩
  | 42 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S256x3584, .f32⟩
  | .local _ .vmem, ⟨7, _⟩ => ⟨S256x3584, .f32⟩
  | .local _ .vmem, ⟨8, _⟩ => ⟨S3584x1024, .bf16⟩
  | .local _ .vmem, ⟨9, _⟩ => ⟨S256x1024, .f32⟩
  | .local _ .vmem, ⟨10, _⟩ => ⟨S256x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S256x3584, .f32⟩
  | .local _ .vmem, ⟨18, _⟩ => ⟨S256x3584, .f32⟩
  | .local _ .vmem, ⟨19, _⟩ => ⟨S3584x1024, .bf16⟩
  | .local _ .vmem, ⟨20, _⟩ => ⟨S256x1024, .f32⟩
  | .local _ .vmem, ⟨21, _⟩ => ⟨S256x1024, .f32⟩
  | .local _ .vmem, ⟨22, _⟩ => ⟨S512x1024, .f32⟩
  | .local _ .vmem, ⟨23, _⟩ => ⟨S512x1024, .f32⟩
  | .local _ .vmem, ⟨24, _⟩ => ⟨S1024x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | .local _ .vmem, ⟨28, _⟩ => ⟨S256x3584, .f32⟩
  | .local _ .vmem, ⟨29, _⟩ => ⟨S256x3584, .f32⟩
  | .local _ .vmem, ⟨30, _⟩ => ⟨S3584x1024, .bf16⟩
  | .local _ .vmem, ⟨31, _⟩ => ⟨S256x1024, .f32⟩
  | .local _ .vmem, ⟨32, _⟩ => ⟨S256x1024, .f32⟩
  | .local _ .vmem, ⟨33, _⟩ => ⟨S512x1024, .f32⟩
  | .local _ .vmem, ⟨34, _⟩ => ⟨S512x1024, .f32⟩
  | .local _ .vmem, ⟨35, _⟩ => ⟨S1024x1024, .bf16⟩
  | .local _ .vmem, ⟨36, _⟩ => ⟨S1024x1024, .bf16⟩
  | .local _ .vmem, ⟨37, _⟩ => ⟨S512x1024, .f32⟩
  | .local _ .vmem, ⟨38, _⟩ => ⟨S512x1024, .f32⟩
  | .local _ .vmem, ⟨39, _⟩ => ⟨S256x3584, .f32⟩
  | .local _ .vmem, ⟨40, _⟩ => ⟨S256x3584, .f32⟩
  | .local _ .vmem, ⟨41, _⟩ => ⟨S3584x1024, .bf16⟩
  | .local _ .vmem, ⟨42, _⟩ => ⟨S256x1024, .f32⟩
  | .local _ .vmem, ⟨43, _⟩ => ⟨S256x1024, .f32⟩
  | .local _ .vmem, ⟨44, _⟩ => ⟨S512x1024, .f32⟩
  | .local _ .vmem, ⟨45, _⟩ => ⟨S512x1024, .f32⟩
  | .local _ .vmem, ⟨46, _⟩ => ⟨S1024x1024, .bf16⟩
  | .local _ .vmem, ⟨47, _⟩ => ⟨S1024x1024, .bf16⟩
  | .local _ .vmem, ⟨48, _⟩ => ⟨S512x1024, .f32⟩
  | .local _ .vmem, ⟨49, _⟩ => ⟨S512x1024, .f32⟩
  | .local _ .vmem, ⟨50, _⟩ => ⟨S256x3584, .f32⟩
  | .local _ .vmem, ⟨51, _⟩ => ⟨S256x3584, .f32⟩
  | .local _ .vmem, ⟨52, _⟩ => ⟨S3584x1024, .bf16⟩
  | .local _ .vmem, ⟨53, _⟩ => ⟨S256x1024, .f32⟩
  | .local _ .vmem, ⟨54, _⟩ => ⟨S256x1024, .f32⟩
  | .local _ .vmem, ⟨55, _⟩ => ⟨S512x1024, .f32⟩
  | .local _ .vmem, ⟨56, _⟩ => ⟨S512x1024, .f32⟩
  | .local _ .vmem, ⟨57, _⟩ => ⟨S1024x1024, .bf16⟩
  | .local _ .vmem, ⟨58, _⟩ => ⟨S1024x1024, .bf16⟩
  | .local _ .vmem, ⟨59, _⟩ => ⟨S512x1024, .f32⟩
  | .local _ .vmem, ⟨60, _⟩ => ⟨S512x1024, .f32⟩
  | .local _ .vmem, ⟨61, _⟩ => ⟨S256x3584, .f32⟩
  | .local _ .vmem, ⟨62, _⟩ => ⟨S256x3584, .f32⟩
  | .local _ .vmem, ⟨63, _⟩ => ⟨S3584x1024, .bf16⟩
  | .local _ .vmem, ⟨64, _⟩ => ⟨S256x1024, .f32⟩
  | .local _ .vmem, ⟨65, _⟩ => ⟨S256x1024, .f32⟩
  | .local _ .vmem, ⟨66, _⟩ => ⟨S512x1024, .f32⟩
  | .local _ .vmem, ⟨67, _⟩ => ⟨S512x1024, .f32⟩
  | .local _ .vmem, ⟨68, _⟩ => ⟨S1024x1024, .bf16⟩
  | .local _ .vmem, ⟨69, _⟩ => ⟨S1024x1024, .bf16⟩
  | .local _ .vmem, ⟨70, _⟩ => ⟨S512x1024, .f32⟩
  | .local _ .vmem, ⟨71, _⟩ => ⟨S512x1024, .f32⟩
  | .local _ .vmem, ⟨72, _⟩ => ⟨S256x3584, .f32⟩
  | .local _ .vmem, ⟨73, _⟩ => ⟨S256x3584, .f32⟩
  | .local _ .vmem, ⟨74, _⟩ => ⟨S3584x1024, .bf16⟩
  | .local _ .vmem, ⟨75, _⟩ => ⟨S256x1024, .f32⟩
  | .local _ .vmem, ⟨76, _⟩ => ⟨S256x1024, .f32⟩
  | .local _ .vmem, ⟨77, _⟩ => ⟨S512x1024, .f32⟩
  | .local _ .vmem, ⟨78, _⟩ => ⟨S512x1024, .f32⟩
  | .local _ .vmem, ⟨79, _⟩ => ⟨S1024x1024, .bf16⟩
  | .local _ .vmem, ⟨80, _⟩ => ⟨S1024x1024, .bf16⟩
  | .local _ .vmem, ⟨81, _⟩ => ⟨S512x1024, .f32⟩
  | .local _ .vmem, ⟨82, _⟩ => ⟨S512x1024, .f32⟩
  | .local _ .vmem, ⟨83, _⟩ => ⟨S256x3584, .f32⟩
  | .local _ .vmem, ⟨84, _⟩ => ⟨S256x3584, .f32⟩
  | .local _ .vmem, ⟨85, _⟩ => ⟨S3584x1024, .bf16⟩
  | .local _ .vmem, ⟨86, _⟩ => ⟨S256x1024, .f32⟩
  | .local _ .vmem, ⟨87, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_values : Ref sig .tc := ⟨.hbm, 58, rfl⟩
abbrev main_indices : Ref sig .tc := ⟨.hbm, 59, rfl⟩
abbrev main_cst_3 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_call3_v0 : Ref sig .tc := ⟨.hbm, 120, rfl⟩
abbrev main_call3_v1 : Ref sig .tc := ⟨.hbm, 121, rfl⟩
abbrev main_call3_cst : Ref sig .tc := ⟨.hbm, 122, rfl⟩
abbrev main_call3_v2 : Ref sig .tc := ⟨.hbm, 123, rfl⟩
abbrev main_call3_v3 : Ref sig .tc := ⟨.hbm, 124, rfl⟩
abbrev main_call3_cst_0 : Ref sig .tc := ⟨.hbm, 125, rfl⟩
abbrev main_call3_v4 : Ref sig .tc := ⟨.hbm, 126, rfl⟩
abbrev main_call3_v5 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_call4_v0 : Ref sig .tc := ⟨.hbm, 144, rfl⟩
abbrev main_call4_v1 : Ref sig .tc := ⟨.hbm, 145, rfl⟩
abbrev main_call4_cst : Ref sig .tc := ⟨.hbm, 146, rfl⟩
abbrev main_call4_v2 : Ref sig .tc := ⟨.hbm, 147, rfl⟩
abbrev main_call4_v3 : Ref sig .tc := ⟨.hbm, 148, rfl⟩
abbrev main_call4_cst_0 : Ref sig .tc := ⟨.hbm, 149, rfl⟩
abbrev main_call4_v4 : Ref sig .tc := ⟨.hbm, 150, rfl⟩
abbrev main_call4_v5 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_call5_v0 : Ref sig .tc := ⟨.hbm, 168, rfl⟩
abbrev main_call5_v1 : Ref sig .tc := ⟨.hbm, 169, rfl⟩
abbrev main_call5_cst : Ref sig .tc := ⟨.hbm, 170, rfl⟩
abbrev main_call5_v2 : Ref sig .tc := ⟨.hbm, 171, rfl⟩
abbrev main_call5_v3 : Ref sig .tc := ⟨.hbm, 172, rfl⟩
abbrev main_call5_cst_0 : Ref sig .tc := ⟨.hbm, 173, rfl⟩
abbrev main_call5_v4 : Ref sig .tc := ⟨.hbm, 174, rfl⟩
abbrev main_call5_v5 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_call6_v0 : Ref sig .tc := ⟨.hbm, 192, rfl⟩
abbrev main_call6_v1 : Ref sig .tc := ⟨.hbm, 193, rfl⟩
abbrev main_call6_cst : Ref sig .tc := ⟨.hbm, 194, rfl⟩
abbrev main_call6_v2 : Ref sig .tc := ⟨.hbm, 195, rfl⟩
abbrev main_call6_v3 : Ref sig .tc := ⟨.hbm, 196, rfl⟩
abbrev main_call6_cst_0 : Ref sig .tc := ⟨.hbm, 197, rfl⟩
abbrev main_call6_v4 : Ref sig .tc := ⟨.hbm, 198, rfl⟩
abbrev main_call6_v5 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_call7_v0 : Ref sig .tc := ⟨.hbm, 216, rfl⟩
abbrev main_call7_v1 : Ref sig .tc := ⟨.hbm, 217, rfl⟩
abbrev main_call7_cst : Ref sig .tc := ⟨.hbm, 218, rfl⟩
abbrev main_call7_v2 : Ref sig .tc := ⟨.hbm, 219, rfl⟩
abbrev main_call7_v3 : Ref sig .tc := ⟨.hbm, 220, rfl⟩
abbrev main_call7_cst_0 : Ref sig .tc := ⟨.hbm, 221, rfl⟩
abbrev main_call7_v4 : Ref sig .tc := ⟨.hbm, 222, rfl⟩
abbrev main_call7_v5 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_call8_v0 : Ref sig .tc := ⟨.hbm, 240, rfl⟩
abbrev main_call8_v1 : Ref sig .tc := ⟨.hbm, 241, rfl⟩
abbrev main_call8_cst : Ref sig .tc := ⟨.hbm, 242, rfl⟩
abbrev main_call8_v2 : Ref sig .tc := ⟨.hbm, 243, rfl⟩
abbrev main_call8_v3 : Ref sig .tc := ⟨.hbm, 244, rfl⟩
abbrev main_call8_cst_0 : Ref sig .tc := ⟨.hbm, 245, rfl⟩
abbrev main_call8_v4 : Ref sig .tc := ⟨.hbm, 246, rfl⟩
abbrev main_call8_v5 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_call9_v0 : Ref sig .tc := ⟨.hbm, 264, rfl⟩
abbrev main_call9_v1 : Ref sig .tc := ⟨.hbm, 265, rfl⟩
abbrev main_call9_cst : Ref sig .tc := ⟨.hbm, 266, rfl⟩
abbrev main_call9_v2 : Ref sig .tc := ⟨.hbm, 267, rfl⟩
abbrev main_call9_v3 : Ref sig .tc := ⟨.hbm, 268, rfl⟩
abbrev main_call9_cst_0 : Ref sig .tc := ⟨.hbm, 269, rfl⟩
abbrev main_call9_v4 : Ref sig .tc := ⟨.hbm, 270, rfl⟩
abbrev main_call9_v5 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_cst_8 : Ref sig .tc := ⟨.hbm, 284, rfl⟩
abbrev main_v186 : Ref sig .tc := ⟨.hbm, 285, rfl⟩
abbrev main_v187 : Ref sig .tc := ⟨.hbm, 286, rfl⟩
abbrev main_cst_9 : Ref sig .tc := ⟨.hbm, 287, rfl⟩
abbrev main_v188 : Ref sig .tc := ⟨.hbm, 288, rfl⟩
abbrev main_v189 : Ref sig .tc := ⟨.hbm, 289, rfl⟩
abbrev main_cst_10 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg2_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg2_1 : Ref sig .tc := ⟨.vmem, 54, rfl⟩
abbrev cc10_stg0_0 : Ref sig .tc := ⟨.vmem, 55, rfl⟩
abbrev cc10_stg0_1 : Ref sig .tc := ⟨.vmem, 56, rfl⟩
abbrev cc10_stg1_0 : Ref sig .tc := ⟨.vmem, 57, rfl⟩
abbrev cc10_stg1_1 : Ref sig .tc := ⟨.vmem, 58, rfl⟩
abbrev cc10_stg2_0 : Ref sig .tc := ⟨.vmem, 59, rfl⟩
abbrev cc10_stg2_1 : Ref sig .tc := ⟨.vmem, 60, rfl⟩
abbrev cc11_stg0_0 : Ref sig .tc := ⟨.vmem, 61, rfl⟩
abbrev cc11_stg0_1 : Ref sig .tc := ⟨.vmem, 62, rfl⟩
abbrev cc11_stg1_0 : Ref sig .tc := ⟨.vmem, 63, rfl⟩
abbrev cc11_stg2_0 : Ref sig .tc := ⟨.vmem, 64, rfl⟩
abbrev cc11_stg2_1 : Ref sig .tc := ⟨.vmem, 65, rfl⟩
abbrev cc12_stg0_0 : Ref sig .tc := ⟨.vmem, 66, rfl⟩
abbrev cc12_stg0_1 : Ref sig .tc := ⟨.vmem, 67, rfl⟩
abbrev cc12_stg1_0 : Ref sig .tc := ⟨.vmem, 68, rfl⟩
abbrev cc12_stg1_1 : Ref sig .tc := ⟨.vmem, 69, rfl⟩
abbrev cc12_stg2_0 : Ref sig .tc := ⟨.vmem, 70, rfl⟩
abbrev cc12_stg2_1 : Ref sig .tc := ⟨.vmem, 71, rfl⟩
abbrev cc13_stg0_0 : Ref sig .tc := ⟨.vmem, 72, rfl⟩
abbrev cc13_stg0_1 : Ref sig .tc := ⟨.vmem, 73, rfl⟩
abbrev cc13_stg1_0 : Ref sig .tc := ⟨.vmem, 74, rfl⟩
abbrev cc13_stg2_0 : Ref sig .tc := ⟨.vmem, 75, rfl⟩
abbrev cc13_stg2_1 : Ref sig .tc := ⟨.vmem, 76, rfl⟩
abbrev cc14_stg0_0 : Ref sig .tc := ⟨.vmem, 77, rfl⟩
abbrev cc14_stg0_1 : Ref sig .tc := ⟨.vmem, 78, rfl⟩
abbrev cc14_stg1_0 : Ref sig .tc := ⟨.vmem, 79, rfl⟩
abbrev cc14_stg1_1 : Ref sig .tc := ⟨.vmem, 80, rfl⟩
abbrev cc14_stg2_0 : Ref sig .tc := ⟨.vmem, 81, rfl⟩
abbrev cc14_stg2_1 : Ref sig .tc := ⟨.vmem, 82, rfl⟩
abbrev cc15_stg0_0 : Ref sig .tc := ⟨.vmem, 83, rfl⟩
abbrev cc15_stg0_1 : Ref sig .tc := ⟨.vmem, 84, rfl⟩
abbrev cc15_stg1_0 : Ref sig .tc := ⟨.vmem, 85, rfl⟩
abbrev cc15_stg2_0 : Ref sig .tc := ⟨.vmem, 86, rfl⟩
abbrev cc15_stg2_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem2_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem2_1 : DmaSem sig := 54
abbrev cc10_sem0_0 : DmaSem sig := 55
abbrev cc10_sem0_1 : DmaSem sig := 56
abbrev cc10_sem1_0 : DmaSem sig := 57
abbrev cc10_sem1_1 : DmaSem sig := 58
abbrev cc10_sem2_0 : DmaSem sig := 59
abbrev cc10_sem2_1 : DmaSem sig := 60
abbrev cc11_sem0_0 : DmaSem sig := 61
abbrev cc11_sem0_1 : DmaSem sig := 62
abbrev cc11_sem1_0 : DmaSem sig := 63
abbrev cc11_sem2_0 : DmaSem sig := 64
abbrev cc11_sem2_1 : DmaSem sig := 65
abbrev cc12_sem0_0 : DmaSem sig := 66
abbrev cc12_sem0_1 : DmaSem sig := 67
abbrev cc12_sem1_0 : DmaSem sig := 68
abbrev cc12_sem1_1 : DmaSem sig := 69
abbrev cc12_sem2_0 : DmaSem sig := 70
abbrev cc12_sem2_1 : DmaSem sig := 71
abbrev cc13_sem0_0 : DmaSem sig := 72
abbrev cc13_sem0_1 : DmaSem sig := 73
abbrev cc13_sem1_0 : DmaSem sig := 74
abbrev cc13_sem2_0 : DmaSem sig := 75
abbrev cc13_sem2_1 : DmaSem sig := 76
abbrev cc14_sem0_0 : DmaSem sig := 77
abbrev cc14_sem0_1 : DmaSem sig := 78
abbrev cc14_sem1_0 : DmaSem sig := 79
abbrev cc14_sem1_1 : DmaSem sig := 80
abbrev cc14_sem2_0 : DmaSem sig := 81
abbrev cc14_sem2_1 : DmaSem sig := 82
abbrev cc15_sem0_0 : DmaSem sig := 83
abbrev cc15_sem0_1 : DmaSem sig := 84
abbrev cc15_sem1_0 : DmaSem sig := 85
abbrev cc15_sem2_0 : DmaSem sig := 86
abbrev cc15_sem2_1 : DmaSem sig := 87

abbrev nD : Nat := 1
abbrev τ : Topo := Topo.v7x

variable {F : FTy → Type} [FloatOps F]

abbrev grid0 : Pipeline.Grid := ⟨2, ![64, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![128, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x3584 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S3584x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![64, 7], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![128, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x3584 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S3584x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![64, 7], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![128, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S256x3584 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S3584x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![64, 7], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![128, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S256x3584 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S3584x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![64, 7], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1024x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![128, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S256x3584 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 1 → Memref sig .tc .vmem S3584x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 2 → Memref sig .tc .vmem S256x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![64, 7], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S512x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1024x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![128, 1], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S256x3584 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 1 → Memref sig .tc .vmem S3584x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true]

abbrev stage11_2 : Fin 2 → Memref sig .tc .vmem S256x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨2, ![64, 7], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 2 → Memref sig .tc .vmem S512x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false]

abbrev stage12_1 : Fin 2 → Memref sig .tc .vmem S1024x1024 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S512x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev grid13 : Pipeline.Grid := ⟨2, ![128, 1], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage13_0 : Fin 2 → Memref sig .tc .vmem S256x3584 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false]

abbrev stage13_1 : Fin 1 → Memref sig .tc .vmem S3584x1024 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, true]

abbrev stage13_2 : Fin 2 → Memref sig .tc .vmem S256x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true]

abbrev grid14 : Pipeline.Grid := ⟨2, ![64, 7], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage14_0 : Fin 2 → Memref sig .tc .vmem S512x1024 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false]

abbrev stage14_1 : Fin 2 → Memref sig .tc .vmem S1024x1024 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S512x1024 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true]

abbrev grid15 : Pipeline.Grid := ⟨2, ![128, 1], ![false, false]⟩

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage15_0 : Fin 2 → Memref sig .tc .vmem S256x3584 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false]

abbrev stage15_1 : Fin 1 → Memref sig .tc .vmem S3584x1024 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false, true]

abbrev stage15_2 : Fin 2 → Memref sig .tc .vmem S256x1024 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true]
-- ==== MoeRefIdeal.lean ====
abbrev S4x8192x1024 : Shape := ⟨3, ![4, 8192, 1024]⟩
abbrev S4x1024 : Shape := ⟨2, ![4, 1024]⟩
abbrev S1024x6144 : Shape := ⟨2, ![1024, 6144]⟩
abbrev S6144 : Shape := ⟨1, ![6144]⟩
abbrev S1024 : Shape := ⟨1, ![1024]⟩
abbrev S1024x8 : Shape := ⟨2, ![1024, 8]⟩
abbrev S8 : Shape := ⟨1, ![8]⟩
abbrev S8x1024x7168 : Shape := ⟨3, ![8, 1024, 7168]⟩
abbrev S8x3584x1024 : Shape := ⟨3, ![8, 3584, 1024]⟩
abbrev S_ : Shape := ⟨0, ![]⟩
abbrev S4x6144 : Shape := ⟨2, ![4, 6144]⟩
abbrev S1x6144 : Shape := ⟨2, ![1, 6144]⟩
abbrev S4x1x6144 : Shape := ⟨3, ![4, 1, 6144]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x8 : Shape := ⟨2, ![32768, 8]⟩
abbrev S1x8 : Shape := ⟨2, ![1, 8]⟩
abbrev S32768x2 : Shape := ⟨2, ![32768, 2]⟩
abbrev S32768 : Shape := ⟨1, ![32768]⟩
abbrev S32768x1 : Shape := ⟨2, ![32768, 1]⟩
abbrev S32768x2x1 : Shape := ⟨3, ![32768, 2, 1]⟩
abbrev S1x1x8 : Shape := ⟨3, ![1, 1, 8]⟩
abbrev S32768x2x8 : Shape := ⟨3, ![32768, 2, 8]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S32768x7168 : Shape := ⟨2, ![32768, 7168]⟩
abbrev S32768x3584 : Shape := ⟨2, ![32768, 3584]⟩

abbrev nBuf : Space → Nat
  | .hbm => 283
  | .vmem => 0
  | .smem => 0
  | _ => 0

abbrev hbmTy0_0 (i : Nat) : BufTy := match i % 128 with
  | 0 => ⟨S4x8192x1024, .f32⟩
  | 1 => ⟨S4x1024, .f32⟩
  | 2 => ⟨S1024x6144, .f32⟩
  | 3 => ⟨S6144, .f32⟩
  | 4 => ⟨S1024, .f32⟩
  | 5 => ⟨S1024x8, .f32⟩
  | 6 => ⟨S8, .f32⟩
  | 7 => ⟨S8x1024x7168, .f32⟩
  | 8 => ⟨S8x3584x1024, .f32⟩
  | 9 => ⟨S1024, .f32⟩
  | 10 => ⟨S4x1024, .f32⟩
  | 11 => ⟨S4x1024, .f32⟩
  | 12 => ⟨S_, .f32⟩
  | 13 => ⟨S4x1024, .f32⟩
  | 14 => ⟨S4x1024, .f32⟩
  | 15 => ⟨S_, .f32⟩
  | 16 => ⟨S4x1024, .f32⟩
  | 17 => ⟨S4x1024, .f32⟩
  | 18 => ⟨S4x1024, .f32⟩
  | 19 => ⟨S4x6144, .f32⟩
  | 20 => ⟨S1x6144, .f32⟩
  | 21 => ⟨S4x6144, .f32⟩
  | 22 => ⟨S4x6144, .f32⟩
  | 23 => ⟨S4x1x6144, .f32⟩
  | 24 => ⟨S4x1x1024, .f32⟩
  | 25 => ⟨S4x1x1024, .f32⟩
  | 26 => ⟨S4x1x1024, .f32⟩
  | 27 => ⟨S4x1x1024, .f32⟩
  | 28 => ⟨S4x1x1024, .f32⟩
  | 29 => ⟨S4x1x1024, .f32⟩
  | 30 => ⟨S4x8192x1024, .f32⟩
  | 31 => ⟨S_, .f32⟩
  | 32 => ⟨S4x8192, .f32⟩
  | 33 => ⟨S4x8192x1, .f32⟩
  | 34 => ⟨S_, .f32⟩
  | 35 => ⟨S4x8192x1, .f32⟩
  | 36 => ⟨S4x8192x1, .f32⟩
  | 37 => ⟨S_, .f32⟩
  | 38 => ⟨S4x8192x1, .f32⟩
  | 39 => ⟨S4x8192x1, .f32⟩
  | 40 => ⟨S4x8192x1, .f32⟩
  | 41 => ⟨S4x8192x1024, .f32⟩
  | 42 => ⟨S4x8192x1024, .f32⟩
  | 43 => ⟨S1x1x1024, .f32⟩
  | 44 => ⟨S4x8192x1024, .f32⟩
  | 45 => ⟨S4x8192x1024, .f32⟩
  | 46 => ⟨S_, .f32⟩
  | 47 => ⟨S4x1x1024, .f32⟩
  | 48 => ⟨S4x1x1024, .f32⟩
  | 49 => ⟨S4x8192x1024, .f32⟩
  | 50 => ⟨S4x8192x1024, .f32⟩
  | 51 => ⟨S4x8192x1024, .f32⟩
  | 52 => ⟨S4x8192x1024, .f32⟩
  | 53 => ⟨S32768x1024, .f32⟩
  | 54 => ⟨S32768x8, .f32⟩
  | 55 => ⟨S1x8, .f32⟩
  | 56 => ⟨S32768x8, .f32⟩
  | 57 => ⟨S32768x8, .f32⟩
  | 58 => ⟨S32768x2, .f32⟩
  | 59 => ⟨S32768x2, .i32⟩
  | 60 => ⟨S_, .f32⟩
  | 61 => ⟨S32768, .f32⟩
  | 62 => ⟨S_, .f32⟩
  | 63 => ⟨S32768, .f32⟩
  | 64 => ⟨S32768, .f32⟩
  | 65 => ⟨S32768x1, .f32⟩
  | 66 => ⟨S32768x2, .f32⟩
  | 67 => ⟨S32768x2, .f32⟩
  | 68 => ⟨S32768x2, .f32⟩
  | 69 => ⟨S_, .f32⟩
  | 70 => ⟨S32768, .f32⟩
  | 71 => ⟨S32768x1, .f32⟩
  | 72 => ⟨S32768x2, .f32⟩
  | 73 => ⟨S32768x2, .f32⟩
  | 74 => ⟨S32768x2x1, .i32⟩
  | 75 => ⟨S1x1x8, .i32⟩
  | 76 => ⟨S32768x2x8, .i32⟩
  | 77 => ⟨S32768x2x8, .i32⟩
  | 78 => ⟨S32768x2x8, .i1⟩
  | 79 => ⟨S32768x2x8, .f32⟩
  | 80 => ⟨S32768x2x1, .f32⟩
  | 81 => ⟨S32768x2x8, .f32⟩
  | 82 => ⟨S32768x2x8, .f32⟩
  | 83 => ⟨S_, .f32⟩
  | 84 => ⟨S32768x8, .f32⟩
  | 85 => ⟨S_, .f32⟩
  | 86 => ⟨S32768x1024, .f32⟩
  | 87 => ⟨S32768x1, .f32⟩
  | 88 => ⟨S1x1024x7168, .f32⟩
  | 89 => ⟨S1024x7168, .f32⟩
  | 90 => ⟨S1x3584x1024, .f32⟩
  | 91 => ⟨S3584x1024, .f32⟩
  | 92 => ⟨S32768x7168, .f32⟩
  | 93 => ⟨S32768x3584, .f32⟩
  | 94 => ⟨S32768x3584, .f32⟩
  | 95 => ⟨S32768x3584, .f32⟩
  | 96 => ⟨S32768x3584, .f32⟩
  | 97 => ⟨S_, .f32⟩
  | 98 => ⟨S32768x3584, .f32⟩
  | 99 => ⟨S32768x3584, .f32⟩
  | 100 => ⟨S_, .f32⟩
  | 101 => ⟨S32768x3584, .f32⟩
  | 102 => ⟨S32768x3584, .f32⟩
  | 103 => ⟨S32768x3584, .f32⟩
  | 104 => ⟨S32768x3584, .f32⟩
  | 105 => ⟨S32768x1024, .f32⟩
  | 106 => ⟨S32768x1024, .f32⟩
  | 107 => ⟨S32768x1024, .f32⟩
  | 108 => ⟨S32768x1024, .f32⟩
  | 109 => ⟨S32768x1, .f32⟩
  | 110 => ⟨S1x1024x7168, .f32⟩
  | 111 => ⟨S1024x7168, .f32⟩
  | 112 => ⟨S1x3584x1024, .f32⟩
  | 113 => ⟨S3584x1024, .f32⟩
  | 114 => ⟨S32768x7168, .f32⟩
  | 115 => ⟨S32768x3584, .f32⟩
  | 116 => ⟨S32768x3584, .f32⟩
  | 117 => ⟨S32768x3584, .f32⟩
  | 118 => ⟨S32768x3584, .f32⟩
  | 119 => ⟨S_, .f32⟩
  | 120 => ⟨S32768x3584, .f32⟩
  | 121 => ⟨S32768x3584, .f32⟩
  | 122 => ⟨S_, .f32⟩
  | 123 => ⟨S32768x3584, .f32⟩
  | 124 => ⟨S32768x3584, .f32⟩
  | 125 => ⟨S32768x3584, .f32⟩
  | 126 => ⟨S32768x3584, .f32⟩
  | 127 => ⟨S32768x1024, .f32⟩
  | _ => ⟨S4x8192x1024, .f32⟩

abbrev hbmTy0_1 (i : Nat) : BufTy := match i % 128 with
  | 0 => ⟨S32768x1024, .f32⟩
  | 1 => ⟨S32768x1024, .f32⟩
  | 2 => ⟨S32768x1024, .f32⟩
  | 3 => ⟨S32768x1, .f32⟩
  | 4 => ⟨S1x1024x7168, .f32⟩
  | 5 => ⟨S1024x7168, .f32⟩
  | 6 => ⟨S1x3584x1024, .f32⟩
  | 7 => ⟨S3584x1024, .f32⟩
  | 8 => ⟨S32768x7168, .f32⟩
  | 9 => ⟨S32768x3584, .f32⟩
  | 10 => ⟨S32768x3584, .f32⟩
  | 11 => ⟨S32768x3584, .f32⟩
  | 12 => ⟨S32768x3584, .f32⟩
  | 13 => ⟨S_, .f32⟩
  | 14 => ⟨S32768x3584, .f32⟩
  | 15 => ⟨S32768x3584, .f32⟩
  | 16 => ⟨S_, .f32⟩
  | 17 => ⟨S32768x3584, .f32⟩
  | 18 => ⟨S32768x3584, .f32⟩
  | 19 => ⟨S32768x3584, .f32⟩
  | 20 => ⟨S32768x3584, .f32⟩
  | 21 => ⟨S32768x1024, .f32⟩
  | 22 => ⟨S32768x1024, .f32⟩
  | 23 => ⟨S32768x1024, .f32⟩
  | 24 => ⟨S32768x1024, .f32⟩
  | 25 => ⟨S32768x1, .f32⟩
  | 26 => ⟨S1x1024x7168, .f32⟩
  | 27 => ⟨S1024x7168, .f32⟩
  | 28 => ⟨S1x3584x1024, .f32⟩
  | 29 => ⟨S3584x1024, .f32⟩
  | 30 => ⟨S32768x7168, .f32⟩
  | 31 => ⟨S32768x3584, .f32⟩
  | 32 => ⟨S32768x3584, .f32⟩
  | 33 => ⟨S32768x3584, .f32⟩
  | 34 => ⟨S32768x3584, .f32⟩
  | 35 => ⟨S_, .f32⟩
  | 36 => ⟨S32768x3584, .f32⟩
  | 37 => ⟨S32768x3584, .f32⟩
  | 38 => ⟨S_, .f32⟩
  | 39 => ⟨S32768x3584, .f32⟩
  | 40 => ⟨S32768x3584, .f32⟩
  | 41 => ⟨S32768x3584, .f32⟩
  | 42 => ⟨S32768x3584, .f32⟩
  | 43 => ⟨S32768x1024, .f32⟩
  | 44 => ⟨S32768x1024, .f32⟩
  | 45 => ⟨S32768x1024, .f32⟩
  | 46 => ⟨S32768x1024, .f32⟩
  | 47 => ⟨S32768x1, .f32⟩
  | 48 => ⟨S1x1024x7168, .f32⟩
  | 49 => ⟨S1024x7168, .f32⟩
  | 50 => ⟨S1x3584x1024, .f32⟩
  | 51 => ⟨S3584x1024, .f32⟩
  | 52 => ⟨S32768x7168, .f32⟩
  | 53 => ⟨S32768x3584, .f32⟩
  | 54 => ⟨S32768x3584, .f32⟩
  | 55 => ⟨S32768x3584, .f32⟩
  | 56 => ⟨S32768x3584, .f32⟩
  | 57 => ⟨S_, .f32⟩
  | 58 => ⟨S32768x3584, .f32⟩
  | 59 => ⟨S32768x3584, .f32⟩
  | 60 => ⟨S_, .f32⟩
  | 61 => ⟨S32768x3584, .f32⟩
  | 62 => ⟨S32768x3584, .f32⟩
  | 63 => ⟨S32768x3584, .f32⟩
  | 64 => ⟨S32768x3584, .f32⟩
  | 65 => ⟨S32768x1024, .f32⟩
  | 66 => ⟨S32768x1024, .f32⟩
  | 67 => ⟨S32768x1024, .f32⟩
  | 68 => ⟨S32768x1024, .f32⟩
  | 69 => ⟨S32768x1, .f32⟩
  | 70 => ⟨S1x1024x7168, .f32⟩
  | 71 => ⟨S1024x7168, .f32⟩
  | 72 => ⟨S1x3584x1024, .f32⟩
  | 73 => ⟨S3584x1024, .f32⟩
  | 74 => ⟨S32768x7168, .f32⟩
  | 75 => ⟨S32768x3584, .f32⟩
  | 76 => ⟨S32768x3584, .f32⟩
  | 77 => ⟨S32768x3584, .f32⟩
  | 78 => ⟨S32768x3584, .f32⟩
  | 79 => ⟨S_, .f32⟩
  | 80 => ⟨S32768x3584, .f32⟩
  | 81 => ⟨S32768x3584, .f32⟩
  | 82 => ⟨S_, .f32⟩
  | 83 => ⟨S32768x3584, .f32⟩
  | 84 => ⟨S32768x3584, .f32⟩
  | 85 => ⟨S32768x3584, .f32⟩
  | 86 => ⟨S32768x3584, .f32⟩
  | 87 => ⟨S32768x1024, .f32⟩
  | 88 => ⟨S32768x1024, .f32⟩
  | 89 => ⟨S32768x1024, .f32⟩
  | 90 => ⟨S32768x1024, .f32⟩
  | 91 => ⟨S32768x1, .f32⟩
  | 92 => ⟨S1x1024x7168, .f32⟩
  | 93 => ⟨S1024x7168, .f32⟩
  | 94 => ⟨S1x3584x1024, .f32⟩
  | 95 => ⟨S3584x1024, .f32⟩
  | 96 => ⟨S32768x7168, .f32⟩
  | 97 => ⟨S32768x3584, .f32⟩
  | 98 => ⟨S32768x3584, .f32⟩
  | 99 => ⟨S32768x3584, .f32⟩
  | 100 => ⟨S32768x3584, .f32⟩
  | 101 => ⟨S_, .f32⟩
  | 102 => ⟨S32768x3584, .f32⟩
  | 103 => ⟨S32768x3584, .f32⟩
  | 104 => ⟨S_, .f32⟩
  | 105 => ⟨S32768x3584, .f32⟩
  | 106 => ⟨S32768x3584, .f32⟩
  | 107 => ⟨S32768x3584, .f32⟩
  | 108 => ⟨S32768x3584, .f32⟩
  | 109 => ⟨S32768x1024, .f32⟩
  | 110 => ⟨S32768x1024, .f32⟩
  | 111 => ⟨S32768x1024, .f32⟩
  | 112 => ⟨S32768x1024, .f32⟩
  | 113 => ⟨S32768x1, .f32⟩
  | 114 => ⟨S1x1024x7168, .f32⟩
  | 115 => ⟨S1024x7168, .f32⟩
  | 116 => ⟨S1x3584x1024, .f32⟩
  | 117 => ⟨S3584x1024, .f32⟩
  | 118 => ⟨S32768x7168, .f32⟩
  | 119 => ⟨S32768x3584, .f32⟩
  | 120 => ⟨S32768x3584, .f32⟩
  | 121 => ⟨S32768x3584, .f32⟩
  | 122 => ⟨S32768x3584, .f32⟩
  | 123 => ⟨S_, .f32⟩
  | 124 => ⟨S32768x3584, .f32⟩
  | 125 => ⟨S32768x3584, .f32⟩
  | 126 => ⟨S_, .f32⟩
  | 127 => ⟨S32768x3584, .f32⟩
  | _ => ⟨S4x8192x1024, .f32⟩

abbrev hbmTy0_2 (i : Nat) : BufTy := match i % 128 with
  | 0 => ⟨S32768x3584, .f32⟩
  | 1 => ⟨S32768x3584, .f32⟩
  | 2 => ⟨S32768x3584, .f32⟩
  | 3 => ⟨S32768x1024, .f32⟩
  | 4 => ⟨S32768x1024, .f32⟩
  | 5 => ⟨S32768x1024, .f32⟩
  | 6 => ⟨S32768x1024, .f32⟩
  | 7 => ⟨S4x8192x1024, .f32⟩
  | 8 => ⟨S4x8192x1024, .f32⟩
  | 9 => ⟨S4x8192x1024, .f32⟩
  | 10 => ⟨S4x8192x1024, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x1024, .f32⟩
  | 23 => ⟨S4x8192x1024, .f32⟩
  | 24 => ⟨S1x1x1024, .f32⟩
  | 25 => ⟨S4x8192x1024, .f32⟩
  | 26 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_values : Ref sig .tc := ⟨.hbm, 58, rfl⟩
abbrev main_indices : Ref sig .tc := ⟨.hbm, 59, rfl⟩
abbrev main_cst_3 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_call4_v5 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_call5_v0 : Ref sig .tc := ⟨.hbm, 161, rfl⟩
abbrev main_call5_v1 : Ref sig .tc := ⟨.hbm, 162, rfl⟩
abbrev main_call5_cst : Ref sig .tc := ⟨.hbm, 163, rfl⟩
abbrev main_call5_v2 : Ref sig .tc := ⟨.hbm, 164, rfl⟩
abbrev main_call5_v3 : Ref sig .tc := ⟨.hbm, 165, rfl⟩
abbrev main_call5_cst_0 : Ref sig .tc := ⟨.hbm, 166, rfl⟩
abbrev main_call5_v4 : Ref sig .tc := ⟨.hbm, 167, rfl⟩
abbrev main_call5_v5 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_call6_v0 : Ref sig .tc := ⟨.hbm, 183, rfl⟩
abbrev main_call6_v1 : Ref sig .tc := ⟨.hbm, 184, rfl⟩
abbrev main_call6_cst : Ref sig .tc := ⟨.hbm, 185, rfl⟩
abbrev main_call6_v2 : Ref sig .tc := ⟨.hbm, 186, rfl⟩
abbrev main_call6_v3 : Ref sig .tc := ⟨.hbm, 187, rfl⟩
abbrev main_call6_cst_0 : Ref sig .tc := ⟨.hbm, 188, rfl⟩
abbrev main_call6_v4 : Ref sig .tc := ⟨.hbm, 189, rfl⟩
abbrev main_call6_v5 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_call7_v0 : Ref sig .tc := ⟨.hbm, 205, rfl⟩
abbrev main_call7_v1 : Ref sig .tc := ⟨.hbm, 206, rfl⟩
abbrev main_call7_cst : Ref sig .tc := ⟨.hbm, 207, rfl⟩
abbrev main_call7_v2 : Ref sig .tc := ⟨.hbm, 208, rfl⟩
abbrev main_call7_v3 : Ref sig .tc := ⟨.hbm, 209, rfl⟩
abbrev main_call7_cst_0 : Ref sig .tc := ⟨.hbm, 210, rfl⟩
abbrev main_call7_v4 : Ref sig .tc := ⟨.hbm, 211, rfl⟩
abbrev main_call7_v5 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_call8_v0 : Ref sig .tc := ⟨.hbm, 227, rfl⟩
abbrev main_call8_v1 : Ref sig .tc := ⟨.hbm, 228, rfl⟩
abbrev main_call8_cst : Ref sig .tc := ⟨.hbm, 229, rfl⟩
abbrev main_call8_v2 : Ref sig .tc := ⟨.hbm, 230, rfl⟩
abbrev main_call8_v3 : Ref sig .tc := ⟨.hbm, 231, rfl⟩
abbrev main_call8_cst_0 : Ref sig .tc := ⟨.hbm, 232, rfl⟩
abbrev main_call8_v4 : Ref sig .tc := ⟨.hbm, 233, rfl⟩
abbrev main_call8_v5 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_call9_v0 : Ref sig .tc := ⟨.hbm, 249, rfl⟩
abbrev main_call9_v1 : Ref sig .tc := ⟨.hbm, 250, rfl⟩
abbrev main_call9_cst : Ref sig .tc := ⟨.hbm, 251, rfl⟩
abbrev main_call9_v2 : Ref sig .tc := ⟨.hbm, 252, rfl⟩
abbrev main_call9_v3 : Ref sig .tc := ⟨.hbm, 253, rfl⟩
abbrev main_call9_cst_0 : Ref sig .tc := ⟨.hbm, 254, rfl⟩
abbrev main_call9_v4 : Ref sig .tc := ⟨.hbm, 255, rfl⟩
abbrev main_call9_v5 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_cst_8 : Ref sig .tc := ⟨.hbm, 268, rfl⟩
abbrev main_v170 : Ref sig .tc := ⟨.hbm, 269, rfl⟩
abbrev main_v171 : Ref sig .tc := ⟨.hbm, 270, rfl⟩
abbrev main_cst_9 : Ref sig .tc := ⟨.hbm, 271, rfl⟩
abbrev main_v172 : Ref sig .tc := ⟨.hbm, 272, rfl⟩
abbrev main_v173 : Ref sig .tc := ⟨.hbm, 273, rfl⟩
abbrev main_cst_10 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩

abbrev nD : Nat := 1
abbrev τ : Topo := Topo.v7x

variable {F : FTy → Type} [FloatOps F]
-- ==== Between.lean ====
abbrev S4x8192x1024 : Shape := ⟨3, ![4, 8192, 1024]⟩
abbrev S4x1024 : Shape := ⟨2, ![4, 1024]⟩
abbrev S2x1024x6144 : Shape := ⟨3, ![2, 1024, 6144]⟩
abbrev S2x6144 : Shape := ⟨2, ![2, 6144]⟩
abbrev S2x1024 : Shape := ⟨2, ![2, 1024]⟩
abbrev S2x1024x6688 : Shape := ⟨3, ![2, 1024, 6688]⟩
abbrev S4x8192x256 : Shape := ⟨3, ![4, 8192, 256]⟩
abbrev S4x8192x4096 : Shape := ⟨3, ![4, 8192, 4096]⟩
abbrev S2x4x256x1024 : Shape := ⟨4, ![2, 4, 256, 1024]⟩
abbrev S2x1024x1024 : Shape := ⟨3, ![2, 1024, 1024]⟩
abbrev S1x1024x5632 : Shape := ⟨3, ![1, 1024, 5632]⟩
abbrev S1x2816x1024 : Shape := ⟨3, ![1, 2816, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S_ : Shape := ⟨0, ![]⟩
abbrev S4x6144 : Shape := ⟨2, ![4, 6144]⟩
abbrev S4x1x6144 : Shape := ⟨3, ![4, 1, 6144]⟩
abbrev S4x1x1024 : Shape := ⟨3, ![4, 1, 1024]⟩
abbrev S1x4x256x1024 : Shape := ⟨4, ![1, 4, 256, 1024]⟩
abbrev S4x256x1024 : Shape := ⟨3, ![4, 256, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S32768x256 : Shape := ⟨2, ![32768, 256]⟩
abbrev S32768x1024 : Shape := ⟨2, ![32768, 1024]⟩
abbrev S512x256 : Shape := ⟨2, ![512, 256]⟩
abbrev S512x1024 : Shape := ⟨2, ![512, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S32768x5632 : Shape := ⟨2, ![32768, 5632]⟩
abbrev S1024x512 : Shape := ⟨2, ![1024, 512]⟩
abbrev S512x512 : Shape := ⟨2, ![512, 512]⟩
abbrev S4x8192x5632 : Shape := ⟨3, ![4, 8192, 5632]⟩
abbrev S4x8192x2816 : Shape := ⟨3, ![4, 8192, 2816]⟩
abbrev S32768x2816 : Shape := ⟨2, ![32768, 2816]⟩
abbrev S256x2816 : Shape := ⟨2, ![256, 2816]⟩
abbrev S1x1024x6688 : Shape := ⟨3, ![1, 1024, 6688]⟩
abbrev S1024x6688 : Shape := ⟨2, ![1024, 6688]⟩
abbrev S32768x6688 : Shape := ⟨2, ![32768, 6688]⟩
abbrev S512x6688 : Shape := ⟨2, ![512, 6688]⟩
abbrev S4x8192x6688 : Shape := ⟨3, ![4, 8192, 6688]⟩
abbrev S4x8192x32 : Shape := ⟨3, ![4, 8192, 32]⟩
abbrev S4x8192x768 : Shape := ⟨3, ![4, 8192, 768]⟩

abbrev nBuf : Space → Nat
  | .hbm => 236
  | .vmem => 41
  | .smem => 0
  | _ => 0

abbrev hbmTy0_0 (i : Nat) : BufTy := match i % 128 with
  | 0 => ⟨S4x8192x1024, .f32⟩
  | 1 => ⟨S4x1024, .f32⟩
  | 2 => ⟨S2x1024x6144, .f32⟩
  | 3 => ⟨S2x6144, .f32⟩
  | 4 => ⟨S2x1024, .f32⟩
  | 5 => ⟨S2x1024, .f32⟩
  | 6 => ⟨S2x1024x6688, .f32⟩
  | 7 => ⟨S4x8192x256, .f32⟩
  | 8 => ⟨S4x8192x256, .f32⟩
  | 9 => ⟨S4x8192x256, .f32⟩
  | 10 => ⟨S4x8192x256, .f32⟩
  | 11 => ⟨S4x8192x4096, .f32⟩
  | 12 => ⟨S2x4x256x1024, .f32⟩
  | 13 => ⟨S2x1024x1024, .f32⟩
  | 14 => ⟨S1x1024x5632, .f32⟩
  | 15 => ⟨S1x2816x1024, .f32⟩
  | 16 => ⟨S1x1024x6144, .f32⟩
  | 17 => ⟨S1024x6144, .f32⟩
  | 18 => ⟨S1x6144, .f32⟩
  | 19 => ⟨S6144, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S4x1024, .f32⟩
  | 29 => ⟨S4x6144, .f32⟩
  | 30 => ⟨S1x6144, .f32⟩
  | 31 => ⟨S4x6144, .f32⟩
  | 32 => ⟨S4x6144, .f32⟩
  | 33 => ⟨S4x1x6144, .f32⟩
  | 34 => ⟨S4x1x1024, .f32⟩
  | 35 => ⟨S4x1x1024, .f32⟩
  | 36 => ⟨S4x1x1024, .f32⟩
  | 37 => ⟨S4x1x1024, .f32⟩
  | 38 => ⟨S4x1x1024, .f32⟩
  | 39 => ⟨S4x1x1024, .f32⟩
  | 40 => ⟨S1x4x256x1024, .f32⟩
  | 41 => ⟨S4x256x1024, .f32⟩
  | 42 => ⟨S1x1024x1024, .f32⟩
  | 43 => ⟨S1024x1024, .f32⟩
  | 44 => ⟨S4x8192x1024, .f32⟩
  | 45 => ⟨S4x8192x1024, .f32⟩
  | 46 => ⟨S4x8192x1024, .f32⟩
  | 47 => ⟨S4x8192x1024, .f32⟩
  | 48 => ⟨S4x8192x1024, .f32⟩
  | 49 => ⟨S4x8192x1024, .f32⟩
  | 50 => ⟨S_, .f32⟩
  | 51 => ⟨S4x8192x1024, .f32⟩
  | 52 => ⟨S4x8192x1024, .f32⟩
  | 53 => ⟨S_, .f32⟩
  | 54 => ⟨S4x8192x1024, .f32⟩
  | 55 => ⟨S4x8192x1024, .f32⟩
  | 56 => ⟨S1x256x1024, .f32⟩
  | 57 => ⟨S256x1024, .f32⟩
  | 58 => ⟨S32768x256, .f32⟩
  | 59 => ⟨S256x1024, .bf16⟩
  | 60 => ⟨S32768x1024, .f32⟩
  | 61 => ⟨S4x8192x1024, .f32⟩
  | 62 => ⟨S4x8192x1024, .f32⟩
  | 63 => ⟨S_, .f32⟩
  | 64 => ⟨S4x8192x1024, .f32⟩
  | 65 => ⟨S4x8192x1024, .f32⟩
  | 66 => ⟨S4x8192x1024, .f32⟩
  | 67 => ⟨S4x8192x1024, .f32⟩
  | 68 => ⟨S_, .f32⟩
  | 69 => ⟨S4x8192x1024, .f32⟩
  | 70 => ⟨S4x8192x1024, .f32⟩
  | 71 => ⟨S_, .f32⟩
  | 72 => ⟨S4x8192x1024, .f32⟩
  | 73 => ⟨S4x8192x1024, .f32⟩
  | 74 => ⟨S1x256x1024, .f32⟩
  | 75 => ⟨S256x1024, .f32⟩
  | 76 => ⟨S32768x256, .f32⟩
  | 77 => ⟨S256x1024, .bf16⟩
  | 78 => ⟨S32768x1024, .f32⟩
  | 79 => ⟨S4x8192x1024, .f32⟩
  | 80 => ⟨S4x8192x1024, .f32⟩
  | 81 => ⟨S4x8192x1024, .f32⟩
  | 82 => ⟨S4x8192x1024, .f32⟩
  | 83 => ⟨S4x8192x1024, .f32⟩
  | 84 => ⟨S_, .f32⟩
  | 85 => ⟨S4x8192x1024, .f32⟩
  | 86 => ⟨S4x8192x1024, .f32⟩
  | 87 => ⟨S_, .f32⟩
  | 88 => ⟨S4x8192x1024, .f32⟩
  | 89 => ⟨S4x8192x1024, .f32⟩
  | 90 => ⟨S1x256x1024, .f32⟩
  | 91 => ⟨S256x1024, .f32⟩
  | 92 => ⟨S32768x256, .f32⟩
  | 93 => ⟨S256x1024, .bf16⟩
  | 94 => ⟨S32768x1024, .f32⟩
  | 95 => ⟨S4x8192x1024, .f32⟩
  | 96 => ⟨S4x8192x1024, .f32⟩
  | 97 => ⟨S4x8192x1024, .f32⟩
  | 98 => ⟨S4x8192x1024, .f32⟩
  | 99 => ⟨S4x8192x1024, .f32⟩
  | 100 => ⟨S_, .f32⟩
  | 101 => ⟨S4x8192x1024, .f32⟩
  | 102 => ⟨S4x8192x1024, .f32⟩
  | 103 => ⟨S_, .f32⟩
  | 104 => ⟨S4x8192x1024, .f32⟩
  | 105 => ⟨S4x8192x1024, .f32⟩
  | 106 => ⟨S1x256x1024, .f32⟩
  | 107 => ⟨S256x1024, .f32⟩
  | 108 => ⟨S32768x256, .f32⟩
  | 109 => ⟨S256x1024, .bf16⟩
  | 110 => ⟨S32768x1024, .f32⟩
  | 111 => ⟨S4x8192x1024, .f32⟩
  | 112 => ⟨S4x8192x1024, .f32⟩
  | 113 => ⟨S4x8192x1024, .f32⟩
  | 114 => ⟨S32768x1024, .f32⟩
  | 115 => ⟨S1024x1024, .bf16⟩
  | 116 => ⟨S32768x1024, .f32⟩
  | 117 => ⟨S4x8192x1024, .f32⟩
  | 118 => ⟨S4x8192x1024, .f32⟩
  | 119 => ⟨S4x8192x1024, .f32⟩
  | 120 => ⟨S4x8192x1024, .f32⟩
  | 121 => ⟨S1x1024, .f32⟩
  | 122 => ⟨S1024, .f32⟩
  | 123 => ⟨S4x8192x1024, .f32⟩
  | 124 => ⟨S_, .f32⟩
  | 125 => ⟨S4x8192, .f32⟩
  | 126 => ⟨S4x8192x1, .f32⟩
  | 127 => ⟨S_, .f32⟩
  | _ => ⟨S4x8192x1024, .f32⟩

abbrev hbmTy0_1 (i : Nat) : BufTy := match i % 128 with
  | 0 => ⟨S4x8192x1, .f32⟩
  | 1 => ⟨S4x8192x1, .f32⟩
  | 2 => ⟨S_, .f32⟩
  | 3 => ⟨S4x8192x1, .f32⟩
  | 4 => ⟨S4x8192x1, .f32⟩
  | 5 => ⟨S4x8192x1, .f32⟩
  | 6 => ⟨S4x8192x1024, .f32⟩
  | 7 => ⟨S4x8192x1024, .f32⟩
  | 8 => ⟨S1x1x1024, .f32⟩
  | 9 => ⟨S4x8192x1024, .f32⟩
  | 10 => ⟨S4x8192x1024, .f32⟩
  | 11 => ⟨S_, .f32⟩
  | 12 => ⟨S4x1x1024, .f32⟩
  | 13 => ⟨S4x1x1024, .f32⟩
  | 14 => ⟨S4x8192x1024, .f32⟩
  | 15 => ⟨S4x8192x1024, .f32⟩
  | 16 => ⟨S4x8192x1024, .f32⟩
  | 17 => ⟨S4x8192x1024, .f32⟩
  | 18 => ⟨S1024x5632, .f32⟩
  | 19 => ⟨S2816x1024, .f32⟩
  | 20 => ⟨S32768x1024, .f32⟩
  | 21 => ⟨S1024x5632, .bf16⟩
  | 22 => ⟨S32768x5632, .f32⟩
  | 23 => ⟨S4x8192x5632, .f32⟩
  | 24 => ⟨S4x8192x2816, .f32⟩
  | 25 => ⟨S4x8192x2816, .f32⟩
  | 26 => ⟨S4x8192x2816, .f32⟩
  | 27 => ⟨S4x8192x2816, .f32⟩
  | 28 => ⟨S_, .f32⟩
  | 29 => ⟨S4x8192x2816, .f32⟩
  | 30 => ⟨S4x8192x2816, .f32⟩
  | 31 => ⟨S_, .f32⟩
  | 32 => ⟨S4x8192x2816, .f32⟩
  | 33 => ⟨S4x8192x2816, .f32⟩
  | 34 => ⟨S4x8192x2816, .f32⟩
  | 35 => ⟨S4x8192x2816, .f32⟩
  | 36 => ⟨S32768x2816, .f32⟩
  | 37 => ⟨S2816x1024, .bf16⟩
  | 38 => ⟨S32768x1024, .f32⟩
  | 39 => ⟨S4x8192x1024, .f32⟩
  | 40 => ⟨S4x8192x1024, .f32⟩
  | 41 => ⟨S4x8192x1024, .f32⟩
  | 42 => ⟨S4x8192x1024, .f32⟩
  | 43 => ⟨S1x1024x6144, .f32⟩
  | 44 => ⟨S1024x6144, .f32⟩
  | 45 => ⟨S1x6144, .f32⟩
  | 46 => ⟨S6144, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S_, .f32⟩
  | 53 => ⟨S4x1024, .f32⟩
  | 54 => ⟨S4x1024, .f32⟩
  | 55 => ⟨S4x1024, .f32⟩
  | 56 => ⟨S4x6144, .f32⟩
  | 57 => ⟨S1x6144, .f32⟩
  | 58 => ⟨S4x6144, .f32⟩
  | 59 => ⟨S4x6144, .f32⟩
  | 60 => ⟨S4x1x6144, .f32⟩
  | 61 => ⟨S4x1x1024, .f32⟩
  | 62 => ⟨S4x1x1024, .f32⟩
  | 63 => ⟨S4x1x1024, .f32⟩
  | 64 => ⟨S4x1x1024, .f32⟩
  | 65 => ⟨S4x1x1024, .f32⟩
  | 66 => ⟨S4x1x1024, .f32⟩
  | 67 => ⟨S1x1024, .f32⟩
  | 68 => ⟨S1024, .f32⟩
  | 69 => ⟨S4x8192x1024, .f32⟩
  | 70 => ⟨S_, .f32⟩
  | 71 => ⟨S4x8192, .f32⟩
  | 72 => ⟨S4x8192x1, .f32⟩
  | 73 => ⟨S_, .f32⟩
  | 74 => ⟨S4x8192x1, .f32⟩
  | 75 => ⟨S4x8192x1, .f32⟩
  | 76 => ⟨S_, .f32⟩
  | 77 => ⟨S4x8192x1, .f32⟩
  | 78 => ⟨S4x8192x1, .f32⟩
  | 79 => ⟨S4x8192x1, .f32⟩
  | 80 => ⟨S4x8192x1024, .f32⟩
  | 81 => ⟨S4x8192x1024, .f32⟩
  | 82 => ⟨S1x1x1024, .f32⟩
  | 83 => ⟨S4x8192x1024, .f32⟩
  | 84 => ⟨S4x8192x1024, .f32⟩
  | 85 => ⟨S_, .f32⟩
  | 86 => ⟨S4x1x1024, .f32⟩
  | 87 => ⟨S4x1x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S1x1024x6688, .f32⟩
  | 93 => ⟨S1024x6688, .f32⟩
  | 94 => ⟨S32768x1024, .f32⟩
  | 95 => ⟨S1024x6688, .bf16⟩
  | 96 => ⟨S32768x6688, .f32⟩
  | 97 => ⟨S4x8192x6688, .f32⟩
  | 98 => ⟨S4x8192x256, .f32⟩
  | 99 => ⟨S4x8192x256, .f32⟩
  | 100 => ⟨S4x8192x256, .f32⟩
  | 101 => ⟨S4x8192x256, .f32⟩
  | 102 => ⟨S4x8192x32, .f32⟩
  | 103 => ⟨S4x8192x256, .f32⟩
  | 104 => ⟨S4x8192x768, .f32⟩
  | 105 => ⟨S4x8192x256, .f32⟩
  | 106 => ⟨S4x8192x256, .f32⟩
  | 107 => ⟨S4x8192x4096, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | .local _ .vmem, ⟨5, _⟩ => ⟨S512x256, .f32⟩
  | .local _ .vmem, ⟨6, _⟩ => ⟨S512x256, .f32⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | .local _ .vmem, ⟨15, _⟩ => ⟨S512x256, .f32⟩
  | .local _ .vmem, ⟨16, _⟩ => ⟨S512x256, .f32⟩
  | .local _ .vmem, ⟨17, _⟩ => ⟨S256x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1024x512, .bf16⟩
  | .local _ .vmem, ⟨28, _⟩ => ⟨S1024x512, .bf16⟩
  | .local _ .vmem, ⟨29, _⟩ => ⟨S512x512, .f32⟩
  | .local _ .vmem, ⟨30, _⟩ => ⟨S512x512, .f32⟩
  | .local _ .vmem, ⟨31, _⟩ => ⟨S256x2816, .f32⟩
  | .local _ .vmem, ⟨32, _⟩ => ⟨S256x2816, .f32⟩
  | .local _ .vmem, ⟨33, _⟩ => ⟨S2816x1024, .bf16⟩
  | .local _ .vmem, ⟨34, _⟩ => ⟨S256x1024, .f32⟩
  | .local _ .vmem, ⟨35, _⟩ => ⟨S256x1024, .f32⟩
  | .local _ .vmem, ⟨36, _⟩ => ⟨S512x1024, .f32⟩
  | .local _ .vmem, ⟨37, _⟩ => ⟨S512x1024, .f32⟩
  | .local _ .vmem, ⟨38, _⟩ => ⟨S1024x6688, .bf16⟩
  | .local _ .vmem, ⟨39, _⟩ => ⟨S512x6688, .f32⟩
  | .local _ .vmem, ⟨40, _⟩ => ⟨S512x6688, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst : Ref sig .tc := ⟨.hbm, 50, rfl⟩
abbrev main_v26 : Ref sig .tc := ⟨.hbm, 51, rfl⟩
abbrev main_v27 : Ref sig .tc := ⟨.hbm, 52, rfl⟩
abbrev main_cst_0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_1 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_2 : Ref sig .tc := ⟨.hbm, 68, rfl⟩
abbrev main_v41 : Ref sig .tc := ⟨.hbm, 69, rfl⟩
abbrev main_v42 : Ref sig .tc := ⟨.hbm, 70, rfl⟩
abbrev main_cst_3 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_4 : Ref sig .tc := ⟨.hbm, 84, rfl⟩
abbrev main_v55 : Ref sig .tc := ⟨.hbm, 85, rfl⟩
abbrev main_v56 : Ref sig .tc := ⟨.hbm, 86, rfl⟩
abbrev main_cst_5 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_6 : Ref sig .tc := ⟨.hbm, 100, rfl⟩
abbrev main_v69 : Ref sig .tc := ⟨.hbm, 101, rfl⟩
abbrev main_v70 : Ref sig .tc := ⟨.hbm, 102, rfl⟩
abbrev main_cst_7 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_8 : Ref sig .tc := ⟨.hbm, 124, rfl⟩
abbrev main_v91 : Ref sig .tc := ⟨.hbm, 125, rfl⟩
abbrev main_v92 : Ref sig .tc := ⟨.hbm, 126, rfl⟩
abbrev main_cst_9 : Ref sig .tc := ⟨.hbm, 127, rfl⟩
abbrev main_v93 : Ref sig .tc := ⟨.hbm, 128, rfl⟩
abbrev main_v94 : Ref sig .tc := ⟨.hbm, 129, rfl⟩
abbrev main_cst_10 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_11 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_call1_v0 : Ref sig .tc := ⟨.hbm, 154, rfl⟩
abbrev main_call1_v1 : Ref sig .tc := ⟨.hbm, 155, rfl⟩
abbrev main_call1_cst : Ref sig .tc := ⟨.hbm, 156, rfl⟩
abbrev main_call1_v2 : Ref sig .tc := ⟨.hbm, 157, rfl⟩
abbrev main_call1_v3 : Ref sig .tc := ⟨.hbm, 158, rfl⟩
abbrev main_call1_cst_0 : Ref sig .tc := ⟨.hbm, 159, rfl⟩
abbrev main_call1_v4 : Ref sig .tc := ⟨.hbm, 160, rfl⟩
abbrev main_call1_v5 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_call2_v0 : Ref sig .tc := ⟨.hbm, 175, rfl⟩
abbrev main_call2_v1 : Ref sig .tc := ⟨.hbm, 176, rfl⟩
abbrev main_call2_cst : Ref sig .tc := ⟨.hbm, 177, rfl⟩
abbrev main_call2_v2 : Ref sig .tc := ⟨.hbm, 178, rfl⟩
abbrev main_call2_v3 : Ref sig .tc := ⟨.hbm, 179, rfl⟩
abbrev main_call2_cst_0 : Ref sig .tc := ⟨.hbm, 180, rfl⟩
abbrev main_call2_v4 : Ref sig .tc := ⟨.hbm, 181, rfl⟩
abbrev main_call2_v5 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_12 : Ref sig .tc := ⟨.hbm, 198, rfl⟩
abbrev main_v145 : Ref sig .tc := ⟨.hbm, 199, rfl⟩
abbrev main_v146 : Ref sig .tc := ⟨.hbm, 200, rfl⟩
abbrev main_cst_13 : Ref sig .tc := ⟨.hbm, 201, rfl⟩
abbrev main_v147 : Ref sig .tc := ⟨.hbm, 202, rfl⟩
abbrev main_v148 : Ref sig .tc := ⟨.hbm, 203, rfl⟩
abbrev main_cst_14 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_15 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem2_1 : DmaSem sig := 40

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![64, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![64, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![64, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S256x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![64, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![64, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![128, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S256x2816 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S2816x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![64, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S1024x6688 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S512x6688 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== BetweenRefIdeal.lean ====
abbrev S4x8192x1024 : Shape := ⟨3, ![4, 8192, 1024]⟩
abbrev S4x1024 : Shape := ⟨2, ![4, 1024]⟩
abbrev S2x1024x6144 : Shape := ⟨3, ![2, 1024, 6144]⟩
abbrev S2x6144 : Shape := ⟨2, ![2, 6144]⟩
abbrev S2x1024 : Shape := ⟨2, ![2, 1024]⟩
abbrev S2x1024x6688 : Shape := ⟨3, ![2, 1024, 6688]⟩
abbrev S4x8192x256 : Shape := ⟨3, ![4, 8192, 256]⟩
abbrev S4x8192x4096 : Shape := ⟨3, ![4, 8192, 4096]⟩
abbrev S2x4x256x1024 : Shape := ⟨4, ![2, 4, 256, 1024]⟩
abbrev S2x1024x1024 : Shape := ⟨3, ![2, 1024, 1024]⟩
abbrev S1x1024x5632 : Shape := ⟨3, ![1, 1024, 5632]⟩
abbrev S1x2816x1024 : Shape := ⟨3, ![1, 2816, 1024]⟩
abbrev S_ : Shape := ⟨0, ![]⟩
abbrev S1x1024x6144 : Shape := ⟨3, ![1, 1024, 6144]⟩
abbrev S1024x6144 : Shape := ⟨2, ![1024, 6144]⟩
abbrev S4x6144 : Shape := ⟨2, ![4, 6144]⟩
abbrev S1x6144 : Shape := ⟨2, ![1, 6144]⟩
abbrev S6144 : Shape := ⟨1, ![6144]⟩
abbrev S4x1x6144 : Shape := ⟨3, ![4, 1, 6144]⟩
abbrev S4x1x1024 : Shape := ⟨3, ![4, 1, 1024]⟩
abbrev S1x4x256x1024 : Shape := ⟨4, ![1, 4, 256, 1024]⟩
abbrev S4x256x1024 : Shape := ⟨3, ![4, 256, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S4x8192x5632 : Shape := ⟨3, ![4, 8192, 5632]⟩
abbrev S4x8192x2816 : Shape := ⟨3, ![4, 8192, 2816]⟩
abbrev S1x1024x6688 : Shape := ⟨3, ![1, 1024, 6688]⟩
abbrev S1024x6688 : Shape := ⟨2, ![1024, 6688]⟩
abbrev S4x8192x6688 : Shape := ⟨3, ![4, 8192, 6688]⟩
abbrev S4x8192x32 : Shape := ⟨3, ![4, 8192, 32]⟩
abbrev S4x8192x768 : Shape := ⟨3, ![4, 8192, 768]⟩

abbrev nBuf : Space → Nat
  | .hbm => 212
  | .vmem => 0
  | .smem => 0
  | _ => 0

abbrev hbmTy0_0 (i : Nat) : BufTy := match i % 128 with
  | 0 => ⟨S4x8192x1024, .f32⟩
  | 1 => ⟨S4x1024, .f32⟩
  | 2 => ⟨S2x1024x6144, .f32⟩
  | 3 => ⟨S2x6144, .f32⟩
  | 4 => ⟨S2x1024, .f32⟩
  | 5 => ⟨S2x1024, .f32⟩
  | 6 => ⟨S2x1024x6688, .f32⟩
  | 7 => ⟨S4x8192x256, .f32⟩
  | 8 => ⟨S4x8192x256, .f32⟩
  | 9 => ⟨S4x8192x256, .f32⟩
  | 10 => ⟨S4x8192x256, .f32⟩
  | 11 => ⟨S4x8192x4096, .f32⟩
  | 12 => ⟨S2x4x256x1024, .f32⟩
  | 13 => ⟨S2x1024x1024, .f32⟩
  | 14 => ⟨S1x1024x5632, .f32⟩
  | 15 => ⟨S1x2816x1024, .f32⟩
  | 16 => ⟨S4x1024, .f32⟩
  | 17 => ⟨S4x1024, .f32⟩
  | 18 => ⟨S_, .f32⟩
  | 19 => ⟨S4x1024, .f32⟩
  | 20 => ⟨S4x1024, .f32⟩
  | 21 => ⟨S_, .f32⟩
  | 22 => ⟨S4x1024, .f32⟩
  | 23 => ⟨S4x1024, .f32⟩
  | 24 => ⟨S4x1024, .f32⟩
  | 25 => ⟨S1x1024x6144, .f32⟩
  | 26 => ⟨S1024x6144, .f32⟩
  | 27 => ⟨S4x6144, .f32⟩
  | 28 => ⟨S1x6144, .f32⟩
  | 29 => ⟨S6144, .f32⟩
  | 30 => ⟨S1x6144, .f32⟩
  | 31 => ⟨S4x6144, .f32⟩
  | 32 => ⟨S4x6144, .f32⟩
  | 33 => ⟨S4x1x6144, .f32⟩
  | 34 => ⟨S4x1x1024, .f32⟩
  | 35 => ⟨S4x1x1024, .f32⟩
  | 36 => ⟨S4x1x1024, .f32⟩
  | 37 => ⟨S4x1x1024, .f32⟩
  | 38 => ⟨S4x1x1024, .f32⟩
  | 39 => ⟨S4x1x1024, .f32⟩
  | 40 => ⟨S1x4x256x1024, .f32⟩
  | 41 => ⟨S4x256x1024, .f32⟩
  | 42 => ⟨S1x1024x1024, .f32⟩
  | 43 => ⟨S1024x1024, .f32⟩
  | 44 => ⟨S4x8192x1024, .f32⟩
  | 45 => ⟨S4x8192x1024, .f32⟩
  | 46 => ⟨S4x8192x1024, .f32⟩
  | 47 => ⟨S4x8192x1024, .f32⟩
  | 48 => ⟨S4x8192x1024, .f32⟩
  | 49 => ⟨S4x8192x1024, .f32⟩
  | 50 => ⟨S_, .f32⟩
  | 51 => ⟨S4x8192x1024, .f32⟩
  | 52 => ⟨S4x8192x1024, .f32⟩
  | 53 => ⟨S_, .f32⟩
  | 54 => ⟨S4x8192x1024, .f32⟩
  | 55 => ⟨S4x8192x1024, .f32⟩
  | 56 => ⟨S1x256x1024, .f32⟩
  | 57 => ⟨S256x1024, .f32⟩
  | 58 => ⟨S4x8192x1024, .f32⟩
  | 59 => ⟨S4x8192x1024, .f32⟩
  | 60 => ⟨S_, .f32⟩
  | 61 => ⟨S4x8192x1024, .f32⟩
  | 62 => ⟨S4x8192x1024, .f32⟩
  | 63 => ⟨S4x8192x1024, .f32⟩
  | 64 => ⟨S4x8192x1024, .f32⟩
  | 65 => ⟨S_, .f32⟩
  | 66 => ⟨S4x8192x1024, .f32⟩
  | 67 => ⟨S4x8192x1024, .f32⟩
  | 68 => ⟨S_, .f32⟩
  | 69 => ⟨S4x8192x1024, .f32⟩
  | 70 => ⟨S4x8192x1024, .f32⟩
  | 71 => ⟨S1x256x1024, .f32⟩
  | 72 => ⟨S256x1024, .f32⟩
  | 73 => ⟨S4x8192x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S_, .f32⟩
  | 79 => ⟨S4x8192x1024, .f32⟩
  | 80 => ⟨S4x8192x1024, .f32⟩
  | 81 => ⟨S_, .f32⟩
  | 82 => ⟨S4x8192x1024, .f32⟩
  | 83 => ⟨S4x8192x1024, .f32⟩
  | 84 => ⟨S1x256x1024, .f32⟩
  | 85 => ⟨S256x1024, .f32⟩
  | 86 => ⟨S4x8192x1024, .f32⟩
  | 87 => ⟨S4x8192x1024, .f32⟩
  | 88 => ⟨S4x8192x1024, .f32⟩
  | 89 => ⟨S4x8192x1024, .f32⟩
  | 90 => ⟨S4x8192x1024, .f32⟩
  | 91 => ⟨S_, .f32⟩
  | 92 => ⟨S4x8192x1024, .f32⟩
  | 93 => ⟨S4x8192x1024, .f32⟩
  | 94 => ⟨S_, .f32⟩
  | 95 => ⟨S4x8192x1024, .f32⟩
  | 96 => ⟨S4x8192x1024, .f32⟩
  | 97 => ⟨S1x256x1024, .f32⟩
  | 98 => ⟨S256x1024, .f32⟩
  | 99 => ⟨S4x8192x1024, .f32⟩
  | 100 => ⟨S4x8192x1024, .f32⟩
  | 101 => ⟨S4x8192x1024, .f32⟩
  | 102 => ⟨S4x8192x1024, .f32⟩
  | 103 => ⟨S4x8192x1024, .f32⟩
  | 104 => ⟨S4x8192x1024, .f32⟩
  | 105 => ⟨S4x8192x1024, .f32⟩
  | 106 => ⟨S1x1024, .f32⟩
  | 107 => ⟨S1024, .f32⟩
  | 108 => ⟨S4x8192x1024, .f32⟩
  | 109 => ⟨S_, .f32⟩
  | 110 => ⟨S4x8192, .f32⟩
  | 111 => ⟨S4x8192x1, .f32⟩
  | 112 => ⟨S_, .f32⟩
  | 113 => ⟨S4x8192x1, .f32⟩
  | 114 => ⟨S4x8192x1, .f32⟩
  | 115 => ⟨S_, .f32⟩
  | 116 => ⟨S4x8192x1, .f32⟩
  | 117 => ⟨S4x8192x1, .f32⟩
  | 118 => ⟨S4x8192x1, .f32⟩
  | 119 => ⟨S4x8192x1024, .f32⟩
  | 120 => ⟨S4x8192x1024, .f32⟩
  | 121 => ⟨S1x1x1024, .f32⟩
  | 122 => ⟨S4x8192x1024, .f32⟩
  | 123 => ⟨S4x8192x1024, .f32⟩
  | 124 => ⟨S_, .f32⟩
  | 125 => ⟨S4x1x1024, .f32⟩
  | 126 => ⟨S4x1x1024, .f32⟩
  | 127 => ⟨S4x8192x1024, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S4x8192x1024, .f32⟩
  | 3 => ⟨S1024x5632, .f32⟩
  | 4 => ⟨S2816x1024, .f32⟩
  | 5 => ⟨S4x8192x5632, .f32⟩
  | 6 => ⟨S4x8192x2816, .f32⟩
  | 7 => ⟨S4x8192x2816, .f32⟩
  | 8 => ⟨S4x8192x2816, .f32⟩
  | 9 => ⟨S4x8192x2816, .f32⟩
  | 10 => ⟨S_, .f32⟩
  | 11 => ⟨S4x8192x2816, .f32⟩
  | 12 => ⟨S4x8192x2816, .f32⟩
  | 13 => ⟨S_, .f32⟩
  | 14 => ⟨S4x8192x2816, .f32⟩
  | 15 => ⟨S4x8192x2816, .f32⟩
  | 16 => ⟨S4x8192x2816, .f32⟩
  | 17 => ⟨S4x8192x2816, .f32⟩
  | 18 => ⟨S4x8192x1024, .f32⟩
  | 19 => ⟨S4x8192x1024, .f32⟩
  | 20 => ⟨S4x8192x1024, .f32⟩
  | 21 => ⟨S4x8192x1024, .f32⟩
  | 22 => ⟨S4x1024, .f32⟩
  | 23 => ⟨S4x1024, .f32⟩
  | 24 => ⟨S_, .f32⟩
  | 25 => ⟨S4x1024, .f32⟩
  | 26 => ⟨S4x1024, .f32⟩
  | 27 => ⟨S_, .f32⟩
  | 28 => ⟨S4x1024, .f32⟩
  | 29 => ⟨S4x1024, .f32⟩
  | 30 => ⟨S4x1024, .f32⟩
  | 31 => ⟨S1x1024x6144, .f32⟩
  | 32 => ⟨S1024x6144, .f32⟩
  | 33 => ⟨S4x6144, .f32⟩
  | 34 => ⟨S1x6144, .f32⟩
  | 35 => ⟨S6144, .f32⟩
  | 36 => ⟨S1x6144, .f32⟩
  | 37 => ⟨S4x6144, .f32⟩
  | 38 => ⟨S4x6144, .f32⟩
  | 39 => ⟨S4x1x6144, .f32⟩
  | 40 => ⟨S4x1x1024, .f32⟩
  | 41 => ⟨S4x1x1024, .f32⟩
  | 42 => ⟨S4x1x1024, .f32⟩
  | 43 => ⟨S4x1x1024, .f32⟩
  | 44 => ⟨S4x1x1024, .f32⟩
  | 45 => ⟨S4x1x1024, .f32⟩
  | 46 => ⟨S1x1024, .f32⟩
  | 47 => ⟨S1024, .f32⟩
  | 48 => ⟨S4x8192x1024, .f32⟩
  | 49 => ⟨S_, .f32⟩
  | 50 => ⟨S4x8192, .f32⟩
  | 51 => ⟨S4x8192x1, .f32⟩
  | 52 => ⟨S_, .f32⟩
  | 53 => ⟨S4x8192x1, .f32⟩
  | 54 => ⟨S4x8192x1, .f32⟩
  | 55 => ⟨S_, .f32⟩
  | 56 => ⟨S4x8192x1, .f32⟩
  | 57 => ⟨S4x8192x1, .f32⟩
  | 58 => ⟨S4x8192x1, .f32⟩
  | 59 => ⟨S4x8192x1024, .f32⟩
  | 60 => ⟨S4x8192x1024, .f32⟩
  | 61 => ⟨S1x1x1024, .f32⟩
  | 62 => ⟨S4x8192x1024, .f32⟩
  | 63 => ⟨S4x8192x1024, .f32⟩
  | 64 => ⟨S_, .f32⟩
  | 65 => ⟨S4x1x1024, .f32⟩
  | 66 => ⟨S4x1x1024, .f32⟩
  | 67 => ⟨S4x8192x1024, .f32⟩
  | 68 => ⟨S4x8192x1024, .f32⟩
  | 69 => ⟨S4x8192x1024, .f32⟩
  | 70 => ⟨S4x8192x1024, .f32⟩
  | 71 => ⟨S1x1024x6688, .f32⟩
  | 72 => ⟨S1024x6688, .f32⟩
  | 73 => ⟨S4x8192x6688, .f32⟩
  | 74 => ⟨S4x8192x256, .f32⟩
  | 75 => ⟨S4x8192x256, .f32⟩
  | 76 => ⟨S4x8192x256, .f32⟩
  | 77 => ⟨S4x8192x256, .f32⟩
  | 78 => ⟨S4x8192x32, .f32⟩
  | 79 => ⟨S4x8192x256, .f32⟩
  | 80 => ⟨S4x8192x768, .f32⟩
  | 81 => ⟨S4x8192x256, .f32⟩
  | 82 => ⟨S4x8192x256, .f32⟩
  | 83 => ⟨S4x8192x4096, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst : Ref sig .tc := ⟨.hbm, 50, rfl⟩
abbrev main_v26 : Ref sig .tc := ⟨.hbm, 51, rfl⟩
abbrev main_v27 : Ref sig .tc := ⟨.hbm, 52, rfl⟩
abbrev main_cst_0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_2 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_4 : Ref sig .tc := ⟨.hbm, 78, rfl⟩
abbrev main_v49 : Ref sig .tc := ⟨.hbm, 79, rfl⟩
abbrev main_v50 : Ref sig .tc := ⟨.hbm, 80, rfl⟩
abbrev main_cst_5 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_6 : Ref sig .tc := ⟨.hbm, 91, rfl⟩
abbrev main_v60 : Ref sig .tc := ⟨.hbm, 92, rfl⟩
abbrev main_v61 : Ref sig .tc := ⟨.hbm, 93, rfl⟩
abbrev main_cst_7 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_8 : Ref sig .tc := ⟨.hbm, 109, rfl⟩
abbrev main_v76 : Ref sig .tc := ⟨.hbm, 110, rfl⟩
abbrev main_v77 : Ref sig .tc := ⟨.hbm, 111, rfl⟩
abbrev main_cst_9 : Ref sig .tc := ⟨.hbm, 112, rfl⟩
abbrev main_v78 : Ref sig .tc := ⟨.hbm, 113, rfl⟩
abbrev main_v79 : Ref sig .tc := ⟨.hbm, 114, rfl⟩
abbrev main_cst_10 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_11 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call1_v0 : Ref sig .tc := ⟨.hbm, 136, rfl⟩
abbrev main_call1_v1 : Ref sig .tc := ⟨.hbm, 137, rfl⟩
abbrev main_call1_cst : Ref sig .tc := ⟨.hbm, 138, rfl⟩
abbrev main_call1_v2 : Ref sig .tc := ⟨.hbm, 139, rfl⟩
abbrev main_call1_v3 : Ref sig .tc := ⟨.hbm, 140, rfl⟩
abbrev main_call1_cst_0 : Ref sig .tc := ⟨.hbm, 141, rfl⟩
abbrev main_call1_v4 : Ref sig .tc := ⟨.hbm, 142, rfl⟩
abbrev main_call1_v5 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call2_v0 : Ref sig .tc := ⟨.hbm, 150, rfl⟩
abbrev main_call2_v1 : Ref sig .tc := ⟨.hbm, 151, rfl⟩
abbrev main_call2_cst : Ref sig .tc := ⟨.hbm, 152, rfl⟩
abbrev main_call2_v2 : Ref sig .tc := ⟨.hbm, 153, rfl⟩
abbrev main_call2_v3 : Ref sig .tc := ⟨.hbm, 154, rfl⟩
abbrev main_call2_cst_0 : Ref sig .tc := ⟨.hbm, 155, rfl⟩
abbrev main_call2_v4 : Ref sig .tc := ⟨.hbm, 156, rfl⟩
abbrev main_call2_v5 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_12 : Ref sig .tc := ⟨.hbm, 177, rfl⟩
abbrev main_v124 : Ref sig .tc := ⟨.hbm, 178, rfl⟩
abbrev main_v125 : Ref sig .tc := ⟨.hbm, 179, rfl⟩
abbrev main_cst_13 : Ref sig .tc := ⟨.hbm, 180, rfl⟩
abbrev main_v126 : Ref sig .tc := ⟨.hbm, 181, rfl⟩
abbrev main_v127 : Ref sig .tc := ⟨.hbm, 182, rfl⟩
abbrev main_cst_14 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_15 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩

abbrev nD : Nat := 1
abbrev τ : Topo := Topo.v7x

variable {F : FTy → Type} [FloatOps F]
-- ==== Start.lean ====
abbrev S4x8192x1024 : Shape := ⟨3, ![4, 8192, 1024]⟩
abbrev S4x1024 : Shape := ⟨2, ![4, 1024]⟩
abbrev S4x256x1024 : Shape := ⟨3, ![4, 256, 1024]⟩
abbrev S1024 : Shape := ⟨1, ![1024]⟩
abbrev S2x1024x6144 : Shape := ⟨3, ![2, 1024, 6144]⟩
abbrev S2x6144 : Shape := ⟨2, ![2, 6144]⟩
abbrev S2x1024 : Shape := ⟨2, ![2, 1024]⟩
abbrev S2x1024x6688 : Shape := ⟨3, ![2, 1024, 6688]⟩
abbrev S256 : Shape := ⟨1, ![256]⟩
abbrev S_ : Shape := ⟨0, ![]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S128x512 : Shape := ⟨2, ![128, 512]⟩
abbrev S64x512 : Shape := ⟨2, ![64, 512]⟩
abbrev S128x1x512 : Shape := ⟨3, ![128, 1, 512]⟩
abbrev S128x64x512 : Shape := ⟨3, ![128, 64, 512]⟩
abbrev S1x64x512 : Shape := ⟨3, ![1, 64, 512]⟩
abbrev S128x64x1024 : Shape := ⟨3, ![128, 64, 1024]⟩
abbrev S8192x1024 : Shape := ⟨2, ![8192, 1024]⟩
abbrev S1x8192x1024 : Shape := ⟨3, ![1, 8192, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S4x6144 : Shape := ⟨2, ![4, 6144]⟩
abbrev S4x1x6144 : Shape := ⟨3, ![4, 1, 6144]⟩
abbrev S4x1x1024 : Shape := ⟨3, ![4, 1, 1024]⟩
abbrev S1x1x6144 : Shape := ⟨3, ![1, 1, 6144]⟩
abbrev S1x1x1024 : Shape := ⟨3, ![1, 1, 1024]⟩
abbrev S1x1024 : Shape := ⟨2, ![1, 1024]⟩
abbrev S4x8192 : Shape := ⟨2, ![4, 8192]⟩
abbrev S4x8192x1 : Shape := ⟨3, ![4, 8192, 1]⟩
abbrev S4x256 : Shape := ⟨2, ![4, 256]⟩
abbrev S4x256x1 : Shape := ⟨3, ![4, 256, 1]⟩
abbrev S1x1024x6688 : Shape := ⟨3, ![1, 1024, 6688]⟩
abbrev S1024x6688 : Shape := ⟨2, ![1024, 6688]⟩
abbrev S32768x1024 : Shape := ⟨2, ![32768, 1024]⟩
abbrev S32768x6688 : Shape := ⟨2, ![32768, 6688]⟩
abbrev S512x1024 : Shape := ⟨2, ![512, 1024]⟩
abbrev S512x6688 : Shape := ⟨2, ![512, 6688]⟩
abbrev S4x8192x6688 : Shape := ⟨3, ![4, 8192, 6688]⟩
abbrev S1024x1024 : Shape := ⟨2, ![1024, 1024]⟩
abbrev S4x256x6688 : Shape := ⟨3, ![4, 256, 6688]⟩

abbrev nBuf : Space → Nat
  | .hbm => 153
  | .vmem => 10
  | .smem => 0
  | _ => 0

abbrev hbmTy0_0 (i : Nat) : BufTy := match i % 128 with
  | 0 => ⟨S4x8192x1024, .f32⟩
  | 1 => ⟨S4x1024, .f32⟩
  | 2 => ⟨S4x256x1024, .f32⟩
  | 3 => ⟨S1024, .f32⟩
  | 4 => ⟨S2x1024x6144, .f32⟩
  | 5 => ⟨S2x6144, .f32⟩
  | 6 => ⟨S2x1024, .f32⟩
  | 7 => ⟨S2x1024x6688, .f32⟩
  | 8 => ⟨S256, .f32⟩
  | 9 => ⟨S_, .f32⟩
  | 10 => ⟨S256, .f32⟩
  | 11 => ⟨S256, .f32⟩
  | 12 => ⟨S_, .f32⟩
  | 13 => ⟨S256, .f32⟩
  | 14 => ⟨S256, .f32⟩
  | 15 => ⟨S_, .f32⟩
  | 16 => ⟨S256, .f32⟩
  | 17 => ⟨S256, .f32⟩
  | 18 => ⟨S128, .f32⟩
  | 19 => ⟨S128x1, .f32⟩
  | 20 => ⟨S1x256, .f32⟩
  | 21 => ⟨S128x256, .f32⟩
  | 22 => ⟨S128x256, .f32⟩
  | 23 => ⟨S128x256, .f32⟩
  | 24 => ⟨S64, .f32⟩
  | 25 => ⟨S64x1, .f32⟩
  | 26 => ⟨S1x256, .f32⟩
  | 27 => ⟨S64x256, .f32⟩
  | 28 => ⟨S64x256, .f32⟩
  | 29 => ⟨S64x256, .f32⟩
  | 30 => ⟨S128x256, .f32⟩
  | 31 => ⟨S128x256, .f32⟩
  | 32 => ⟨S128x512, .f32⟩
  | 33 => ⟨S64x256, .f32⟩
  | 34 => ⟨S64x256, .f32⟩
  | 35 => ⟨S64x512, .f32⟩
  | 36 => ⟨S128x1x512, .f32⟩
  | 37 => ⟨S128x64x512, .f32⟩
  | 38 => ⟨S1x64x512, .f32⟩
  | 39 => ⟨S128x64x512, .f32⟩
  | 40 => ⟨S128x64x1024, .f32⟩
  | 41 => ⟨S8192x1024, .f32⟩
  | 42 => ⟨S1x8192x1024, .f32⟩
  | 43 => ⟨S4x8192x1024, .f32⟩
  | 44 => ⟨S4x8192x1024, .f32⟩
  | 45 => ⟨S1x1024x6144, .f32⟩
  | 46 => ⟨S1024x6144, .f32⟩
  | 47 => ⟨S1x6144, .f32⟩
  | 48 => ⟨S6144, .f32⟩
  | 49 => ⟨S4x1024, .f32⟩
  | 50 => ⟨S4x1024, .f32⟩
  | 51 => ⟨S_, .f32⟩
  | 52 => ⟨S4x1024, .f32⟩
  | 53 => ⟨S4x1024, .f32⟩
  | 54 => ⟨S_, .f32⟩
  | 55 => ⟨S4x1024, .f32⟩
  | 56 => ⟨S4x1024, .f32⟩
  | 57 => ⟨S4x1024, .f32⟩
  | 58 => ⟨S4x6144, .f32⟩
  | 59 => ⟨S1x6144, .f32⟩
  | 60 => ⟨S4x6144, .f32⟩
  | 61 => ⟨S4x6144, .f32⟩
  | 62 => ⟨S4x1x6144, .f32⟩
  | 63 => ⟨S4x1x1024, .f32⟩
  | 64 => ⟨S4x1x1024, .f32⟩
  | 65 => ⟨S4x1x1024, .f32⟩
  | 66 => ⟨S4x1x1024, .f32⟩
  | 67 => ⟨S4x1x1024, .f32⟩
  | 68 => ⟨S4x1x1024, .f32⟩
  | 69 => ⟨S1x1024x6144, .f32⟩
  | 70 => ⟨S1024x6144, .f32⟩
  | 71 => ⟨S1x6144, .f32⟩
  | 72 => ⟨S6144, .f32⟩
  | 73 => ⟨S1024, .f32⟩
  | 74 => ⟨S1024, .f32⟩
  | 75 => ⟨S_, .f32⟩
  | 76 => ⟨S1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S6144, .f32⟩
  | 83 => ⟨S6144, .f32⟩
  | 84 => ⟨S1x1x6144, .f32⟩
  | 85 => ⟨S1x1x1024, .f32⟩
  | 86 => ⟨S1x1x1024, .f32⟩
  | 87 => ⟨S1x1x1024, .f32⟩
  | 88 => ⟨S1x1x1024, .f32⟩
  | 89 => ⟨S1x1x1024, .f32⟩
  | 90 => ⟨S1x1x1024, .f32⟩
  | 91 => ⟨S1x1024, .f32⟩
  | 92 => ⟨S1024, .f32⟩
  | 93 => ⟨S4x8192x1024, .f32⟩
  | 94 => ⟨S_, .f32⟩
  | 95 => ⟨S4x8192, .f32⟩
  | 96 => ⟨S4x8192x1, .f32⟩
  | 97 => ⟨S_, .f32⟩
  | 98 => ⟨S4x8192x1, .f32⟩
  | 99 => ⟨S4x8192x1, .f32⟩
  | 100 => ⟨S_, .f32⟩
  | 101 => ⟨S4x8192x1, .f32⟩
  | 102 => ⟨S4x8192x1, .f32⟩
  | 103 => ⟨S4x8192x1, .f32⟩
  | 104 => ⟨S4x8192x1024, .f32⟩
  | 105 => ⟨S4x8192x1024, .f32⟩
  | 106 => ⟨S1x1x1024, .f32⟩
  | 107 => ⟨S4x8192x1024, .f32⟩
  | 108 => ⟨S4x8192x1024, .f32⟩
  | 109 => ⟨S_, .f32⟩
  | 110 => ⟨S4x1x1024, .f32⟩
  | 111 => ⟨S4x1x1024, .f32⟩
  | 112 => ⟨S4x8192x1024, .f32⟩
  | 113 => ⟨S4x8192x1024, .f32⟩
  | 114 => ⟨S4x8192x1024, .f32⟩
  | 115 => ⟨S4x8192x1024, .f32⟩
  | 116 => ⟨S1x1024, .f32⟩
  | 117 => ⟨S1024, .f32⟩
  | 118 => ⟨S4x256x1024, .f32⟩
  | 119 => ⟨S_, .f32⟩
  | 120 => ⟨S4x256, .f32⟩
  | 121 => ⟨S4x256x1, .f32⟩
  | 122 => ⟨S_, .f32⟩
  | 123 => ⟨S4x256x1, .f32⟩
  | 124 => ⟨S4x256x1, .f32⟩
  | 125 => ⟨S_, .f32⟩
  | 126 => ⟨S4x256x1, .f32⟩
  | 127 => ⟨S4x256x1, .f32⟩
  | _ => ⟨S4x8192x1024, .f32⟩

abbrev hbmTy0_1 (i : Nat) : BufTy := match i % 128 with
  | 0 => ⟨S4x256x1, .f32⟩
  | 1 => ⟨S4x256x1024, .f32⟩
  | 2 => ⟨S4x256x1024, .f32⟩
  | 3 => ⟨S1x1x1024, .f32⟩
  | 4 => ⟨S4x256x1024, .f32⟩
  | 5 => ⟨S4x256x1024, .f32⟩
  | 6 => ⟨S_, .f32⟩
  | 7 => ⟨S1x1x1024, .f32⟩
  | 8 => ⟨S1x1x1024, .f32⟩
  | 9 => ⟨S4x256x1024, .f32⟩
  | 10 => ⟨S4x256x1024, .f32⟩
  | 11 => ⟨S4x256x1024, .f32⟩
  | 12 => ⟨S4x256x1024, .f32⟩
  | 13 => ⟨S1x1024x6688, .f32⟩
  | 14 => ⟨S1024x6688, .f32⟩
  | 15 => ⟨S32768x1024, .f32⟩
  | 16 => ⟨S1024x6688, .bf16⟩
  | 17 => ⟨S32768x6688, .f32⟩
  | 18 => ⟨S4x8192x6688, .f32⟩
  | 19 => ⟨S1x1024x6688, .f32⟩
  | 20 => ⟨S1024x6688, .f32⟩
  | 21 => ⟨S1024x1024, .f32⟩
  | 22 => ⟨S1024x6688, .bf16⟩
  | 23 => ⟨S1024x6688, .f32⟩
  | 24 => ⟨S4x256x6688, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x6688, .bf16⟩
  | .local _ .vmem, ⟨3, _⟩ => ⟨S512x6688, .f32⟩
  | .local _ .vmem, ⟨4, _⟩ => ⟨S512x6688, .f32⟩
  | .local _ .vmem, ⟨5, _⟩ => ⟨S512x1024, .f32⟩
  | .local _ .vmem, ⟨6, _⟩ => ⟨S512x1024, .f32⟩
  | .local _ .vmem, ⟨7, _⟩ => ⟨S1024x6688, .bf16⟩
  | .local _ .vmem, ⟨8, _⟩ => ⟨S512x6688, .f32⟩
  | .local _ .vmem, ⟨9, _⟩ => ⟨S512x6688, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_2 : Ref sig .tc := ⟨.hbm, 94, rfl⟩
abbrev main_v67 : Ref sig .tc := ⟨.hbm, 95, rfl⟩
abbrev main_v68 : Ref sig .tc := ⟨.hbm, 96, rfl⟩
abbrev main_cst_3 : Ref sig .tc := ⟨.hbm, 97, rfl⟩
abbrev main_v69 : Ref sig .tc := ⟨.hbm, 98, rfl⟩
abbrev main_v70 : Ref sig .tc := ⟨.hbm, 99, rfl⟩
abbrev main_cst_4 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_5 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_6 : Ref sig .tc := ⟨.hbm, 119, rfl⟩
abbrev main_v88 : Ref sig .tc := ⟨.hbm, 120, rfl⟩
abbrev main_v89 : Ref sig .tc := ⟨.hbm, 121, rfl⟩
abbrev main_cst_7 : Ref sig .tc := ⟨.hbm, 122, rfl⟩
abbrev main_v90 : Ref sig .tc := ⟨.hbm, 123, rfl⟩
abbrev main_v91 : Ref sig .tc := ⟨.hbm, 124, rfl⟩
abbrev main_cst_8 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_9 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x6688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x6688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x6688 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x6688 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== StartRefIdeal.lean ====
abbrev S4x8192x1024 : Shape := ⟨3, ![4, 8192, 1024]⟩
abbrev S4x1024 : Shape := ⟨2, ![4, 1024]⟩
abbrev S4x256x1024 : Shape := ⟨3, ![4, 256, 1024]⟩
abbrev S1024 : Shape := ⟨1, ![1024]⟩
abbrev S2x1024x6144 : Shape := ⟨3, ![2, 1024, 6144]⟩
abbrev S2x6144 : Shape := ⟨2, ![2, 6144]⟩
abbrev S2x1024 : Shape := ⟨2, ![2, 1024]⟩
abbrev S2x1024x6688 : Shape := ⟨3, ![2, 1024, 6688]⟩
abbrev S256 : Shape := ⟨1, ![256]⟩
abbrev S_ : Shape := ⟨0, ![]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S128x512 : Shape := ⟨2, ![128, 512]⟩
abbrev S64x512 : Shape := ⟨2, ![64, 512]⟩
abbrev S128x1x512 : Shape := ⟨3, ![128, 1, 512]⟩
abbrev S128x64x512 : Shape := ⟨3, ![128, 64, 512]⟩
abbrev S1x64x512 : Shape := ⟨3, ![1, 64, 512]⟩
abbrev S128x64x1024 : Shape := ⟨3, ![128, 64, 1024]⟩
abbrev S8192x1024 : Shape := ⟨2, ![8192, 1024]⟩
abbrev S1x8192x1024 : Shape := ⟨3, ![1, 8192, 1024]⟩
abbrev S1x1024x6144 : Shape := ⟨3, ![1, 1024, 6144]⟩
abbrev S1024x6144 : Shape := ⟨2, ![1024, 6144]⟩
abbrev S4x6144 : Shape := ⟨2, ![4, 6144]⟩
abbrev S1x6144 : Shape := ⟨2, ![1, 6144]⟩
abbrev S6144 : Shape := ⟨1, ![6144]⟩
abbrev S4x1x6144 : Shape := ⟨3, ![4, 1, 6144]⟩
abbrev S4x1x1024 : Shape := ⟨3, ![4, 1, 1024]⟩
abbrev S1x1024 : Shape := ⟨2, ![1, 1024]⟩
abbrev S4x8192 : Shape := ⟨2, ![4, 8192]⟩
abbrev S4x8192x1 : Shape := ⟨3, ![4, 8192, 1]⟩
abbrev S1x1x1024 : Shape := ⟨3, ![1, 1, 1024]⟩
abbrev S1x1x6144 : Shape := ⟨3, ![1, 1, 6144]⟩
abbrev S4x256 : Shape := ⟨2, ![4, 256]⟩
abbrev S4x256x1 : Shape := ⟨3, ![4, 256, 1]⟩
abbrev S1x1024x6688 : Shape := ⟨3, ![1, 1024, 6688]⟩
abbrev S1024x6688 : Shape := ⟨2, ![1024, 6688]⟩
abbrev S4x8192x6688 : Shape := ⟨3, ![4, 8192, 6688]⟩
abbrev S4x256x6688 : Shape := ⟨3, ![4, 256, 6688]⟩

abbrev nBuf : Space → Nat
  | .hbm => 147
  | .vmem => 0
  | .smem => 0
  | _ => 0

abbrev hbmTy0_0 (i : Nat) : BufTy := match i % 128 with
  | 0 => ⟨S4x8192x1024, .f32⟩
  | 1 => ⟨S4x1024, .f32⟩
  | 2 => ⟨S4x256x1024, .f32⟩
  | 3 => ⟨S1024, .f32⟩
  | 4 => ⟨S2x1024x6144, .f32⟩
  | 5 => ⟨S2x6144, .f32⟩
  | 6 => ⟨S2x1024, .f32⟩
  | 7 => ⟨S2x1024x6688, .f32⟩
  | 8 => ⟨S256, .f32⟩
  | 9 => ⟨S_, .f32⟩
  | 10 => ⟨S256, .f32⟩
  | 11 => ⟨S256, .f32⟩
  | 12 => ⟨S_, .f32⟩
  | 13 => ⟨S256, .f32⟩
  | 14 => ⟨S256, .f32⟩
  | 15 => ⟨S_, .f32⟩
  | 16 => ⟨S256, .f32⟩
  | 17 => ⟨S256, .f32⟩
  | 18 => ⟨S128, .f32⟩
  | 19 => ⟨S128x1, .f32⟩
  | 20 => ⟨S1x256, .f32⟩
  | 21 => ⟨S128x256, .f32⟩
  | 22 => ⟨S128x256, .f32⟩
  | 23 => ⟨S128x256, .f32⟩
  | 24 => ⟨S64, .f32⟩
  | 25 => ⟨S64x1, .f32⟩
  | 26 => ⟨S1x256, .f32⟩
  | 27 => ⟨S64x256, .f32⟩
  | 28 => ⟨S64x256, .f32⟩
  | 29 => ⟨S64x256, .f32⟩
  | 30 => ⟨S128x256, .f32⟩
  | 31 => ⟨S128x256, .f32⟩
  | 32 => ⟨S128x512, .f32⟩
  | 33 => ⟨S64x256, .f32⟩
  | 34 => ⟨S64x256, .f32⟩
  | 35 => ⟨S64x512, .f32⟩
  | 36 => ⟨S128x1x512, .f32⟩
  | 37 => ⟨S128x64x512, .f32⟩
  | 38 => ⟨S1x64x512, .f32⟩
  | 39 => ⟨S128x64x512, .f32⟩
  | 40 => ⟨S128x64x1024, .f32⟩
  | 41 => ⟨S8192x1024, .f32⟩
  | 42 => ⟨S1x8192x1024, .f32⟩
  | 43 => ⟨S4x8192x1024, .f32⟩
  | 44 => ⟨S4x8192x1024, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S_, .f32⟩
  | 51 => ⟨S4x1024, .f32⟩
  | 52 => ⟨S4x1024, .f32⟩
  | 53 => ⟨S4x1024, .f32⟩
  | 54 => ⟨S1x1024x6144, .f32⟩
  | 55 => ⟨S1024x6144, .f32⟩
  | 56 => ⟨S4x6144, .f32⟩
  | 57 => ⟨S1x6144, .f32⟩
  | 58 => ⟨S6144, .f32⟩
  | 59 => ⟨S1x6144, .f32⟩
  | 60 => ⟨S4x6144, .f32⟩
  | 61 => ⟨S4x6144, .f32⟩
  | 62 => ⟨S4x1x6144, .f32⟩
  | 63 => ⟨S4x1x1024, .f32⟩
  | 64 => ⟨S4x1x1024, .f32⟩
  | 65 => ⟨S4x1x1024, .f32⟩
  | 66 => ⟨S4x1x1024, .f32⟩
  | 67 => ⟨S4x1x1024, .f32⟩
  | 68 => ⟨S4x1x1024, .f32⟩
  | 69 => ⟨S1x1024, .f32⟩
  | 70 => ⟨S1024, .f32⟩
  | 71 => ⟨S4x8192x1024, .f32⟩
  | 72 => ⟨S_, .f32⟩
  | 73 => ⟨S4x8192, .f32⟩
  | 74 => ⟨S4x8192x1, .f32⟩
  | 75 => ⟨S_, .f32⟩
  | 76 => ⟨S4x8192x1, .f32⟩
  | 77 => ⟨S4x8192x1, .f32⟩
  | 78 => ⟨S_, .f32⟩
  | 79 => ⟨S4x8192x1, .f32⟩
  | 80 => ⟨S4x8192x1, .f32⟩
  | 81 => ⟨S4x8192x1, .f32⟩
  | 82 => ⟨S4x8192x1024, .f32⟩
  | 83 => ⟨S4x8192x1024, .f32⟩
  | 84 => ⟨S1x1x1024, .f32⟩
  | 85 => ⟨S4x8192x1024, .f32⟩
  | 86 => ⟨S4x8192x1024, .f32⟩
  | 87 => ⟨S_, .f32⟩
  | 88 => ⟨S4x1x1024, .f32⟩
  | 89 => ⟨S4x1x1024, .f32⟩
  | 90 => ⟨S4x8192x1024, .f32⟩
  | 91 => ⟨S4x8192x1024, .f32⟩
  | 92 => ⟨S4x8192x1024, .f32⟩
  | 93 => ⟨S4x8192x1024, .f32⟩
  | 94 => ⟨S1024, .f32⟩
  | 95 => ⟨S1024, .f32⟩
  | 96 => ⟨S_, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S1x1024x6144, .f32⟩
  | 104 => ⟨S1024x6144, .f32⟩
  | 105 => ⟨S6144, .f32⟩
  | 106 => ⟨S1x6144, .f32⟩
  | 107 => ⟨S6144, .f32⟩
  | 108 => ⟨S6144, .f32⟩
  | 109 => ⟨S1x1x6144, .f32⟩
  | 110 => ⟨S1x1x1024, .f32⟩
  | 111 => ⟨S1x1x1024, .f32⟩
  | 112 => ⟨S1x1x1024, .f32⟩
  | 113 => ⟨S1x1x1024, .f32⟩
  | 114 => ⟨S1x1x1024, .f32⟩
  | 115 => ⟨S1x1x1024, .f32⟩
  | 116 => ⟨S1x1024, .f32⟩
  | 117 => ⟨S1024, .f32⟩
  | 118 => ⟨S4x256x1024, .f32⟩
  | 119 => ⟨S_, .f32⟩
  | 120 => ⟨S4x256, .f32⟩
  | 121 => ⟨S4x256x1, .f32⟩
  | 122 => ⟨S_, .f32⟩
  | 123 => ⟨S4x256x1, .f32⟩
  | 124 => ⟨S4x256x1, .f32⟩
  | 125 => ⟨S_, .f32⟩
  | 126 => ⟨S4x256x1, .f32⟩
  | 127 => ⟨S4x256x1, .f32⟩
  | _ => ⟨S4x8192x1024, .f32⟩

abbrev hbmTy0_1 (i : Nat) : BufTy := match i % 128 with
  | 0 => ⟨S4x256x1, .f32⟩
  | 1 => ⟨S4x256x1024, .f32⟩
  | 2 => ⟨S4x256x1024, .f32⟩
  | 3 => ⟨S1x1x1024, .f32⟩
  | 4 => ⟨S4x256x1024, .f32⟩
  | 5 => ⟨S4x256x1024, .f32⟩
  | 6 => ⟨S_, .f32⟩
  | 7 => ⟨S1x1x1024, .f32⟩
  | 8 => ⟨S1x1x1024, .f32⟩
  | 9 => ⟨S4x256x1024, .f32⟩
  | 10 => ⟨S4x256x1024, .f32⟩
  | 11 => ⟨S4x256x1024, .f32⟩
  | 12 => ⟨S4x256x1024, .f32⟩
  | 13 => ⟨S1x1024x6688, .f32⟩
  | 14 => ⟨S1024x6688, .f32⟩
  | 15 => ⟨S4x8192x6688, .f32⟩
  | 16 => ⟨S1x1024x6688, .f32⟩
  | 17 => ⟨S1024x6688, .f32⟩
  | 18 => ⟨S4x256x6688, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_2 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_cst_4 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_6 : Ref sig .tc := ⟨.hbm, 119, rfl⟩
abbrev main_v88 : Ref sig .tc := ⟨.hbm, 120, rfl⟩
abbrev main_v89 : Ref sig .tc := ⟨.hbm, 121, rfl⟩
abbrev main_cst_7 : Ref sig .tc := ⟨.hbm, 122, rfl⟩
abbrev main_v90 : Ref sig .tc := ⟨.hbm, 123, rfl⟩
abbrev main_v91 : Ref sig .tc := ⟨.hbm, 124, rfl⟩
abbrev main_cst_8 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_9 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩

abbrev nD : Nat := 1
abbrev τ : Topo := Topo.v7x

variable {F : FTy → Type} [FloatOps F]
-- ==== Five.lean ====
abbrev S4x8192x256 : Shape := ⟨3, ![4, 8192, 256]⟩
abbrev S512x4x4096 : Shape := ⟨3, ![512, 4, 4096]⟩
abbrev S4096x4096 : Shape := ⟨2, ![4096, 4096]⟩
abbrev S256x256 : Shape := ⟨2, ![256, 256]⟩
abbrev S256 : Shape := ⟨1, ![256]⟩
abbrev S4x512x4096 : Shape := ⟨3, ![4, 512, 4096]⟩
abbrev S2048x4096 : Shape := ⟨2, ![2048, 4096]⟩
abbrev S256x4096 : Shape := ⟨2, ![256, 4096]⟩
abbrev S4096x1024 : Shape := ⟨2, ![4096, 1024]⟩
abbrev S256x1024 : Shape := ⟨2, ![256, 1024]⟩
abbrev S4096x512 : Shape := ⟨2, ![4096, 512]⟩
abbrev S256x512 : Shape := ⟨2, ![256, 512]⟩
abbrev S512x4x16x256 : Shape := ⟨4, ![512, 4, 16, 256]⟩
abbrev S4x512x16x256 : Shape := ⟨4, ![4, 512, 16, 256]⟩
abbrev S_ : Shape := ⟨0, ![]⟩
abbrev S32768x256 : Shape := ⟨2, ![32768, 256]⟩
abbrev S512x256 : Shape := ⟨2, ![512, 256]⟩
abbrev S1x1x256 : Shape := ⟨3, ![1, 1, 256]⟩

abbrev nBuf : Space → Nat
  | .hbm => 53
  | .vmem => 21
  | .smem => 0
  | _ => 0

abbrev bufTy : (tb : Table) → Fin (tcTables nBuf tb) → BufTy
  | .hbm, ⟨0, _⟩ => ⟨S4x8192x256, .f32⟩
  | .hbm, ⟨1, _⟩ => ⟨S512x4x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S256x256, .f32⟩
  | .hbm, ⟨6, _⟩ => ⟨S256, .f32⟩
  | .hbm, ⟨7, _⟩ => ⟨S4x512x4096, .f32⟩
  | .hbm, ⟨8, _⟩ => ⟨S512x4x4096, .f32⟩
  | .hbm, ⟨9, _⟩ => ⟨S2048x4096, .f32⟩
  | .hbm, ⟨10, _⟩ => ⟨S4096x4096, .bf16⟩
  | .hbm, ⟨11, _⟩ => ⟨S2048x4096, .f32⟩
  | .hbm, ⟨12, _⟩ => ⟨S2048x4096, .f32⟩
  | .hbm, ⟨13, _⟩ => ⟨S4096x4096, .bf16⟩
  | .hbm, ⟨14, _⟩ => ⟨S4096x4096, .bf16⟩
  | .hbm, ⟨15, _⟩ => ⟨S2048x4096, .f32⟩
  | .hbm, ⟨16, _⟩ => ⟨S512x4x16x256, .f32⟩
  | .hbm, ⟨17, _⟩ => ⟨S4x512x16x256, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192x256, .f32⟩
  | .hbm, ⟨27, _⟩ => ⟨S4x8192x256, .f32⟩
  | .hbm, ⟨28, _⟩ => ⟨S4x8192x256, .f32⟩
  | .hbm, ⟨29, _⟩ => ⟨S_, .f32⟩
  | .hbm, ⟨30, _⟩ => ⟨S4x8192x256, .f32⟩
  | .hbm, ⟨31, _⟩ => ⟨S4x8192x256, .f32⟩
  | .hbm, ⟨32, _⟩ => ⟨S_, .f32⟩
  | .hbm, ⟨33, _⟩ => ⟨S4x8192x256, .f32⟩
  | .hbm, ⟨34, _⟩ => ⟨S4x8192x256, .f32⟩
  | .hbm, ⟨35, _⟩ => ⟨S4x8192x256, .f32⟩
  | .hbm, ⟨36, _⟩ => ⟨S512x4x4096, .f32⟩
  | .hbm, ⟨37, _⟩ => ⟨S32768x256, .f32⟩
  | .hbm, ⟨38, _⟩ => ⟨S256x256, .bf16⟩
  | .hbm, ⟨39, _⟩ => ⟨S32768x256, .f32⟩
  | .hbm, ⟨40, _⟩ => ⟨S4x8192x256, .f32⟩
  | .hbm, ⟨41, _⟩ => ⟨S1x1x256, .f32⟩
  | .hbm, ⟨42, _⟩ => ⟨S4x8192x256, .f32⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192x256, .f32⟩
  | .hbm, ⟨48, _⟩ => ⟨S4x8192x256, .f32⟩
  | .hbm, ⟨49, _⟩ => ⟨S_, .f32⟩
  | .hbm, ⟨50, _⟩ => ⟨S4x8192x256, .f32⟩
  | .hbm, ⟨51, _⟩ => ⟨S4x8192x256, .f32⟩
  | .hbm, ⟨52, _⟩ => ⟨S4x8192x256, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S256x512, .f32⟩
  | .local _ .vmem, ⟨15, _⟩ => ⟨S256x512, .f32⟩
  | .local _ .vmem, ⟨16, _⟩ => ⟨S512x256, .f32⟩
  | .local _ .vmem, ⟨17, _⟩ => ⟨S512x256, .f32⟩
  | .local _ .vmem, ⟨18, _⟩ => ⟨S256x256, .bf16⟩
  | .local _ .vmem, ⟨19, _⟩ => ⟨S512x256, .f32⟩
  | .local _ .vmem, ⟨20, _⟩ => ⟨S512x256, .f32⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![64, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== FiveRefIdeal.lean ====
abbrev S4x8192x256 : Shape := ⟨3, ![4, 8192, 256]⟩
abbrev S512x4x4096 : Shape := ⟨3, ![512, 4, 4096]⟩
abbrev S4096x4096 : Shape := ⟨2, ![4096, 4096]⟩
abbrev S256x256 : Shape := ⟨2, ![256, 256]⟩
abbrev S256 : Shape := ⟨1, ![256]⟩
abbrev S4x512x4096 : Shape := ⟨3, ![4, 512, 4096]⟩
abbrev S512x4x16x256 : Shape := ⟨4, ![512, 4, 16, 256]⟩
abbrev S4x512x16x256 : Shape := ⟨4, ![4, 512, 16, 256]⟩
abbrev S_ : Shape := ⟨0, ![]⟩
abbrev S1x1x256 : Shape := ⟨3, ![1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x256, .f32⟩
  | .hbm, ⟨1, _⟩ => ⟨S512x4x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S256x256, .f32⟩
  | .hbm, ⟨6, _⟩ => ⟨S256, .f32⟩
  | .hbm, ⟨7, _⟩ => ⟨S4x512x4096, .f32⟩
  | .hbm, ⟨8, _⟩ => ⟨S512x4x4096, .f32⟩
  | .hbm, ⟨9, _⟩ => ⟨S512x4x4096, .f32⟩
  | .hbm, ⟨10, _⟩ => ⟨S512x4x4096, .f32⟩
  | .hbm, ⟨11, _⟩ => ⟨S512x4x4096, .f32⟩
  | .hbm, ⟨12, _⟩ => ⟨S512x4x16x256, .f32⟩
  | .hbm, ⟨13, _⟩ => ⟨S4x512x16x256, .f32⟩
  | .hbm, ⟨14, _⟩ => ⟨S4x8192x256, .f32⟩
  | .hbm, ⟨15, _⟩ => ⟨S4x8192x256, .f32⟩
  | .hbm, ⟨16, _⟩ => ⟨S4x8192x256, .f32⟩
  | .hbm, ⟨17, _⟩ => ⟨S_, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192x256, .f32⟩
  | .hbm, ⟨27, _⟩ => ⟨S4x8192x256, .f32⟩
  | .hbm, ⟨28, _⟩ => ⟨S_, .f32⟩
  | .hbm, ⟨29, _⟩ => ⟨S4x8192x256, .f32⟩
  | .hbm, ⟨30, _⟩ => ⟨S4x8192x256, .f32⟩
  | .hbm, ⟨31, _⟩ => ⟨S4x8192x256, .f32⟩
  | .hbm, ⟨32, _⟩ => ⟨S512x4x4096, .f32⟩
  | .hbm, ⟨33, _⟩ => ⟨S4x8192x256, .f32⟩
  | .hbm, ⟨34, _⟩ => ⟨S1x1x256, .f32⟩
  | .hbm, ⟨35, _⟩ => ⟨S4x8192x256, .f32⟩
  | .hbm, ⟨36, _⟩ => ⟨S4x8192x256, .f32⟩
  | .hbm, ⟨37, _⟩ => ⟨S4x8192x256, .f32⟩
  | .hbm, ⟨38, _⟩ => ⟨S4x8192x256, .f32⟩
  | .hbm, ⟨39, _⟩ => ⟨S_, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192x256, .f32⟩
  | .hbm, ⟨44, _⟩ => ⟨S4x8192x256, .f32⟩
  | .hbm, ⟨45, _⟩ => ⟨S4x8192x256, .f32⟩
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Recur.lean ====
module

public import Idealize.ShloMosaic.Lib.ValueIdx

@[expose] public section

noncomputable section

namespace Cert.Recur

open Idealize.ShloMosaic Idealize.ShloMosaic.ValueIdx

/-! # The recurrence, as mathematics

A gated linear recurrence over 8192 times for four sequences of 256 channels: `h ← a_t · h + b_t`, elementwise. Both the
kernel and the plain loop are compared with `states`. -/

variable {F : FTy → Type} [FloatOps F]

/-- The slice of a sequence array at time `n`. -/
def slice (x : Vec F ⟨3, ![4, 8192, 256]⟩ .f32) (n : ℕ) : Vec F ⟨2, ![4, 256]⟩ .f32 :=
  fun y => x (ix3 (y 0) (⟨n % 8192, Nat.mod_lt _ (by decide)⟩ : Fin 8192) (y 1))

/-- The state after `n` times, from the initial state `s`. -/
def states (a b : Vec F ⟨3, ![4, 8192, 256]⟩ .f32) (s : Vec F ⟨2, ![4, 256]⟩ .f32) : ℕ → Vec F ⟨2, ![4, 256]⟩ .f32
  | 0 => s
  | n + 1 => addf (mulf (slice a n) (states a b s n)) (slice b n)

/-- All the states, in the sequences' own layout: at time `n` the state after `n + 1` times. -/
def allStates (a b : Vec F ⟨3, ![4, 8192, 256]⟩ .f32) (s : Vec F ⟨2, ![4, 256]⟩ .f32) : Vec F ⟨3, ![4, 8192, 256]⟩ .f32 :=
  fun y => states a b s ((y 1).val + 1) (ix2 (y 0) (y 2))

end Cert.Recur

end
-- ==== Proof.ScanRun.lean ====
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition under which a grid point loads the initial state into the scratch: its one coordinate is zero. -/
abbrev isFirst (i : grid0.Coords) : Prop :=
  (Scalar.cmpi .ne (Scalar.extui (Scalar.cmpi .eq (BitVec.ofNat 32 (i 0).val) 0#32)) 0#32) = 1#1

/-- That condition holds at grid point 0 and at no other. -/
theorem isFirst_iff : ∀ t : Fin cfg0.N, isFirst (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val % 32 = 0)

set_option maxHeartbeats 1000000 in
/-- The body at the first grid point, run on any whole staging buffers: the pieces it leaves in the block of states
    (first), in the final state (second) and in the scratch that carries the state (third). -/
noncomputable def runFirst (c : Dev nD) (i : grid0.Coords) (arg1 : Memref sig .tc .vmem S4x256x256 .f32) (harg1 : arg1.IsWhole) (arg2 : Memref sig .tc .vmem S4x256x256 .f32) (harg2 : arg2.IsWhole) (arg3 : Memref sig .tc .vmem S4x256 .f32) (harg3 : arg3.IsWhole) (arg4 : Memref sig .tc .vmem S4x256x256 .f32) (harg4 : arg4.IsWhole) (arg5 : Memref sig .tc .vmem S4x256 .f32) (harg5 : arg5.IsWhole) (arg6 : Memref sig .tc .vmem S4x256 .f32) (harg6 : arg6.IsWhole)
    (hc0 : isFirst i) (x0 x1 : Vec F S4x256x256 .f32) (x2 : Vec F S4x256 .f32) :
    Σ' (L3 : List (View.Piece (Elt F) S4x256x256 .f32)) (L4 : List (View.Piece (Elt F) S4x256 .f32)), { LS : List (View.Piece (Elt F) S4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__rg_scan_kernel i arg1 harg1 arg2 harg2 arg3 harg3 arg4 harg4 arg5 harg5 arg6 harg6) K } := by
  refine ⟨?_, ?_, ?_, fun E K => ?run⟩
  case run =>
    simp only [cc0__rg_scan_kernel_eq_skeleton]; unfold cc0__rg_scan_kernel_skel
    simp only [k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact HS0

set_option maxHeartbeats 1000000 in
/-- The body at a later grid point, run on any whole staging buffers from the carried state `xs`: the pieces it
    leaves in the block of states, in the final state and in the scratch. -/
noncomputable def runNext (c : Dev nD) (i : grid0.Coords) (arg1 : Memref sig .tc .vmem S4x256x256 .f32) (harg1 : arg1.IsWhole) (arg2 : Memref sig .tc .vmem S4x256x256 .f32) (harg2 : arg2.IsWhole) (arg3 : Memref sig .tc .vmem S4x256 .f32) (harg3 : arg3.IsWhole) (arg4 : Memref sig .tc .vmem S4x256x256 .f32) (harg4 : arg4.IsWhole) (arg5 : Memref sig .tc .vmem S4x256 .f32) (harg5 : arg5.IsWhole) (arg6 : Memref sig .tc .vmem S4x256 .f32) (harg6 : arg6.IsWhole)
    (hc0 : ¬ isFirst i) (x0 x1 : Vec F S4x256x256 .f32) (x2 xs : Vec F S4x256 .f32) :
    Σ' (L3 : List (View.Piece (Elt F) S4x256x256 .f32)) (L4 : List (View.Piece (Elt F) S4x256 .f32)), { LS : List (View.Piece (Elt F) S4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__rg_scan_kernel i arg1 harg1 arg2 harg2 arg3 harg3 arg4 harg4 arg5 harg5 arg6 harg6) K } := by
  refine ⟨?_, ?_, ?_, fun E K => ?run⟩
  case run =>
    simp only [cc0__rg_scan_kernel_eq_skeleton]; unfold cc0__rg_scan_kernel_skel
    simp only [k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact HS0

end Cert.KernelIdeal.Scan

end
-- ==== Proof.ScanSteps.lean ====
module

public import proofs.«01_k».proof.Proof.ScanRun
public import Idealize.ShloMosaic.Lib.ValueLayout
public import Idealize.ShloMosaic.Lib.WritesUnit
public import Idealize.ShloMosaic.Lib.Pipeline.ReadBack

@[expose] public section

set_option maxRecDepth 16384

noncomputable section

namespace Cert.KernelIdeal.Scan

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The recurrence inside one block

One grid point walks the 256 rows of its block and carries the state of the four batch rows. This module names that
walk as a recurrence on whole states (`blockState`) and shows that the loop's carried values and stores are it. -/

/-- Row `b` of a state, as the 1×256 vector the loop carries. -/
def rowOf (s : Vec F S4x256 .f32) (b : Fin 4) : Vec F S1x256 .f32 := fun y => s (ix2 b (y 1))

/-- The time slice `k` of a block. -/
def blockSlice (x : Vec F S4x256x256 .f32) (k : ℕ) : Vec F S4x256 .f32 :=
  fun y => x (ix3 (y 0) (⟨k % 256, Nat.mod_lt _ (by decide)⟩ : Fin 256) (y 1))

/-- The state after `k` rows of a block: decay times the state, plus the input. -/
def blockState (x0 x1 : Vec F S4x256x256 .f32) (s : Vec F S4x256 .f32) : ℕ → Vec F S4x256 .f32
  | 0 => s
  | k + 1 => addf (mulf (blockSlice x0 k) (blockState x0 x1 s k)) (blockSlice x1 k)

/-- The 1×1×256 piece of a block at batch row `b`, time `k`, with its unit axis dropped, is row `b` of the slice. -/
theorem piece_row (m : Memref sig .tc .vmem S4x256x256 .f32) (hm : m.IsWhole) (x : Vec F S4x256x256 .f32)
    (off : Fin 3 → ℕ) (b : Fin 4) (k : ℕ) (hk : k < 256) (ho : off = ![b.val, k, 0])
    (inb : ∀ a, off a + S1x1x256.size a ≤ S4x256x256.size a) :
    shapeCast S1x256 (View.readAt (Elt F) m.view (Rect.unit (s := S4x256x256) off S1x1x256.size inb).toLoadRect (hm.unread x)) shapeCasts_S1x1x256_S1x256
      = rowOf (blockSlice x k) b := by
  subst ho
  funext y
  rw [View.readAt_eq_ld, hm.read_unread]
  obtain ⟨p, q, rfl⟩ : ∃ (p : Fin 1) (q : Fin 256), y = ix2 p q := ⟨y 0, y 1, eq_ix2 y⟩
  refine (shapeCast_1ab_ab_apply _ _ p q).trans ?_
  show x _ = x _
  refine congrArg x (funext fun a => Fin.ext ?_)
  match a with
  | ⟨0, _⟩ => show b.val + 1 * 0 = b.val; omega
  | ⟨1, _⟩ => show k + 1 * p.val = k % 256; rw [Nat.mod_eq_of_lt hk]; omega
  | ⟨2, _⟩ => show 0 + 1 * q.val = q.val; omega

/-- One row's update inside the loop is row `b` of one step of the recurrence. -/
theorem row_step (arg1 : Memref sig .tc .vmem S4x256x256 .f32) (harg1 : arg1.IsWhole) (arg2 : Memref sig .tc .vmem S4x256x256 .f32) (harg2 : arg2.IsWhole)
    (x0 x1 : Vec F S4x256x256 .f32) (s : Vec F S4x256 .f32)
    (off : Fin 3 → ℕ) (b : Fin 4) (k : ℕ) (hk : k < 256) (ho : off = ![b.val, k, 0])
    (inb : ∀ a, off a + S1x1x256.size a ≤ S4x256x256.size a) :
    k0_pay1 (rowOf s b) (View.readAt (Elt F) arg1.view (Rect.unit (s := S4x256x256) off S1x1x256.size inb).toLoadRect (harg1.unread x0))
        (View.readAt (Elt F) arg2.view (Rect.unit (s := S4x256x256) off S1x1x256.size inb).toLoadRect (harg2.unread x1))
      = rowOf (addf (mulf (blockSlice x0 k) s) (blockSlice x1 k)) b := by
  unfold k0_pay1
  rw [piece_row arg1 harg1 x0 off b k hk ho inb, piece_row arg2 harg2 x1 off b k hk ho inb]
  rfl

/-- What one row's store puts at a lane: the row's new state there. -/
theorem row_store (arg1 : Memref sig .tc .vmem S4x256x256 .f32) (harg1 : arg1.IsWhole) (arg2 : Memref sig .tc .vmem S4x256x256 .f32) (harg2 : arg2.IsWhole)
    (x0 x1 : Vec F S4x256x256 .f32) (s : Vec F S4x256 .f32)
    (off : Fin 3 → ℕ) (b : Fin 4) (k : ℕ) (hk : k < 256) (ho : off = ![b.val, k, 0])
    (inb : ∀ a, off a + S1x1x256.size a ≤ S4x256x256.size a) (q : Fin 256) :
    k0_pay2 (rowOf s b) (View.readAt (Elt F) arg1.view (Rect.unit (s := S4x256x256) off S1x1x256.size inb).toLoadRect (harg1.unread x0))
        (View.readAt (Elt F) arg2.view (Rect.unit (s := S4x256x256) off S1x1x256.size inb).toLoadRect (harg2.unread x1)) (ix3 (0 : Fin 1) (0 : Fin 1) q)
      = addf (mulf (blockSlice x0 k) s) (blockSlice x1 k) (ix2 b q) := by
  unfold k0_pay2
  refine (shapeCast_ab_1ab_apply _ _ (0 : Fin 1) (0 : Fin 1) q).trans ?_
  refine (congrFun (row_step arg1 harg1 arg2 harg2 x0 x1 s off b k hk ho inb) (ix2 (0 : Fin 1) q)).trans ?_
  rfl

/-- The four rows of a state, as the loop carries them. -/
def rows (s : Vec F S4x256 .f32) : Vec F S1x256 .f32 × Vec F S1x256 .f32 × Vec F S1x256 .f32 × Vec F S1x256 .f32 :=
  (rowOf s 0, rowOf s 1, rowOf s 2, rowOf s 3)

section Loop

variable (c : Dev nD) (i : grid0.Coords) (arg1 : Memref sig .tc .vmem S4x256x256 .f32) (harg1 : arg1.IsWhole)
  (arg2 : Memref sig .tc .vmem S4x256x256 .f32) (harg2 : arg2.IsWhole) (arg3 : Memref sig .tc .vmem S4x256 .f32) (harg3 : arg3.IsWhole)
  (arg4 : Memref sig .tc .vmem S4x256x256 .f32) (harg4 : arg4.IsWhole) (arg5 : Memref sig .tc .vmem S4x256 .f32) (harg5 : arg5.IsWhole)
  (arg6 : Memref sig .tc .vmem S4x256 .f32) (harg6 : arg6.IsWhole) (x0 x1 : Vec F S4x256x256 .f32) (s : Vec F S4x256 .f32)

/-- The loop runs 256 times. -/
theorem trips_eq : k0_t1_loop.trips = 256 := by decide

/-- What one trip carries on: the rows of the next state. -/
theorem trip_rows (k : Fin k0_t1_loop.trips) :
    tripR_k0_t1 Variants.none c none i arg1 harg1 arg2 harg2 arg3 harg3 arg4 harg4 arg5 harg5 arg6 harg6 (harg1.unread x0) (harg2.unread x1) k (rows s)
      = rows (addf (mulf (blockSlice x0 k.val) s) (blockSlice x1 k.val)) := by
  have hk : k.val < 256 := Nat.lt_of_lt_of_eq k.isLt trips_eq
  unfold tripR_k0_t1 trip_k0_t1
  exact congrArg₂ Prod.mk (row_step arg1 harg1 arg2 harg2 x0 x1 s _ 0 k.val hk (k0_off1_eq k) _)
    (congrArg₂ Prod.mk (row_step arg1 harg1 arg2 harg2 x0 x1 s _ 1 k.val hk (k0_off2_eq k) _)
      (congrArg₂ Prod.mk (row_step arg1 harg1 arg2 harg2 x0 x1 s _ 2 k.val hk (k0_off3_eq k) _)
        (row_step arg1 harg1 arg2 harg2 x0 x1 s _ 3 k.val hk (k0_off4_eq k) _)))

/-- One row's store, seen through the block: at time `k` of batch row `b` it is the new state, elsewhere it changes
    nothing. -/
theorem read_row_store (v : View sig .tc .vmem S4x256x256 .f32) (f : v.ty.Contents (Elt F))
    (off : Fin 3 → ℕ) (b : Fin 4) (k : ℕ) (hk : k < 256) (ho : off = ![b.val, k, 0])
    (inb : ∀ a, off a + S1x1x256.size a ≤ S4x256x256.size a) (w : Vec F S1x1x256 .f32) (L : List (View.Piece (Elt F) S4x256x256 .f32))
    (p : Fin 4) (r : Fin 256) (q : Fin 256) :
    v.read (Elt F) (v.writes (Elt F) f (⟨Rect.unit (s := S4x256x256) off S1x1x256.size inb, w⟩ :: L)) (ix3 p r q)
      = if p = b ∧ r.val = k then w (ix3 (0 : Fin 1) (0 : Fin 1) q) else v.read (Elt F) (v.writes (Elt F) f L) (ix3 p r q) := by
  split_ifs with h
  · refine View.read_writes_cons_unit_of_mem v f inb w L (ix3 p r q) (ix3 (0 : Fin 1) (0 : Fin 1) q) ho fun a => ?_
    match a with
    | ⟨0, _⟩ => show p.val = b.val + 0; rw [h.1]; rfl
    | ⟨1, _⟩ => show r.val = k + 0; omega
    | ⟨2, _⟩ => show q.val = 0 + q.val; omega
  · by_cases hp : p = b
    · refine View.read_writes_cons_unit_of_not_mem v f inb w L (ix3 p r q) ho ⟨1, by decide⟩ ?_
      show r.val < k ∨ k + 1 ≤ r.val
      have : r.val ≠ k := fun e => h ⟨hp, e⟩
      omega
    · refine View.read_writes_cons_unit_of_not_mem v f inb w L (ix3 p r q) ho ⟨0, by decide⟩ ?_
      show p.val < b.val ∨ b.val + 1 ≤ p.val
      have : p.val ≠ b.val := fun e => hp (Fin.ext e)
      omega

/-- What one trip stores, seen through the block: time `k` of all four batch rows becomes the new state. -/
theorem trip_store (k : Fin k0_t1_loop.trips) (v : View sig .tc .vmem S4x256x256 .f32) (f : v.ty.Contents (Elt F))
    (L : List (View.Piece (Elt F) S4x256x256 .f32)) (p : Fin 4) (r : Fin 256) (q : Fin 256) :
    v.read (Elt F) (v.writes (Elt F) f (tripL_k0_t1 Variants.none c none i arg1 harg1 arg2 harg2 arg3 harg3 arg4 harg4 arg5 harg5 arg6 harg6 (harg1.unread x0) (harg2.unread x1) k (rows s) ++ L)) (ix3 p r q)
      = if r.val = k.val then addf (mulf (blockSlice x0 k.val) s) (blockSlice x1 k.val) (ix2 p q)
        else v.read (Elt F) (v.writes (Elt F) f L) (ix3 p r q) := by
  have hk : k.val < 256 := Nat.lt_of_lt_of_eq k.isLt trips_eq
  unfold tripL_k0_t1 trip_k0_t1
  dsimp only [List.cons_append, List.nil_append]
  rw [read_row_store v f _ 3 k.val hk (k0_off4_eq k), read_row_store v f _ 2 k.val hk (k0_off3_eq k),
    read_row_store v f _ 1 k.val hk (k0_off2_eq k), read_row_store v f _ 0 k.val hk (k0_off1_eq k)]
  by_cases hr : r.val = k.val
  · simp only [hr, _root_.and_true]
    have hp : p = 0 ∨ p = 1 ∨ p = 2 ∨ p = 3 := by clear * -; revert p; decide
    rcases hp with rfl | rfl | rfl | rfl
    · rw [if_neg (by decide), if_neg (by decide), if_neg (by decide), if_pos rfl]
      exact row_store arg1 harg1 arg2 harg2 x0 x1 s _ 0 k.val hk (k0_off1_eq k) _ q
    · rw [if_neg (by decide), if_neg (by decide), if_pos rfl]
      exact row_store arg1 harg1 arg2 harg2 x0 x1 s _ 1 k.val hk (k0_off2_eq k) _ q
    · rw [if_neg (by decide), if_pos rfl]
      exact row_store arg1 harg1 arg2 harg2 x0 x1 s _ 2 k.val hk (k0_off3_eq k) _ q
    · rw [if_pos rfl]
      exact row_store arg1 harg1 arg2 harg2 x0 x1 s _ 3 k.val hk (k0_off4_eq k) _ q
  · simp only [hr, _root_.and_false, if_false]

/-- After `k` trips the loop carries the rows of the block's state after `k` rows. -/
theorem loop_rows (k : ℕ) (hk : k ≤ 256) :
    (st_k0_t1 Variants.none c none i arg1 harg1 arg2 harg2 arg3 harg3 arg4 harg4 arg5 harg5 arg6 harg6 (harg1.unread x0) (harg2.unread x1) (rows s) k).1
      = rows (blockState x0 x1 s k) := by
  induction k with
  | zero => rfl
  | succ k ih =>
    have e := st_k0_t1_succ (F := F) Variants.none c none i arg1 harg1 arg2 harg2 arg3 harg3 arg4 harg4 arg5 harg5 arg6 harg6 (harg1.unread x0) (harg2.unread x1) (rows s) ⟨k, by rw [trips_eq]; omega⟩
    refine (congrArg Prod.fst e).trans ?_
    dsimp only
    rw [ih (by omega)]
    exact trip_rows c i arg1 harg1 arg2 harg2 arg3 harg3 arg4 harg4 arg5 harg5 arg6 harg6 x0 x1 (blockState x0 x1 s k) ⟨k, by rw [trips_eq]; omega⟩

/-- After `k` trips the block holds, at every time below `k`, the state after that row. -/
theorem loop_store (v : View sig .tc .vmem S4x256x256 .f32) (f : v.ty.Contents (Elt F)) (k : ℕ) (hk : k ≤ 256)
    (p : Fin 4) (r : Fin 256) (q : Fin 256) (hr : r.val < k) :
    v.read (Elt F) (v.writes (Elt F) f (st_k0_t1 Variants.none c none i arg1 harg1 arg2 harg2 arg3 harg3 arg4 harg4 arg5 harg5 arg6 harg6 (harg1.unread x0) (harg2.unread x1) (rows s) k).2) (ix3 p r q)
      = blockState x0 x1 s (r.val + 1) (ix2 p q) := by
  induction k with
  | zero => omega
  | succ k ih =>
    have e := st_k0_t1_succ (F := F) Variants.none c none i arg1 harg1 arg2 harg2 arg3 harg3 arg4 harg4 arg5 harg5 arg6 harg6 (harg1.unread x0) (harg2.unread x1) (rows s) ⟨k, by rw [trips_eq]; omega⟩
    rw [congrArg Prod.snd e]
    dsimp only
    rw [loop_rows c i arg1 harg1 arg2 harg2 arg3 harg3 arg4 harg4 arg5 harg5 arg6 harg6 x0 x1 s k (by omega)]
    refine (trip_store c i arg1 harg1 arg2 harg2 arg3 harg3 arg4 harg4 arg5 harg5 arg6 harg6 x0 x1 (blockState x0 x1 s k) ⟨k, by rw [trips_eq]; omega⟩ v f _ p r q).trans ?_
    dsimp only
    split_ifs with h
    · rw [h]; rfl
    · exact ih (by omega) (by omega)

end Loop

end Cert.KernelIdeal.Scan

end
-- ==== Proof.ScanOut.lean ====
module

public import proofs.«01_k».proof.Proof.ScanSteps
public import Idealize.ShloMosaic.Lib.ValueLayout
public import Idealize.ShloMosaic.Lib.WritesUnit
public import Idealize.ShloMosaic.Lib.Pipeline.ReadBack

@[expose] public section

set_option maxRecDepth 16384

noncomputable section

namespace Cert.KernelIdeal.Scan

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # What one grid point leaves

At the first point the recurrence starts from the initial state; at every later point from what the scratch holds. In
both cases the block of states, the final state and the scratch end at values of `blockState`. -/

/-- A whole 4×256 buffer written row by row holds the state those rows make up. -/
theorem read_four_rows (v : View sig .tc .vmem S4x256 .f32) (f : v.ty.Contents (Elt F)) (s : Vec F S4x256 .f32)
    (w0 w1 w2 w3 : Vec F S1x256 .f32) (e0 : w0 = rowOf s 0) (e1 : w1 = rowOf s 1) (e2 : w2 = rowOf s 2) (e3 : w3 = rowOf s 3)
    (i0 : ∀ a, (![0, 0] : Fin 2 → ℕ) a + S1x256.size a ≤ S4x256.size a) (i1 : ∀ a, (![1, 0] : Fin 2 → ℕ) a + S1x256.size a ≤ S4x256.size a)
    (i2 : ∀ a, (![2, 0] : Fin 2 → ℕ) a + S1x256.size a ≤ S4x256.size a) (i3 : ∀ a, (![3, 0] : Fin 2 → ℕ) a + S1x256.size a ≤ S4x256.size a)
    (L : List (View.Piece (Elt F) S4x256 .f32)) :
    v.read (Elt F) (v.writes (Elt F) f (⟨Rect.unit (s := S4x256) ![3, 0] S1x256.size i3, w3⟩ :: ⟨Rect.unit (s := S4x256) ![2, 0] S1x256.size i2, w2⟩
      :: ⟨Rect.unit (s := S4x256) ![1, 0] S1x256.size i1, w1⟩ :: ⟨Rect.unit (s := S4x256) ![0, 0] S1x256.size i0, w0⟩ :: L)) = s := by
  subst e0 e1 e2 e3
  have hit : ∀ (b : Fin 4) (q : Fin 256) (i : ∀ a, (![b.val, 0] : Fin 2 → ℕ) a + S1x256.size a ≤ S4x256.size a) (L : List (View.Piece (Elt F) S4x256 .f32)),
      v.read (Elt F) (v.writes (Elt F) f (⟨Rect.unit (s := S4x256) ![b.val, 0] S1x256.size i, rowOf s b⟩ :: L)) (ix2 b q) = s (ix2 b q) := fun b q i L =>
    View.read_writes_cons_unit_of_mem v f i (rowOf s b) L (ix2 b q) (ix2 (0 : Fin 1) q) rfl fun a => by
      match a with
      | ⟨0, _⟩ => show b.val = b.val + 0; rfl
      | ⟨1, _⟩ => show q.val = 0 + q.val; omega
  have miss : ∀ (p b : Fin 4) (q : Fin 256) (i : ∀ a, (![b.val, 0] : Fin 2 → ℕ) a + S1x256.size a ≤ S4x256.size a) (w : Vec F S1x256 .f32) (L : List (View.Piece (Elt F) S4x256 .f32)),
      p ≠ b → v.read (Elt F) (v.writes (Elt F) f (⟨Rect.unit (s := S4x256) ![b.val, 0] S1x256.size i, w⟩ :: L)) (ix2 p q) = v.read (Elt F) (v.writes (Elt F) f L) (ix2 p q) := fun p b q i w L h =>
    View.read_writes_cons_unit_of_not_mem v f i w L (ix2 p q) rfl ⟨0, by decide⟩ (by
      show p.val < b.val ∨ b.val + 1 ≤ p.val
      have : p.val ≠ b.val := fun e => h (Fin.ext e)
      omega)
  funext y
  obtain ⟨p, q, rfl⟩ : ∃ (p : Fin 4) (q : Fin 256), y = ix2 p q := ⟨y 0, y 1, eq_ix2 y⟩
  have hp : p = 0 ∨ p = 1 ∨ p = 2 ∨ p = 3 := by clear * -; revert p; decide
  rcases hp with rfl | rfl | rfl | rfl
  · exact (miss 0 3 q i3 _ _ (by decide)).trans ((miss 0 2 q i2 _ _ (by decide)).trans ((miss 0 1 q i1 _ _ (by decide)).trans (hit 0 q i0 _)))
  · exact (miss 1 3 q i3 _ _ (by decide)).trans ((miss 1 2 q i2 _ _ (by decide)).trans (hit 1 q i1 _))
  · exact (miss 2 3 q i3 _ _ (by decide)).trans (hit 2 q i2 _)
  · exact hit 3 q i3 _

/-- Row `b` cut out of a state. -/
theorem ld_row (s : Vec F S4x256 .f32) (b : Fin 4) (inb : ∀ a, (![b.val, 0] : Fin 2 → ℕ) a + S1x256.size a ≤ S4x256.size a) :
    View.ld s (Rect.unit (s := S4x256) ![b.val, 0] S1x256.size inb) = rowOf s b := by
  funext y
  obtain ⟨p, q, rfl⟩ : ∃ (p : Fin 1) (q : Fin 256), y = ix2 p q := ⟨y 0, y 1, eq_ix2 y⟩
  show s _ = s _
  refine congrArg s (funext fun a => Fin.ext ?_)
  match a with
  | ⟨0, _⟩ => show b.val + 1 * p.val = b.val; omega
  | ⟨1, _⟩ => show 0 + 1 * q.val = q.val; omega

/-- A row loaded from the scratch at state `s` is that row of `s`. -/
theorem load_row (m : Memref sig .tc .vmem S4x256 .f32) (hm : m.IsWhole) (s : Vec F S4x256 .f32) (b : Fin 4)
    (inb : ∀ a, (![b.val, 0] : Fin 2 → ℕ) a + S1x256.size a ≤ S4x256.size a) :
    View.readAt (Elt F) m.view (Rect.unit (s := S4x256) ![b.val, 0] S1x256.size inb).toLoadRect (hm.unread s) = rowOf s b := by
  rw [View.readAt_eq_ld, hm.read_unread]
  exact ld_row s b inb

/-- The block of states a point leaves: at row `r` the state after `r + 1` rows. -/
def blockOut (x0 x1 : Vec F S4x256x256 .f32) (s : Vec F S4x256 .f32) : Vec F S4x256x256 .f32 :=
  fun y => blockState x0 x1 s ((y 1).val + 1) (ix2 (y 0) (y 2))

section Point

variable (c : Dev nD) (i : grid0.Coords) (arg1 : Memref sig .tc .vmem S4x256x256 .f32) (harg1 : arg1.IsWhole)
  (arg2 : Memref sig .tc .vmem S4x256x256 .f32) (harg2 : arg2.IsWhole) (arg3 : Memref sig .tc .vmem S4x256 .f32) (harg3 : arg3.IsWhole)
  (arg4 : Memref sig .tc .vmem S4x256x256 .f32) (harg4 : arg4.IsWhole) (arg5 : Memref sig .tc .vmem S4x256 .f32) (harg5 : arg5.IsWhole)
  (arg6 : Memref sig .tc .vmem S4x256 .f32) (harg6 : arg6.IsWhole) (x0 x1 : Vec F S4x256x256 .f32) (x2 s : Vec F S4x256 .f32)

/-- The loop's stores, seen through the block of states, whatever it held. -/
theorem loop_block (v : View sig .tc .vmem S4x256x256 .f32) (f : v.ty.Contents (Elt F)) :
    v.read (Elt F) (v.writes (Elt F) f (st_k0_t1 Variants.none c none i arg1 harg1 arg2 harg2 arg3 harg3 arg4 harg4 arg5 harg5 arg6 harg6 (harg1.unread x0) (harg2.unread x1) (rows s) k0_t1_loop.trips).2)
      = blockOut x0 x1 s := by
  rw [trips_eq]
  funext y
  obtain ⟨p, r, q, rfl⟩ : ∃ (p : Fin 4) (r q : Fin 256), y = ix3 p r q := ⟨y 0, y 1, y 2, eq_ix3 y⟩
  exact loop_store c i arg1 harg1 arg2 harg2 arg3 harg3 arg4 harg4 arg5 harg5 arg6 harg6 x0 x1 s v f 256 (le_refl _) p r q r.isLt

/-- The loop carries out the rows of the state after the whole block, when it starts from the rows of `s`. -/
theorem loop_end (init : Vec F S1x256 .f32 × Vec F S1x256 .f32 × Vec F S1x256 .f32 × Vec F S1x256 .f32) (h : init = rows s) (n : ℕ) (hn : n = 256) :
    (st_k0_t1 Variants.none c none i arg1 harg1 arg2 harg2 arg3 harg3 arg4 harg4 arg5 harg5 arg6 harg6 (harg1.unread x0) (harg2.unread x1) init n).1
      = rows (blockState x0 x1 s 256) := by
  subst h hn
  exact loop_rows c i arg1 harg1 arg2 harg2 arg3 harg3 arg4 harg4 arg5 harg5 arg6 harg6 x0 x1 s 256 (le_refl _)

/-- The four rows a later point starts its loop from are the rows of what the scratch holds. -/
theorem next_init :
    ((View.readAt (Elt F) arg6.view (Rect.unit (s := S4x256) ![0, 0] S1x256.size inb_S4x256_S1x256_0_0).toLoadRect (harg6.unread s),
      View.readAt (Elt F) arg6.view (Rect.unit (s := S4x256) ![1, 0] S1x256.size inb_S4x256_S1x256_1_0).toLoadRect (harg6.unread s),
      View.readAt (Elt F) arg6.view (Rect.unit (s := S4x256) ![2, 0] S1x256.size inb_S4x256_S1x256_2_0).toLoadRect (harg6.unread s),
      View.readAt (Elt F) arg6.view (Rect.unit (s := S4x256) ![3, 0] S1x256.size inb_S4x256_S1x256_3_0).toLoadRect (harg6.unread s)) :
      Vec F S1x256 .f32 × Vec F S1x256 .f32 × Vec F S1x256 .f32 × Vec F S1x256 .f32) = rows s :=
  congrArg₂ Prod.mk (load_row arg6 harg6 s 0 _) (congrArg₂ Prod.mk (load_row arg6 harg6 s 1 _)
    (congrArg₂ Prod.mk (load_row arg6 harg6 s 2 _) (load_row arg6 harg6 s 3 _)))

/-- What the first point copies into the scratch: the initial state. -/
theorem first_copy : k0_pay7 (View.readAt (Elt F) arg3.view (Rect.unit (s := S4x256) ![0, 0] S4x256.size inb_S4x256_S4x256_0_0).toLoadRect (harg3.unread x2)) = x2 := by
  unfold k0_pay7
  rw [View.readAt_eq_ld, harg3.read_unread, View.ld_unit_zero (by funext a; match a with | ⟨0, _⟩ => rfl | ⟨1, _⟩ => rfl)]
  exact shapeCast_self _ _

/-- A row read back from the scratch after that copy is that row of the initial state. -/
theorem first_row (b : Fin 4) (inb : ∀ a, (![b.val, 0] : Fin 2 → ℕ) a + S1x256.size a ≤ S4x256.size a) :
    arg6.view.readCov (runFirst.sl.HS0_1 c arg3 harg3 x2) (Rect.unit (s := S4x256) ![b.val, 0] S1x256.size inb).toLoadRect = rowOf x2 b := by
  unfold runFirst.sl.HS0_1
  refine (View.readCov_fill arg6.view _ _ _ _ (by intro a; match a with | ⟨0, _⟩ => rfl | ⟨1, _⟩ => rfl)).trans ?_
  refine Eq.trans ?_ (ld_row x2 b inb)
  exact congrArg (fun z => View.ld z (Rect.unit (s := S4x256) ![b.val, 0] S1x256.size inb)) (first_copy arg3 harg3 x2)

/-- The four rows the first point starts its loop from are the rows of the initial state. -/
theorem first_init :
    ((runFirst.sl.v3 c arg3 harg3 arg6 x2, runFirst.sl.v4 c arg3 harg3 arg6 x2, runFirst.sl.v5 c arg3 harg3 arg6 x2, runFirst.sl.v6 c arg3 harg3 arg6 x2) :
      Vec F S1x256 .f32 × Vec F S1x256 .f32 × Vec F S1x256 .f32 × Vec F S1x256 .f32) = rows x2 := by
  unfold runFirst.sl.v3 runFirst.sl.v4 runFirst.sl.v5 runFirst.sl.v6
  exact congrArg₂ Prod.mk (first_row c arg3 harg3 arg6 x2 0 _) (congrArg₂ Prod.mk (first_row c arg3 harg3 arg6 x2 1 _)
    (congrArg₂ Prod.mk (first_row c arg3 harg3 arg6 x2 2 _) (first_row c arg3 harg3 arg6 x2 3 _)))

/-- A later point leaves, in its block of states, the recurrence from what the scratch held. -/
theorem next_block (hc0 : ¬ isFirst i) (v : View sig .tc .vmem S4x256x256 .f32) (f : v.ty.Contents (Elt F)) :
    v.read (Elt F) (v.writes (Elt F) f (runNext c i arg1 harg1 arg2 harg2 arg3 harg3 arg4 harg4 arg5 harg5 arg6 harg6 hc0 x0 x1 x2 s).1) = blockOut x0 x1 s := by
  unfold runNext
  dsimp only
  rw [next_init arg6 harg6 s]
  exact loop_block c i arg1 harg1 arg2 harg2 arg3 harg3 arg4 harg4 arg5 harg5 arg6 harg6 x0 x1 s v f

/-- It leaves, as the final state, the state after its block, -/
theorem next_fin (hc0 : ¬ isFirst i) (v : View sig .tc .vmem S4x256 .f32) (f : v.ty.Contents (Elt F)) :
    v.read (Elt F) (v.writes (Elt F) f (runNext c i arg1 harg1 arg2 harg2 arg3 harg3 arg4 harg4 arg5 harg5 arg6 harg6 hc0 x0 x1 x2 s).2.1) = blockState x0 x1 s 256 := by
  unfold runNext runNext.sl.r
  dsimp only
  have h := loop_end c i arg1 harg1 arg2 harg2 arg3 harg3 arg4 harg4 arg5 harg5 arg6 harg6 x0 x1 s _ (next_init arg6 harg6 s) (Scf.trips (0#32) (Scalar.addi 0#32 256#32) 1#32) (by decide)
  exact read_four_rows v f _ _ _ _ _ (congrArg (fun z => z.1) h) (congrArg (fun z => z.2.1) h) (congrArg (fun z => z.2.2.1) h) (congrArg (fun z => z.2.2.2) h) _ _ _ _ []

/-- and the same in the scratch. -/
theorem next_scratch (hc0 : ¬ isFirst i) (v : View sig .tc .vmem S4x256 .f32) (f : v.ty.Contents (Elt F)) :
    v.read (Elt F) (v.writes (Elt F) f (runNext c i arg1 harg1 arg2 harg2 arg3 harg3 arg4 harg4 arg5 harg5 arg6 harg6 hc0 x0 x1 x2 s).2.2.1) = blockState x0 x1 s 256 := by
  unfold runNext runNext.sl.r_1 k0_pay10 k0_pay11 k0_pay12 k0_pay13
  dsimp only
  have h := loop_end c i arg1 harg1 arg2 harg2 arg3 harg3 arg4 harg4 arg5 harg5 arg6 harg6 x0 x1 s _ (next_init arg6 harg6 s) (Scf.trips (0#32) (Scalar.addi 0#32 256#32) 1#32) (by decide)
  exact read_four_rows v f _ _ _ _ _ ((shapeCast_self _ _).trans (congrArg (fun z => z.1) h)) ((shapeCast_self _ _).trans (congrArg (fun z => z.2.1) h)) ((shapeCast_self _ _).trans (congrArg (fun z => z.2.2.1) h)) ((shapeCast_self _ _).trans (congrArg (fun z => z.2.2.2) h)) _ _ _ _ []

/-- The first point leaves, in its block of states, the recurrence from the initial state, -/
theorem first_block (hc0 : isFirst i) (v : View sig .tc .vmem S4x256x256 .f32) (f : v.ty.Contents (Elt F)) :
    v.read (Elt F) (v.writes (Elt F) f (runFirst c i arg1 harg1 arg2 harg2 arg3 harg3 arg4 harg4 arg5 harg5 arg6 harg6 hc0 x0 x1 x2).1) = blockOut x0 x1 x2 := by
  unfold runFirst
  dsimp only
  rw [first_init c arg3 harg3 arg6 x2]
  exact loop_block c i arg1 harg1 arg2 harg2 arg3 harg3 arg4 harg4 arg5 harg5 arg6 harg6 x0 x1 x2 v f

/-- as the final state the state after its block, -/
theorem first_fin (hc0 : isFirst i) (v : View sig .tc .vmem S4x256 .f32) (f : v.ty.Contents (Elt F)) :
    v.read (Elt F) (v.writes (Elt F) f (runFirst c i arg1 harg1 arg2 harg2 arg3 harg3 arg4 harg4 arg5 harg5 arg6 harg6 hc0 x0 x1 x2).2.1) = blockState x0 x1 x2 256 := by
  unfold runFirst runFirst.sl.r
  dsimp only
  have h := loop_end c i arg1 harg1 arg2 harg2 arg3 harg3 arg4 harg4 arg5 harg5 arg6 harg6 x0 x1 x2 _ (first_init c arg3 harg3 arg6 x2) (Scf.trips (0#32) (Scalar.addi 0#32 256#32) 1#32) (by decide)
  exact read_four_rows v f _ _ _ _ _ (congrArg (fun z => z.1) h) (congrArg (fun z => z.2.1) h) (congrArg (fun z => z.2.2.1) h) (congrArg (fun z => z.2.2.2) h) _ _ _ _ []

/-- and the same in the scratch. -/
theorem first_scratch (hc0 : isFirst i) (v : View sig .tc .vmem S4x256 .f32) (f : v.ty.Contents (Elt F)) :
    v.read (Elt F) (v.writes (Elt F) f (runFirst c i arg1 harg1 arg2 harg2 arg3 harg3 arg4 harg4 arg5 harg5 arg6 harg6 hc0 x0 x1 x2).2.2.1) = blockState x0 x1 x2 256 := by
  unfold runFirst runFirst.sl.r_1 k0_pay10 k0_pay11 k0_pay12 k0_pay13
  dsimp only
  have h := loop_end c i arg1 harg1 arg2 harg2 arg3 harg3 arg4 harg4 arg5 harg5 arg6 harg6 x0 x1 x2 _ (first_init c arg3 harg3 arg6 x2) (Scf.trips (0#32) (Scalar.addi 0#32 256#32) 1#32) (by decide)
  exact read_four_rows v f _ _ _ _ _ ((shapeCast_self _ _).trans (congrArg (fun z => z.1) h)) ((shapeCast_self _ _).trans (congrArg (fun z => z.2.1) h)) ((shapeCast_self _ _).trans (congrArg (fun z => z.2.2.1) h)) ((shapeCast_self _ _).trans (congrArg (fun z => z.2.2.2) h)) _ _ _ _ _

end Point

end Cert.KernelIdeal.Scan

end
-- ==== Proof.ScanFrame.lean ====
module

public import proofs.«01_k».proof.Proof.Gen.KernelIdeal.Frame
public import proofs.«01_k».proof.Proof.Gen.KernelIdeal.Loops
public import Idealize.ShloMosaic.Lib.Claim
public import Idealize.ShloMosaic.Lib.Pipeline.ValueKit
public import proofs.«01_k».proof.Proof.Recur
public import proofs.«01_k».proof.Proof.ScanOut

@[expose] public section

set_option maxRecDepth 16384

noncomputable section

namespace Cert.KernelIdeal.Scan

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The scan over all 32 grid points

The scratch carries the state from point to point; after point `t` it holds the state after `256 (t + 1)` times. -/

/-- The decays, the inputs and the initial state, as launched. -/
abbrev decays (c : Dev nD) : Vec F S4x8192x256 .f32 := m ((c : Thread nD τ).loc main_arg0)
abbrev inputs (c : Dev nD) : Vec F S4x8192x256 .f32 := m ((c : Thread nD τ).loc main_arg1)
abbrev start (c : Dev nD) : Vec F S4x256 .f32 := m ((c : Thread nD τ).loc main_arg2)

/-- The state after `n` times of the launched arrays. -/
abbrev stateAt (c : Dev nD) (n : ℕ) : Vec F S4x256 .f32 := Recur.states (decays m c) (inputs m c) (start m c) n

/-- Where the windows' blocks lie: the sequence windows move along time with the grid point, -/
theorem index_seq0 (t : Fin cfg0.N) : win0_0.index t 0 = 0 ∧ win0_0.index t 1 = t.val ∧ win0_0.index t 2 = 0 := by
  revert t; decide +kernel
theorem index_seq1 (t : Fin cfg0.N) : win0_1.index t 0 = 0 ∧ win0_1.index t 1 = t.val ∧ win0_1.index t 2 = 0 := by
  revert t; decide +kernel
theorem index_seq3 (t : Fin cfg0.N) : win0_3.index t 0 = 0 ∧ win0_3.index t 1 = t.val ∧ win0_3.index t 2 = 0 := by
  revert t; decide +kernel
/-- and the initial state's window stays at the start. -/
theorem index_start (t : Fin cfg0.N) : win0_2.index t 0 = 0 ∧ win0_2.index t 1 = 0 := by
  revert t; decide +kernel

theorem point_lt (t : Fin cfg0.N) : t.val < 32 := lt_of_lt_of_eq t.isLt (show cfg0.N = 32 from N_0)

/-- The decays' block at point `t`, time `k` of it, is the slice at time `256 t + k`. -/
theorem slice_decays (c : Dev nD) (t : Fin cfg0.N) (k : ℕ) (hk : k < 256) :
    blockSlice (iblk m c 0 t) k = Recur.slice (decays m c) (256 * t.val + k) := by
  have ht := point_lt t
  obtain ⟨e0, e1, e2⟩ := index_seq0 t
  funext y
  unfold blockSlice Recur.slice iblk
  rw [View.read_apply]
  show decays m c _ = decays m c _
  refine congrArg (decays m c) (funext fun a => Fin.ext ?_)
  match a with
  | ⟨0, _⟩ => show win0_0.index t 0 * 4 + 1 * (y 0).val = (y 0).val; rw [e0]; omega
  | ⟨1, _⟩ => show win0_0.index t 1 * 256 + 1 * (k % 256) = (256 * t.val + k) % 8192; rw [e1]; omega
  | ⟨2, _⟩ => show win0_0.index t 2 * 256 + 1 * (y 1).val = (y 1).val; rw [e2]; omega

/-- The same of the inputs' block. -/
theorem slice_inputs (c : Dev nD) (t : Fin cfg0.N) (k : ℕ) (hk : k < 256) :
    blockSlice (iblk m c 1 t) k = Recur.slice (inputs m c) (256 * t.val + k) := by
  have ht := point_lt t
  obtain ⟨e0, e1, e2⟩ := index_seq1 t
  funext y
  unfold blockSlice Recur.slice iblk
  rw [View.read_apply]
  show inputs m c _ = inputs m c _
  refine congrArg (inputs m c) (funext fun a => Fin.ext ?_)
  match a with
  | ⟨0, _⟩ => show win0_1.index t 0 * 4 + 1 * (y 0).val = (y 0).val; rw [e0]; omega
  | ⟨1, _⟩ => show win0_1.index t 1 * 256 + 1 * (k % 256) = (256 * t.val + k) % 8192; rw [e1]; omega
  | ⟨2, _⟩ => show win0_1.index t 2 * 256 + 1 * (y 1).val = (y 1).val; rw [e2]; omega

/-- The initial state's block is the initial state. -/
theorem start_block (c : Dev nD) (t : Fin cfg0.N) : (iblk m c 2 t : Vec F S4x256 .f32) = start m c := by
  obtain ⟨e0, e1⟩ := index_start t
  funext y
  unfold iblk
  rw [View.read_apply]
  show start m c _ = start m c _
  refine congrArg (start m c) (funext fun a => Fin.ext ?_)
  match a with
  | ⟨0, _⟩ => show win0_2.index t 0 * 4 + 1 * (y 0).val = (y 0).val; rw [e0]; omega
  | ⟨1, _⟩ => show win0_2.index t 1 * 256 + 1 * (y 1).val = (y 1).val; rw [e1]; omega

/-- Inside point `t`'s block the recurrence goes on from where the points before left it. -/
theorem block_state (c : Dev nD) (t : Fin cfg0.N) (k : ℕ) (hk : k ≤ 256) :
    blockState (iblk m c 0 t) (iblk m c 1 t) (stateAt m c (256 * t.val)) k = stateAt m c (256 * t.val + k) := by
  induction k with
  | zero => rfl
  | succ k ih =>
    show addf (mulf _ (blockState _ _ _ k)) _ = addf (mulf _ (Recur.states _ _ _ (256 * t.val + k))) _
    rw [ih (by omega), slice_decays m c t k (by omega), slice_inputs m c t k (by omega)]
    rfl

/-- What point `t` leaves in its block of states. -/
def statesAt (c : Dev nD) (t : Fin cfg0.N) : Vec F S4x256x256 .f32 :=
  fun y => stateAt m c (256 * t.val + ((y 1).val + 1)) (ValueIdx.ix2 (y 0) (y 2))

theorem blockOut_eq (c : Dev nD) (t : Fin cfg0.N) :
    blockOut (iblk m c 0 t) (iblk m c 1 t) (stateAt m c (256 * t.val)) = statesAt m c t := by
  funext y
  have hy : (y 1).val < 256 := (y 1).isLt
  exact congrFun (block_state m c t ((y 1).val + 1) (by omega)) (ValueIdx.ix2 (y 0) (y 2))

theorem fin_eq (c : Dev nD) (t : Fin cfg0.N) :
    blockState (iblk m c 0 t) (iblk m c 1 t) (stateAt m c (256 * t.val)) 256 = stateAt m c (256 * (t.val + 1)) :=
  (block_state m c t 256 (le_refl _)).trans (by rw [Nat.mul_add, Nat.mul_one])

/-- The scratch operand, and the staging memrefs at a point. -/
abbrev scr : Memref sig .tc .vmem S4x256 .f32 := Memref.whole cc0_scratch0
abbrev ms0 (t : Fin cfg0.N) : Memref sig .tc .vmem S4x256x256 .f32 := win0_0.stage (cfg0.slots t 0)
abbrev ms1 (t : Fin cfg0.N) : Memref sig .tc .vmem S4x256x256 .f32 := win0_1.stage (cfg0.slots t 1)
abbrev ms2 (t : Fin cfg0.N) : Memref sig .tc .vmem S4x256 .f32 := win0_2.stage (cfg0.slots t 2)
abbrev ms3 (t : Fin cfg0.N) : Memref sig .tc .vmem S4x256x256 .f32 := win0_3.stage (cfg0.slots t 3)
abbrev ms4 (t : Fin cfg0.N) : Memref sig .tc .vmem S4x256 .f32 := win0_4.stage (cfg0.slots t 4)

/-- What the launch gives the body beside the windows: the scratch at some contents and the generator's register. -/
theorem region_inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The invariant before grid position `n`: before the first point the scratch holds anything, afterwards the state after
    `256 n` times. -/
def inv (c : Dev nD) : ℕ → sProp 𝕄
  | 0 => Pipeline.ΦA spec0 c
  | n + 1 => iprop(iprop(owns (c : Thread nD τ) scr fullShare (stateAt m c (256 * (n + 1)))) ∗ (∃ r, prngReg c r))

theorem inv_pos (c : Dev nD) (n : ℕ) (hz : n ≠ 0) :
    inv m c n = iprop(iprop(owns (c : Thread nD τ) scr fullShare (stateAt m c (256 * n))) ∗ (∃ r, prngReg c r)) := by
  cases n with
  | zero => exact absurd rfl hz
  | succ n => rfl

/-- The pipeline's proof data: inputs keep their blocks, the block of states and the final state hold the recurrence. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => statesAt m c t
    | ⟨4, _⟩ => stateAt m c (256 * (t.val + 1))
  Φ t := inv m c t.val
  q _ := fullShare
  owed _ := 0

theorem A_eq (c : Dev nD) (w : Fin cfg0.W) : (dats m 0 c).A w = V m c (Pipeline.arrRef spec0 w) := by dsimp only [dats]
theorem Phi_eq (c : Dev nD) (t : Fin (cfg0.N + 1)) : (dats m 0 c).Φ t = inv m c t.val := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = statesAt m c t := by dsimp only [dats]
theorem after_4 (c : Dev nD) (t : Fin cfg0.N) : (dats m 0 c).after 4 t = stateAt m c (256 * (t.val + 1)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`, window by window, -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 3200000 in
/-- The body at any point takes the invariant and the blocks to the recurrence's values and the next invariant. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).owesAt () t.succ = (dats m 0 c).owesAt () t.castSucc from rfl, after_0, after_1, after_2, after_3, after_4,
    Phi_eq, Phi_eq, show (t.succ : Fin (cfg0.N + 1)).val = t.val + 1 from rfl, show (t.castSucc : Fin (cfg0.N + 1)).val = t.val from rfl,
    inv_pos m c (t.val + 1) (Nat.succ_ne_zero _)]
  have hN := point_lt t
  by_cases hz : t.val = 0
  · have hc0 : isFirst (grid0.coords t) := (isFirst_iff t).mpr (by omega)
    have hs : (iblk m c 2 t : Vec F S4x256 .f32) = stateAt m c (256 * t.val) := (start_block m c t).trans (by rw [hz]; rfl)
    rw [hz, show inv m c 0 = Pipeline.ΦA spec0 c from rfl, region_inv_eq]
    iintro ⟨⟨HS0, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ hc0 (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%f3, H3⟩, ⟨%f4, H4⟩, ⟨%es, HS0⟩⟩
    isplitl [HS0 Hg]
    · isplitl [HS0]
      · unfold owns; iexists _; isplitr
        swap; · iexact HS0
        ipureintro
        refine (first_scratch c _ _ _ _ _ _ _ _ _ _ _ _ _ _ _ _ hc0 _ _).trans ?_
        rw [hs, fin_eq, hz]
      iexact Hg
    isplitl [Ho]; · iexact Ho
    isplitl [H0]; · iexact H0
    isplitl [H1]; · iexact H1
    isplitl [H2]; · iexact H2
    isplitl [H3]
    · unfold owns; iexists _; isplitr
      swap; · iexact H3
      ipureintro
      refine (first_block c _ _ _ _ _ _ _ _ _ _ _ _ _ _ _ _ hc0 _ _).trans ?_
      rw [hs, blockOut_eq]
    unfold owns; iexists _; isplitr
    swap; · iexact H4
    ipureintro
    refine (first_fin c _ _ _ _ _ _ _ _ _ _ _ _ _ _ _ _ hc0 _ _).trans ?_
    rw [hs, fin_eq, hz]
  · have hc0 : ¬ isFirst (grid0.coords t) := fun h => hz (by have := (isFirst_iff t).mp h; omega)
    rw [inv_pos m c t.val hz]
    iintro ⟨⟨HS0, Hg⟩, Ho, ⟨%d0, H0⟩, ⟨%d1, H1⟩, ⟨%d2, H2⟩, ⟨%d3, H3⟩, ⟨%d4, H4⟩⟩
    iapply ((runNext c (grid0.coords t) _ _ _ _ _ _ _ _ _ _ _ _ hc0 (iblk m c 0 t) (iblk m c 1 t) (iblk m c 2 t) (stateAt m c (256 * t.val))).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%f3, H3⟩, ⟨%f4, H4⟩, ⟨%es, HS0⟩⟩
    isplitl [HS0 Hg]
    · isplitl [HS0]
      · unfold owns; iexists _; isplitr
        swap; · iexact HS0
        ipureintro
        exact (next_scratch c _ _ _ _ _ _ _ _ _ _ _ _ _ _ _ _ _ hc0 _ _).trans (fin_eq m c t)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro
      exact (next_block c _ _ _ _ _ _ _ _ _ _ _ _ _ _ _ _ _ hc0 _ _).trans (blockOut_eq m c t)
    unfold owns; iexists _; isplitr
    swap; · iexact H4
    ipureintro
    exact (next_fin c _ _ _ _ _ _ _ _ _ _ _ _ _ _ _ _ _ hc0 _ _).trans (fin_eq m c t)

/-- The pipeline calls the body as `bodyAt0` spells it. -/
theorem body_row (t : Fin cfg0.N) :
    defs₀ (F := F) .tc cfg0.body (cfg0.bodyArgs t (cfg0.slots t)) = bodyAt0 t := by
  unfold defs₀; rw [Defs.onTc_tc]

/-- The obligation the launch asks of the body, at every point. -/
theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

/-- The launch hands the region the invariant before the first point, -/
theorem inv_in (c : Dev nD) : Pipeline.ΦA spec0 c ⊢ (dats m 0 c).Φ 0 := by
  rw [Phi_eq]; exact Idealize.SL.BI.Entails.refl _

/-- and takes the last one back, forgetting what the scratch holds. -/
theorem inv_out (c : Dev nD) : (dats m 0 c).Φ (Fin.last cfg0.N) ⊢ Pipeline.ΦA spec0 c := by
  rw [Phi_eq, Fin.val_last, inv_pos m c _ (by rw [show cfg0.N = 32 from N_0]; decide), region_inv_eq]
  iintro ⟨HS0, Hg⟩
  isplitl [HS0]
  · iexists _; iexact HS0
  iexact Hg

set_option backward.isDefEq.respectTransparency.types false in
/-- The launch: every execution ends, each array at what the proof data says, every semaphore at zero. -/
theorem launch : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The frame: the argument arrays end as launched and every semaphore at zero. -/
theorem frame_scan : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launch m ρ)))
    ((θ_run defs _ _).mono (fun _ h => h.2) (launch m ρ))

/-! ## The arrays at the end -/

/-- The array of states ends holding every state of the recurrence. -/
theorem states_end (c : Dev nD) : (dats m 0 c).arrAt 3 cfg0.N = Recur.allStates (decays m c) (inputs m c) (start m c) := by
  refine (dats m 0 c).arrAt_eq_of_covers 3 _ (by decide +kernel) fun t hf y => ?_
  obtain ⟨e0, e1, e2⟩ := index_seq3 t
  rw [after_3]
  have h0 : ((((cfg0.win 3).blk t).view.emb y) 0).val = (y 0).val := by
    show win0_3.index t 0 * 4 + 1 * (y 0).val = (y 0).val; rw [e0]; omega
  have h1 : ((((cfg0.win 3).blk t).view.emb y) 1).val = 256 * t.val + (y 1).val := by
    show win0_3.index t 1 * 256 + 1 * (y 1).val = 256 * t.val + (y 1).val; rw [e1]; omega
  have h2 : ((((cfg0.win 3).blk t).view.emb y) 2).val = (y 2).val := by
    show win0_3.index t 2 * 256 + 1 * (y 2).val = (y 2).val; rw [e2]; omega
  show stateAt m c (256 * t.val + ((y 1).val + 1)) _ = stateAt m c (((((cfg0.win 3).blk t).view.emb y) 1).val + 1) _
  rw [h1, Nat.add_assoc]
  refine congrArg _ (funext fun a => Fin.ext ?_)
  match a with
  | ⟨0, _⟩ => exact h0.symm
  | ⟨1, _⟩ => exact h2.symm

/-- The final state's array ends holding the state after all 8192 times. -/
theorem fin_end (c : Dev nD) : (dats m 0 c).arrAt 4 cfg0.N = stateAt m c 8192 := by
  refine (dats m 0 c).arrAt_eq_of_covers 4 _ (by decide +kernel) fun t hf y => ?_
  have ht : t.val = 31 := by have := (flush0_4 t).mp hf; have := point_lt t; omega
  have e : win0_4.index t 0 = 0 ∧ win0_4.index t 1 = 0 := by clear * -; revert t; decide +kernel
  rw [after_4, ht]
  show stateAt m c 8192 _ = stateAt m c 8192 _
  refine congrArg _ (funext fun a => Fin.ext ?_)
  match a with
  | ⟨0, _⟩ => show (y 0).val = win0_4.index t 0 * 4 + 1 * (y 0).val; rw [e.1]; omega
  | ⟨1, _⟩ => show (y 1).val = win0_4.index t 1 * 256 + 1 * (y 1).val; rw [e.2]; omega

/-- The whole run: both results hold the recurrence, the arguments are as launched, every semaphore is at zero. -/
theorem run_scan : θ_run defs (onTc (τ := τ) (main (F := F))) (s₀ m ρ) (fun r => (∀ c : Dev nD,
      r.2.mem ((c.tc : Thread nD τ).loc main_v0_0) = Recur.allStates (decays m c) (inputs m c) (start m c)
      ∧ r.2.mem ((c.tc : Thread nD τ).loc main_v0_1) = stateAt m c 8192)) :=
  (θ_run defs _ _).mono (fun r h c => ⟨((h.1 c).1 3).trans (states_end m c), ((h.1 c).1 4).trans (fin_end m c)⟩) (launch m ρ)

end Cert.KernelIdeal.Scan

end
-- ==== Proof.ScanFrameBits.lean ====
module

public import proofs.«01_k».proof.Defs
public import proofs.«01_k».proof.Proof.Gen.Kernel
public import proofs.«01_k».proof.Proof.ScanFrame

@[expose] public section

set_option maxRecDepth 65536

noncomputable section

namespace Cert.Proof

open Idealize.ShloMosaic Idealize.ShloMosaic.TcCoe Idealize.SL.Sem

/-! # The frame of the program as printed

No operation of the scan was rewritten, so the two programs are one text; the frame proved of one is the other's. -/

variable {F : FTy → Type} [FloatOps F]

/-- The two programs' kernel bodies are one. -/
theorem scan_defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- The two programs' definitions are one. -/
theorem scan_defs_same : Cert.Kernel.defs (F := F) = Cert.KernelIdeal.defs (F := F) :=
  congrArg (Pipeline.defs _) scan_defs₀_same

/-- The frame of the scan as printed: arguments unchanged, every semaphore at zero. -/
theorem frame_scan_bits : Cert.quiescent_Kernel := fun m ρ _ =>
  cast (congrArg (fun d => θ_run d (onTc (τ := Cert.KernelIdeal.τ) (Cert.KernelIdeal.main (F := Bits))) ⟨m, fun _ => 0, ρ⟩ _)
    (scan_defs_same (F := Bits)).symm) (Cert.KernelIdeal.Scan.frame_scan (F := Bits) m ρ)

end Cert.Proof

end
-- ==== Proof.ScanRef.lean ====
module

public import proofs.«01_k».proof.Proof.Gen.ReferenceIdeal.Run
public import Idealize.ShloMosaic.Lib.Claim
public import Idealize.ShloMosaic.Lib.WordCmp
public import Idealize.ShloMosaic.Lib.ValueLayout
public import Idealize.ShloMosaic.Lib.Pipeline.ValueKit
public import Idealize.ShloMosaic.Lib.Quiescent
public import proofs.«01_k».proof.Proof.Recur

@[expose] public section

noncomputable section

namespace Cert.ReferenceIdeal.Loop

open Idealize.ShloMosaic Idealize.ShloMosaic.TcCoe Idealize.ShloMosaic.WordCmp Idealize.SL.Sem
open Cert.ReferenceIdeal Cert.ReferenceIdeal.Gen Cert.ReferenceIdeal.Value Idealize.ShloMosaic.StableHlo

variable {F : FTy → Type} [FloatOps F]

/-! # The plain loop over time computes the recurrence

The loop carries the state and a stack of all states so far; trip `j` reads both sequences at time `j`, makes the new
state and writes it to the stack at place `j`. -/

/-- The place of trip `j` in a sequence: time `j`, from the first row and channel. -/
theorem start_eq (j : ℕ) (hj : j < 8192) (e : Fin 3) :
    (((![(constantI S_ 32 (BitVec.ofNat 32 j) : (⟨S_, .i32⟩ : BufTy).Contents (Elt F)), constantI S_ 32 0#32, constantI S_ 32 0#32]
      : Fin 3 → (⟨S_, .i32⟩ : BufTy).Contents (Elt F))) e (Shape.Idx.first h_S_)).toInt = ((![j, 0, 0] : Fin 3 → ℕ) e : Int) := by
  match e with
  | ⟨0, _⟩ => exact toInt_ofNat_of_lt (w := 32) (by omega)
  | ⟨1, _⟩ => rfl
  | ⟨2, _⟩ => rfl

/-- One time fits inside a sequence. -/
theorem fits (j : ℕ) (hj : j < 8192) : S8192x4x256.Slices (![j, 0, 0] : Fin 3 → ℕ) S1x4x256 :=
  ⟨rfl, fun e => by match e with
    | ⟨0, _⟩ => show j + 1 ≤ 8192; omega
    | ⟨1, _⟩ => show 0 + 4 ≤ 4; omega
    | ⟨2, _⟩ => show 0 + 256 ≤ 256; omega⟩

/-- A sequence put time first, read at time `j`, is the slice of the sequence at time `j`. -/
theorem read_time (x : Vec F S4x8192x256 .f32) (j : ℕ) (hj : j < 8192) (start : Fin 3 → Int)
    (e : ∀ k, start k = ((![j, 0, 0] : Fin 3 → ℕ) k : Int)) (p : Fin 4) (q : Fin 256) :
    shapeCast S4x256 (Host.dynamicSlice S1x4x256 (transpose S8192x4x256 [1, 0, 2] x transposes_S4x8192x256_S8192x4x256_1_0_2) start
      sliceFits_S8192x4x256_S1x4x256) shapeCasts_S1x4x256_S4x256 (ValueIdx.ix2 p q) = Recur.slice x j (ValueIdx.ix2 p q) := by
  rw [dynamicSlice_eq_extract _ _ _ _ _ (fits j hj) e, ValueIdx.shapeCast_1ab_ab_apply]
  unfold extractStridedSlice
  refine (transpose_apply _ _ _ _ (ValueIdx.ix3 p (⟨j, hj⟩ : Fin 8192) q) fun k => ?_).trans ?_
  · match k with
    | ⟨0, _⟩ => show j = j + 0; rfl
    | ⟨1, _⟩ => show p.val = 0 + p.val; omega
    | ⟨2, _⟩ => show q.val = 0 + q.val; omega
  · show _ = x (ValueIdx.ix3 p _ q)
    exact congrArg (fun t => x (ValueIdx.ix3 p t q)) (Fin.ext (Nat.mod_eq_of_lt hj).symm)

variable (a b : Vec F S4x8192x256 .f32) (s : Vec F S4x256 .f32)

/-- The carried values before trip `n`: both sequences put time first, the trip's number, the recurrence's state after `n`
times, and at every place of the stack below `n` the state after one time more than the place. -/
structure Before (V : Valuation τ sig (Elt F)) (n : ℕ) : Prop where
  decays : V (Proc.devRef .tc main_v3_0) = transpose S8192x4x256 [1, 0, 2] a transposes_S4x8192x256_S8192x4x256_1_0_2
  inputs : V (Proc.devRef .tc main_v3_1) = transpose S8192x4x256 [1, 0, 2] b transposes_S4x8192x256_S8192x4x256_1_0_2
  count : V (Proc.devRef .tc main_v3_2) = (constantI S_ 32 (BitVec.ofNat 32 n) : (⟨S_, .i32⟩ : BufTy).Contents (Elt F))
  state : V (Proc.devRef .tc main_v3_3) = Recur.states a b s n
  stack : ∀ (j : Fin 8192) (p : Fin 4) (q : Fin 256), j.val < n →
    (V (Proc.devRef .tc main_v3_4) : Vec F S8192x4x256 .f32) (ValueIdx.ix3 j p q) = Recur.states a b s (j.val + 1) (ValueIdx.ix2 p q)

variable {a b s}

/-- The new state of trip `n` is the recurrence's next one. -/
theorem new_state {V : Valuation τ sig (Elt F)} {n : ℕ} (h : Before a b s V n) (hn : n < 8192) :
    res_main_while0b_v8 V = Recur.states a b s (n + 1) := by
  unfold res_main_while0b_v8
  rw [h.decays, h.inputs, h.count, h.state]
  refine congrArg₂ addf (congrArg₂ mulf ?_ rfl) ?_
  · funext y
    have := read_time a n hn _ (start_eq (F := F) n hn) (y 0) (y 1)
    rwa [show (ValueIdx.ix2 (y 0) (y 1) : S4x256.Idx) = y from funext fun k => by match k with | ⟨0, _⟩ => rfl | ⟨1, _⟩ => rfl] at this
  · funext y
    have := read_time b n hn _ (start_eq (F := F) n hn) (y 0) (y 1)
    rwa [show (ValueIdx.ix2 (y 0) (y 1) : S4x256.Idx) = y from funext fun k => by match k with | ⟨0, _⟩ => rfl | ⟨1, _⟩ => rfl] at this

/-- The stack with a new state written at place `n`: that state there, elsewhere what it was. -/
theorem write_time (x : Vec F S8192x4x256 .f32) (v : Vec F S4x256 .f32) (n : ℕ) (hn : n < 8192) (start : Fin 3 → Int)
    (e : ∀ k, start k = ((![n, 0, 0] : Fin 3 → ℕ) k : Int)) (j : Fin 8192) (p : Fin 4) (q : Fin 256) :
    Host.dynamicUpdateSlice x (broadcastInDim S1x4x256 ![1, 2] bcast_S4x256_S1x4x256_1_2 v) start updateFits_S8192x4x256_S1x4x256
      (ValueIdx.ix3 j p q) = if j.val = n then v (ValueIdx.ix2 p q) else x (ValueIdx.ix3 j p q) := by
  rw [dynamicUpdateSlice_eq_update _ _ _ _ _ (fits n hn) e]
  unfold updateSlice
  by_cases hjn : j.val = n
  · rw [if_pos hjn, dif_pos (fun k => by
      match k with
      | ⟨0, _⟩ => exact ⟨hjn.ge, (show j.val < n + 1 by omega)⟩
      | ⟨1, _⟩ => exact ⟨Nat.zero_le _, (show p.val < 0 + 4 by have := p.isLt; omega)⟩
      | ⟨2, _⟩ => exact ⟨Nat.zero_le _, (show q.val < 0 + 256 by have := q.isLt; omega)⟩)]
    refine broadcastInDim_apply _ _ _ _ (ValueIdx.ix2 p q) fun k => ?_
    match k with
    | ⟨0, _⟩ => show p.val = if (4 : ℕ) = 1 then 0 else p.val - 0; simp
    | ⟨1, _⟩ => show q.val = if (256 : ℕ) = 1 then 0 else q.val - 0; simp
  · rw [if_neg hjn, dif_neg (fun h => by
      have h0 : n ≤ j.val ∧ j.val < n + 1 := h (0 : Fin 3)
      omega)]

/-- One trip carries `Before` on to the next number. -/
theorem before_step {V : Valuation τ sig (Elt F)} {n : ℕ} (h : Before a b s V n) (hn : n < 8192) : Before a b s (STEP V) (n + 1) where
  decays := (STEP_main_v3_0 V).trans h.decays
  inputs := (STEP_main_v3_1 V).trans h.inputs
  count := by
    rw [STEP_main_v3_2]
    unfold step_main_v3_2
    rw [h.count]
    funext i
    show BitVec.ofNat 32 n + 1#32 = BitVec.ofNat 32 (n + 1)
    rw [BitVec.ofNat_add]
  state := by
    rw [STEP_main_v3_3]
    exact new_state h hn
  stack := fun j p q hj => by
    rw [STEP_main_v3_4]
    unfold step_main_v3_4
    rw [new_state h hn, h.count]
    refine (write_time _ _ n hn _ (start_eq (F := F) n hn) j p q).trans ?_
    by_cases hjn : j.val = n
    · rw [if_pos hjn, hjn]
    · rw [if_neg hjn]; exact h.stack j p q (by omega)

variable (m : (ℓ : Loc nD τ sig) → Buf (Elt F) ℓ) (ρ : Dev nD → PrngReg)

set_option maxRecDepth 65536 in
/-- The operations before the loop set up `Before` at trip 0. -/
theorem before_entry (c : Dev nD) : Before (m ((c.tc : Thread nD τ).loc main_arg0)) (m ((c.tc : Thread nD τ).loc main_arg1))
    (m ((c.tc : Thread nD τ).loc main_arg2)) (entryContents preI m c) 0 where
  decays := by simp only [entryContents, afterL_cons, afterL_nil]; after_reads_simp <;> rfl
  inputs := by simp only [entryContents, afterL_cons, afterL_nil]; after_reads_simp <;> rfl
  count := by simp only [entryContents, afterL_cons, afterL_nil]; after_reads_simp <;> rfl
  state := by simp only [entryContents, afterL_cons, afterL_nil]; after_reads_simp <;> rfl
  stack := fun _ _ _ h => absurd h (Nat.not_lt_zero _)

/-- `Before` at every trip's number up to 8192. -/
theorem before_all (c : Dev nD) : ∀ n, n ≤ 8192 → Before (m ((c.tc : Thread nD τ).loc main_arg0)) (m ((c.tc : Thread nD τ).loc main_arg1))
    (m ((c.tc : Thread nD τ).loc main_arg2)) (STEP^[n] (entryContents preI m c)) n
  | 0, _ => before_entry m c
  | n + 1, hn => by
    rw [Function.iterate_succ_apply']
    exact before_step (before_all c n (by omega)) (by omega)

/-- The whole stack, put back sequence first, is the recurrence's array of states. -/
theorem out_states {V : Valuation τ sig (Elt F)} (h : Before a b s V 8192) : out_main_v4 V = Recur.allStates a b s := by
  funext y
  unfold out_main_v4
  refine (transpose_apply _ _ _ _ (ValueIdx.ix3 (y 1) (y 0) (y 2)) fun k => ?_).trans
    (h.stack (y 1) (y 0) (y 2) (y 1).isLt)
  match k with
  | ⟨0, _⟩ => rfl
  | ⟨1, _⟩ => rfl
  | ⟨2, _⟩ => rfl

/-- The plain loop's run: its results are the recurrence's states and last state, its arguments unchanged. -/
theorem run_loop : θ_run (defs (F := F)) (onTc (τ := τ) (main (F := F))) ⟨m, fun _ => 0, ρ⟩ fun r => ∀ c : Dev nD,
      r.2.mem ((c.tc : Thread nD τ).loc main_v4) = Recur.allStates (m ((c.tc : Thread nD τ).loc main_arg0))
        (m ((c.tc : Thread nD τ).loc main_arg1)) (m ((c.tc : Thread nD τ).loc main_arg2))
      ∧ r.2.mem ((c.tc : Thread nD τ).loc main_v3_3) = Recur.states (m ((c.tc : Thread nD τ).loc main_arg0))
        (m ((c.tc : Thread nD τ).loc main_arg1)) (m ((c.tc : Thread nD τ).loc main_arg2)) 8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hb := before_all m c 8192 le_rfl
    ⟨(h c).1.trans (out_states hb), (h c).2.1.trans hb.state, (h c).2.2⟩) (Value.run m ρ)

/-- The plain loop's frame: arguments unchanged and no semaphore left raised (it has none). -/
theorem frame_loop : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2, sem_eq_zero_of_no_sems (by decide) r.2⟩) (run_loop m ρ)

end Cert.ReferenceIdeal.Loop

end
-- ==== Proof.ScanClaim.lean ====
module

public import proofs.«01_k».proof.Defs
public import proofs.«01_k».proof.Proof.ScanFrame
public import proofs.«01_k».proof.Proof.ScanRef

@[expose] public section

noncomputable section

namespace Cert.Proof

open Idealize.ShloMosaic Idealize.ShloMosaic.TcCoe Idealize.SL.Sem

/-! # The scan kernel computes what the plain loop computes -/

/-- From arguments that agree, the scan kernel and the plain loop over time both end with the recurrence's states and its
last state, at exact values. -/
theorem scan_agrees : Cert.algebraic_KernelIdeal_ReferenceIdeal := by
  intro m ρ m' ρ' _ hagree
  refine ⟨fun c => Recur.allStates (KernelIdeal.Scan.decays m c) (KernelIdeal.Scan.inputs m c) (KernelIdeal.Scan.start m c),
    fun c => KernelIdeal.Scan.stateAt m c 8192, ?_, ?_⟩
  · exact (θ_run _ _ _).mono (fun _ h c => ⟨(h.1 c).1, (h.1 c).2, h.2.1 c⟩)
      (θ_run_and (KernelIdeal.Scan.run_scan (F := Ideal) m ρ) (KernelIdeal.Scan.frame_scan (F := Ideal) m ρ))
  · refine (θ_run _ _ _).mono (fun _ h c => ?_) (ReferenceIdeal.Loop.run_loop (F := Ideal) m' ρ')
    obtain ⟨h0, h1, ha⟩ := h c
    obtain ⟨e0, e1, e2⟩ := hagree c
    refine ⟨h0.trans ?_, h1.trans ?_, ha⟩
    · rw [e0, e1, e2]
    · rw [e0, e1, e2]

end Cert.Proof

end
-- ==== Proof.Products.lean ====
module

public import Idealize.ShloMosaic.Lib.KernelVsHost
public import Idealize.ShloMosaic.Lib.MatmulPlain
public import Idealize.ShloMosaic.Lib.StackMember

@[expose] public section

noncomputable section

namespace Cert.Products

open Idealize.ShloMosaic

/-! # Products of matrices at exact values

A tiled product computes, tile by tile, the same sums as one product of the whole matrices. -/

variable {M K N m n : ℕ}

/-- The product of two matrices, entry by entry: each entry is the sum over the shared coordinate. The two formats the
entries are held in do not matter at exact values. -/
def prod {φ₁ φ₂ : FTy} (x : FVec Ideal ⟨2, ![M, K]⟩ φ₁) (w : FVec Ideal ⟨2, ![K, N]⟩ φ₂) : FVec Ideal ⟨2, ![M, N]⟩ .f32 :=
  fun y => ∑ k : Fin K, x (ValueIdx.ix2 (y 0) k) * w (ValueIdx.ix2 k (y 1))

/-- The host's product is the product of the matrices. -/
theorem host_prod {φ₁ φ₂ : FTy} (prec : Option ContractPrecision)
    (x : FVec Ideal ⟨2, ![M, K]⟩ φ₁) (w : FVec Ideal ⟨2, ![K, N]⟩ φ₂) :
    Host.dotGeneral (DotDims.plain M K N) prec x w = prod x w := by
  funext y
  obtain ⟨a, b, rfl⟩ : ∃ (a : Fin M) (b : Fin N), y = ValueIdx.ix2 a b := ⟨y 0, y 1, ValueIdx.eq_ix2 y⟩
  exact StackMember.dotGeneral_plain_apply prec x w a b

/-- The host's product of two matrices. -/
abbrev dot (x : FVec Ideal ⟨2, ![M, K]⟩ .f32) (w : FVec Ideal ⟨2, ![K, N]⟩ .f32) : FVec Ideal ⟨2, ![M, N]⟩ .f32 :=
  Host.dotGeneral (DotDims.plain M K N) none x w

/-- Rounding the second matrix to the shorter format first changes nothing at exact values. -/
theorem prod_round (x : FVec Ideal ⟨2, ![M, K]⟩ .f32) (w : FVec Ideal ⟨2, ![K, N]⟩ .f32) (h) :
    prod x (truncf .bf16 w h) = dot x w := (host_prod none x w).symm

/-- A tile of the kernel's product: the product of two blocks accumulated from zero. -/
abbrev tile (x : FVec Ideal ⟨2, ![m, K]⟩ .f32) (w : FVec Ideal ⟨2, ![K, n]⟩ .bf16) : FVec Ideal ⟨2, ![m, n]⟩ .f32 :=
  FloatOps.matmul (φ₁ := .f32) (DotDims.plain m K n) none x w (constant ⟨2, ![m, n]⟩ .f32 0x00000000#32)

/-- The product of a block of rows of `X` by a block of columns of `W`, accumulated from zero, is the block of the whole
product in those rows and columns. `ex`, `ew`, `eo` say where an entry of the blocks of `X`, of `W` and of the product lies:
`p` rows and `q` columns in. -/
theorem tile_prod {φ₁ φ₂ ψ₁ ψ₂ : FTy} (prec : Option ContractPrecision)
    (X : FVec Ideal ⟨2, ![M, K]⟩ φ₁) (W : FVec Ideal ⟨2, ![K, N]⟩ φ₂)
    (x : FVec Ideal ⟨2, ![m, K]⟩ ψ₁) (w : FVec Ideal ⟨2, ![K, n]⟩ ψ₂)
    (ex : (⟨2, ![m, K]⟩ : Shape).Idx → (⟨2, ![M, K]⟩ : Shape).Idx)
    (ew : (⟨2, ![K, n]⟩ : Shape).Idx → (⟨2, ![K, N]⟩ : Shape).Idx)
    (eo : (⟨2, ![m, n]⟩ : Shape).Idx → (⟨2, ![M, N]⟩ : Shape).Idx) (p q : ℕ)
    (hx : ∀ a, x a = X (ex a)) (hw : ∀ a, w a = W (ew a))
    (hx0 : ∀ a, (ex a 0).val = p + (a 0).val) (hx1 : ∀ a, (ex a 1).val = (a 1).val)
    (hw0 : ∀ a, (ew a 0).val = (a 0).val) (hw1 : ∀ a, (ew a 1).val = q + (a 1).val)
    (ho0 : ∀ a, (eo a 0).val = p + (a 0).val) (ho1 : ∀ a, (eo a 1).val = q + (a 1).val)
    (y : (⟨2, ![m, n]⟩ : Shape).Idx) :
    FloatOps.matmul (DotDims.plain m K n) prec x w (constant ⟨2, ![m, n]⟩ .f32 0x00000000#32) y = prod X W (eo y) := by
  obtain ⟨a, b, rfl⟩ : ∃ (a : Fin m) (b : Fin n), y = ValueIdx.ix2 a b := ⟨y 0, y 1, ValueIdx.eq_ix2 y⟩
  rw [Ideal.matmul_plain_apply]
  refine (congrArg (· + _) Ideal.ofBits_zero_f32).trans ((zero_add _).trans ?_)
  refine Finset.sum_congr rfl fun k _ => ?_
  rw [hx, hw]
  congr 1
  · refine congrArg X (funext fun d => Fin.ext ?_)
    match d with
    | ⟨0, _⟩ => exact (hx0 _).trans (ho0 (ValueIdx.ix2 a b)).symm
    | ⟨1, _⟩ => exact hx1 _
  · refine congrArg W (funext fun d => Fin.ext ?_)
    match d with
    | ⟨0, _⟩ => exact hw0 _
    | ⟨1, _⟩ => exact (hw1 _).trans (ho1 (ValueIdx.ix2 a b)).symm

end Cert.Products

end
-- ==== Proof.ExpertTiles.lean ====
module

public import proofs.«01_k».proof.Proof.Gen.ExpertIdeal.Frame
public import proofs.«01_k».proof.Proof.Products
public import Idealize.ShloMosaic.Lib.Pipeline.ValueKit

@[expose] public section

set_option maxRecDepth 16384

noncomputable section

namespace Cert.ExpertIdeal.Tiles

open Idealize.ShloMosaic Idealize.ShloMosaic.TcCoe Cert.ExpertIdeal.Gen Cert.Products
open Idealize.ShloMosaic.Pipeline (Dat Cfg Window)

variable (V : (c : Dev nD) → (b : Ref sig .tc) → Buf (Elt Ideal) ((c : Thread nD τ).loc b))

/-- The blocks of the first product: point `t` takes the `t / 7`-th block of rows and the `t % 7`-th block of columns. -/
theorem first_blocks : ∀ t : Fin cfg0.N, win0_0.index t = ![t.val / 7, 0] ∧ win0_1.index t = ![0, t.val % 7]
    ∧ win0_2.index t = ![t.val / 7, t.val % 7] := by decide +kernel

/-- The first call leaves the product of its two arguments. -/
theorem first_product (c : Dev nD) : (dat0 V c).arrAt 2 cfg0.N
    = prod (φ₁ := .f32) (φ₂ := .bf16) (V c main_arg0) (V c main_v0) := by
  refine (dat0 V c).arrAt_eq_of_covers 2 _ (by decide +kernel) fun t _ y => ?_
  obtain ⟨e0, e1, e2⟩ := first_blocks t
  blk_simp
  rw [after0_2]
  unfold out0_2 k0_pay1
  rw [View.canon_cons_unit_lit _ _ _ (by decide), View.ld_unit_lit _ _ (by decide), View.ld_unit_lit _ _ (by decide), shapeCast_self]
  refine tile_prod none (V c main_arg0) (V c main_v0) _ _ ((cfg0.win 0).blk t).view.emb ((cfg0.win 1).blk t).view.emb
    ((cfg0.win 2).blk t).view.emb (t.val / 7 * 512) (t.val % 7 * 1024) (fun _ => rfl) (fun _ => rfl) ?_ ?_ ?_ ?_ ?_ ?_ y
  all_goals
    intro a
    blk_simp [e0, e1, e2]

/-- The blocks of the second product: point `t` takes the `t`-th block of rows and all columns. -/
theorem second_blocks : ∀ t : Fin cfg1.N, win1_0.index t = ![t.val, 0] ∧ win1_1.index t = ![0, 0]
    ∧ win1_2.index t = ![t.val, 0] := by decide +kernel

/-- The second call leaves the product of its two arguments. -/
theorem second_product (c : Dev nD) : (dat1 V c).arrAt 2 cfg1.N
    = prod (φ₁ := .f32) (φ₂ := .bf16) (V c main_v5) (V c main_v6) := by
  refine (dat1 V c).arrAt_eq_of_covers 2 _ (by decide +kernel) fun t _ y => ?_
  obtain ⟨e0, e1, e2⟩ := second_blocks t
  blk_simp
  rw [after1_2]
  unfold out1_2 k1_pay1
  rw [View.canon_cons_unit_lit _ _ _ (by decide), View.ld_unit_lit _ _ (by decide), View.ld_unit_lit _ _ (by decide), shapeCast_self,
    shapeCast_self]
  refine tile_prod none (V c main_v5) (V c main_v6) _ _ ((cfg1.win 0).blk t).view.emb ((cfg1.win 1).blk t).view.emb
    ((cfg1.win 2).blk t).view.emb (t.val * 256) 0 (fun _ => rfl) (fun _ => rfl) ?_ ?_ ?_ ?_ ?_ ?_ y
  all_goals
    intro a
    blk_simp [e0, e1, e2]

end Cert.ExpertIdeal.Tiles

end
-- ==== Proof.ExpertRun.lean ====
module

public import proofs.«01_k».proof.Proof.Gen.ExpertIdeal.Frame

@[expose] public section

set_option maxRecDepth 16384

noncomputable section

namespace Cert.ExpertIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertIdeal.Gen

/-! # The run of the expert program -/

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends, and then every buffer it was launched with holds the contents `W6` gives: what the host
operations and the calls leave, one after the other. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Cert.ExpertIdeal.Tiles

end
-- ==== Proof.ExpertValue.lean ====
module

public import proofs.«01_k».proof.Defs
public import proofs.«01_k».proof.Proof.ExpertTiles
public import proofs.«01_k».proof.Proof.ExpertRun
public import proofs.«01_k».proof.Proof.Gen.ExpertRefIdeal.Run
public import Idealize.ShloMosaic.Lib.Claim

@[expose] public section

set_option maxRecDepth 16384

noncomputable section

namespace Cert.ExpertIdeal.Tiles

open Idealize.ShloMosaic Idealize.ShloMosaic.TcCoe Idealize.SL.Sem Cert.ExpertIdeal.Gen Cert.Products
open Idealize.ShloMosaic.StableHlo

/-! # The expert program computes what the plain products compute -/

section Value

variable (m : (ℓ : Loc nD τ sig) → Buf (Elt Ideal) ℓ) (ρ : Dev nD → PrngReg) (c : Dev nD)

/-- The first product, of the rows by the gate and up weights. -/
abbrev gateUp : FVec Ideal S32768x7168 .f32 :=
  dot (M := 32768) (K := 1024) (N := 7168) (m ((c.tc : Thread nD τ).loc main_arg0))
    (m ((c.tc : Thread nD τ).loc main_arg1))

/-- The left half of the first product. -/
abbrev gate : FVec Ideal S32768x3584 .f32 :=
  extractStridedSlice S32768x3584 ![0, 0] (gateUp m c) slices_S32768x7168_S32768x3584_0_0

/-- The gated rows the second product takes: the left half times its sigmoid times the right half. -/
abbrev hidden : FVec Ideal S32768x3584 .f32 :=
  mulf (mulf (gate m c) (Host.divf (broadcastInDim S32768x3584 ![] bcast_S_S32768x3584 (constant S_ .f32 0x3F800000#32))
      (addf (broadcastInDim S32768x3584 ![] bcast_S_S32768x3584 (constant S_ .f32 0x3F800000#32)) (Host.exp (Host.negf (gate m c))))))
    (extractStridedSlice S32768x3584 ![0, 3584] (gateUp m c) slices_S32768x7168_S32768x3584_0_3584)

/-- After the first call the product's buffer holds the whole product. -/
theorem after_first : W2 m ρ c (Proc.devRef .tc main_v1) = gateUp m c := by
  refine (W2_arr m ρ c 2).trans ((first_product _ c).trans ?_)
  show prod (φ₁ := .f32) (φ₂ := .bf16) (W1 m ρ c (Proc.devRef .tc main_arg0)) (W1 m ρ c (Proc.devRef .tc main_v0)) = _
  after_results
  exact prod_round _ _ _

/-- The second call is entered with the gated rows. -/
theorem before_second : W5 m ρ c (Proc.devRef .tc main_v5) = hidden m c := by
  simp only [W5, W4, W3, hostOps1_1, TRef.binary, TRef.nullary, TRef.unary, TRef.toBuf, TRef.ofBuf, cast_eq]
  after_results
  rw [after_first]

/-- At the end the result's buffer holds the product of the gated rows by the down weights. -/
theorem at_end : W6 m ρ c (Proc.devRef .tc main_v7)
    = dot (M := 32768) (K := 3584) (N := 1024) (hidden m c)
        (m ((c.tc : Thread nD τ).loc main_arg2)) := by
  refine (W6_arr m ρ c 2).trans ((second_product _ c).trans ?_)
  show prod (φ₁ := .f32) (φ₂ := .bf16) (W5 m ρ c (Proc.devRef .tc main_v5)) (W5 m ρ c (Proc.devRef .tc main_v6)) = _
  rw [before_second]
  after_results
  rw [W2_args m ρ c main_arg2 (by decide)]
  exact prod_round _ _ _

end Value

end Cert.ExpertIdeal.Tiles

namespace Cert.Proof

open Idealize.ShloMosaic Idealize.ShloMosaic.TcCoe Idealize.SL.Sem

/-- From arguments that agree, the tiled expert and the plain one end with the same result, at exact values. -/
theorem expert_agrees : Cert.algebraic_ExpertIdeal_ExpertRefIdeal := by
  intro m ρ m' ρ' _ hagree
  refine ⟨_, ?_, (θ_run _ _ _).mono (fun _ h c => h c) (ExpertRefIdeal.Value.run (F := Ideal) m' ρ')⟩
  refine (θ_run _ _ _).mono (fun _ h c => ⟨?_, h.2.1 c⟩)
    (θ_run_and (ExpertIdeal.Tiles.run_all (F := Ideal) m ρ) (ExpertIdeal.Gen.frame (F := Ideal) m ρ))
  refine (h.1 c _ (ExpertIdeal.Gen.mem_uc ExpertIdeal.main_v7 (by decide))).trans ((ExpertIdeal.Tiles.at_end m ρ c).trans ?_)
  obtain ⟨e0, e1, e2⟩ := hagree c
  rw [e0, e1, e2]
  rfl

end Cert.Proof

end
-- ==== Proof.MoeTiles.lean ====
module

public import proofs.«01_k».proof.Proof.Gen.MoeIdeal.Frame
public import proofs.«01_k».proof.Proof.Products
public import Idealize.ShloMosaic.Lib.Pipeline.ValueKit

/-!
What the sixteen calls of the experts' products leave.

The calls with even numbers multiply 32768 rows with a matrix 1024 × 7168, block by block; those with odd numbers multiply 32768 rows
with a matrix 3584 × 1024. The blocks and bodies are the same for every expert, so one lemma on a block serves the eight calls of
a kind.
-/

@[expose] public section

set_option maxRecDepth 16384

noncomputable section

namespace Cert.MoeIdeal.Parts

open Idealize.ShloMosaic Idealize.ShloMosaic.TcCoe Cert.MoeIdeal.Gen Cert.Products
open Idealize.ShloMosaic.Pipeline (Dat Cfg Window)

/-- The blocks of a wide product: point `t` takes the `(t / 7)`-th block of rows and the `(t % 7)`-th block of columns. -/
theorem wide_blocks : ∀ t : Fin cfg0.N, win0_0.index t = ![t.val / 7, 0] ∧ win0_1.index t = ![0, t.val % 7]
    ∧ win0_2.index t = ![t.val / 7, t.val % 7] := by decide +kernel

/-- The blocks of a tall product: point `t` takes the `t`-th block of rows and all columns. -/
theorem tall_blocks : ∀ t : Fin cfg1.N, win1_0.index t = ![t.val, 0] ∧ win1_1.index t = ![0, 0]
    ∧ win1_2.index t = ![t.val, 0] := by decide +kernel

/-- What the body of a wide product stores: one tile. -/
theorem wide_out (x : Vec Ideal S512x1024 .f32) (w : Vec Ideal S1024x1024 .bf16) :
    out2_2 x w = tile (m := 512) (K := 1024) (n := 1024) x w := by
  unfold out2_2 k2_pay1
  rw [View.canon_cons_unit_lit _ _ _ (by decide), View.ld_unit_lit _ _ (by decide), View.ld_unit_lit _ _ (by decide), shapeCast_self,
    shapeCast_self]
  rfl

/-- What the body of a tall product stores: one tile. -/
theorem tall_out (x : Vec Ideal S256x3584 .f32) (w : Vec Ideal S3584x1024 .bf16) :
    out1_2 x w = tile (m := 256) (K := 3584) (n := 1024) x w := by
  unfold out1_2 k1_pay1
  rw [View.canon_cons_unit_lit _ _ _ (by decide), View.ld_unit_lit _ _ (by decide), View.ld_unit_lit _ _ (by decide), shapeCast_self,
    shapeCast_self]
  rfl

/-- A tile of a wide product is the block of the whole product at its place. -/
theorem wide_tile (X : FVec Ideal ⟨2, ![32768, 1024]⟩ .f32) (W : FVec Ideal ⟨2, ![1024, 7168]⟩ .bf16) (t : Fin cfg0.N)
    (y : (⟨2, ![512, 1024]⟩ : Shape).Idx) :
    out2_2 (F := Ideal) (fun a => X (((cfg0.win 0).blk t).view.emb a)) (fun a => W (((cfg0.win 1).blk t).view.emb a)) y
      = prod X W (((cfg0.win 2).blk t).view.emb y) := by
  obtain ⟨e0, e1, e2⟩ := wide_blocks t
  refine (congrFun (wide_out _ _) y).trans ?_
  refine tile_prod none X W _ _ ((cfg0.win 0).blk t).view.emb ((cfg0.win 1).blk t).view.emb
    ((cfg0.win 2).blk t).view.emb (t.val / 7 * 512) (t.val % 7 * 1024) (fun _ => rfl) (fun _ => rfl) ?_ ?_ ?_ ?_ ?_ ?_ y
  all_goals
    intro a
    blk_simp [e0, e1, e2]

/-- A tile of a tall product is the block of the whole product at its place. -/
theorem tall_tile (X : FVec Ideal ⟨2, ![32768, 3584]⟩ .f32) (W : FVec Ideal ⟨2, ![3584, 1024]⟩ .bf16) (t : Fin cfg1.N)
    (y : (⟨2, ![256, 1024]⟩ : Shape).Idx) :
    out1_2 (F := Ideal) (fun a => X (((cfg1.win 0).blk t).view.emb a)) (fun a => W (((cfg1.win 1).blk t).view.emb a)) y
      = prod X W (((cfg1.win 2).blk t).view.emb y) := by
  obtain ⟨e0, e1, e2⟩ := tall_blocks t
  refine (congrFun (tall_out _ _) y).trans ?_
  refine tile_prod none X W _ _ ((cfg1.win 0).blk t).view.emb ((cfg1.win 1).blk t).view.emb
    ((cfg1.win 2).blk t).view.emb (t.val * 256) 0 (fun _ => rfl) (fun _ => rfl) ?_ ?_ ?_ ?_ ?_ ?_ y
  all_goals
    intro a
    blk_simp [e0, e1, e2]

variable (V : (c : Dev nD) → (b : Ref sig .tc) → Buf (Elt Ideal) ((c : Thread nD τ).loc b)) (c : Dev nD)

/-- Expert 0's first call leaves the product of the rows and its gate and up weights. -/
theorem product0 : (dat0 V c).arrAt 2 cfg0.N = prod (φ₁ := .f32) (φ₂ := .bf16) (V c main_v31) (V c main_v58) :=
  (dat0 V c).arrAt_eq_of_covers 2 _ (by decide +kernel) fun t _ y =>
    (congrFun (after0_2 V c t) y).trans (wide_tile (V c main_v31) (V c main_v58) t y)

/-- Expert 0's second call leaves the product of its gated rows and its down weights. -/
theorem product1 : (dat1 V c).arrAt 2 cfg1.N = prod (φ₁ := .f32) (φ₂ := .bf16) (V c main_v63) (V c main_v64) :=
  (dat1 V c).arrAt_eq_of_covers 2 _ (by decide +kernel) fun t _ y =>
    (congrFun (after1_2 V c t) y).trans (tall_tile (V c main_v63) (V c main_v64) t y)

/-- Expert 1's first call leaves the product of the rows and its gate and up weights. -/
theorem product2 : (dat2 V c).arrAt 2 cfg2.N = prod (φ₁ := .f32) (φ₂ := .bf16) (V c main_v31) (V c main_v74) :=
  (dat2 V c).arrAt_eq_of_covers 2 _ (by decide +kernel) fun t _ y =>
    (congrFun (after2_2 V c t) y).trans (wide_tile (V c main_v31) (V c main_v74) t y)

/-- Expert 1's second call leaves the product of its gated rows and its down weights. -/
theorem product3 : (dat3 V c).arrAt 2 cfg3.N = prod (φ₁ := .f32) (φ₂ := .bf16) (V c main_v79) (V c main_v80) :=
  (dat3 V c).arrAt_eq_of_covers 2 _ (by decide +kernel) fun t _ y =>
    (congrFun (after3_2 V c t) y).trans (tall_tile (V c main_v79) (V c main_v80) t y)

/-- Expert 2's first call leaves the product of the rows and its gate and up weights. -/
theorem product4 : (dat4 V c).arrAt 2 cfg4.N = prod (φ₁ := .f32) (φ₂ := .bf16) (V c main_v31) (V c main_v90) :=
  (dat4 V c).arrAt_eq_of_covers 2 _ (by decide +kernel) fun t _ y =>
    (congrFun (after4_2 V c t) y).trans (wide_tile (V c main_v31) (V c main_v90) t y)

/-- Expert 2's second call leaves the product of its gated rows and its down weights. -/
theorem product5 : (dat5 V c).arrAt 2 cfg5.N = prod (φ₁ := .f32) (φ₂ := .bf16) (V c main_v95) (V c main_v96) :=
  (dat5 V c).arrAt_eq_of_covers 2 _ (by decide +kernel) fun t _ y =>
    (congrFun (after5_2 V c t) y).trans (tall_tile (V c main_v95) (V c main_v96) t y)

/-- Expert 3's first call leaves the product of the rows and its gate and up weights. -/
theorem product6 : (dat6 V c).arrAt 2 cfg6.N = prod (φ₁ := .f32) (φ₂ := .bf16) (V c main_v31) (V c main_v106) :=
  (dat6 V c).arrAt_eq_of_covers 2 _ (by decide +kernel) fun t _ y =>
    (congrFun (after6_2 V c t) y).trans (wide_tile (V c main_v31) (V c main_v106) t y)

/-- Expert 3's second call leaves the product of its gated rows and its down weights. -/
theorem product7 : (dat7 V c).arrAt 2 cfg7.N = prod (φ₁ := .f32) (φ₂ := .bf16) (V c main_v111) (V c main_v112) :=
  (dat7 V c).arrAt_eq_of_covers 2 _ (by decide +kernel) fun t _ y =>
    (congrFun (after7_2 V c t) y).trans (tall_tile (V c main_v111) (V c main_v112) t y)

/-- Expert 4's first call leaves the product of the rows and its gate and up weights. -/
theorem product8 : (dat8 V c).arrAt 2 cfg8.N = prod (φ₁ := .f32) (φ₂ := .bf16) (V c main_v31) (V c main_v122) :=
  (dat8 V c).arrAt_eq_of_covers 2 _ (by decide +kernel) fun t _ y =>
    (congrFun (after8_2 V c t) y).trans (wide_tile (V c main_v31) (V c main_v122) t y)

/-- Expert 4's second call leaves the product of its gated rows and its down weights. -/
theorem product9 : (dat9 V c).arrAt 2 cfg9.N = prod (φ₁ := .f32) (φ₂ := .bf16) (V c main_v127) (V c main_v128) :=
  (dat9 V c).arrAt_eq_of_covers 2 _ (by decide +kernel) fun t _ y =>
    (congrFun (after9_2 V c t) y).trans (tall_tile (V c main_v127) (V c main_v128) t y)

/-- Expert 5's first call leaves the product of the rows and its gate and up weights. -/
theorem product10 : (dat10 V c).arrAt 2 cfg10.N = prod (φ₁ := .f32) (φ₂ := .bf16) (V c main_v31) (V c main_v138) :=
  (dat10 V c).arrAt_eq_of_covers 2 _ (by decide +kernel) fun t _ y =>
    (congrFun (after10_2 V c t) y).trans (wide_tile (V c main_v31) (V c main_v138) t y)

/-- Expert 5's second call leaves the product of its gated rows and its down weights. -/
theorem product11 : (dat11 V c).arrAt 2 cfg11.N = prod (φ₁ := .f32) (φ₂ := .bf16) (V c main_v143) (V c main_v144) :=
  (dat11 V c).arrAt_eq_of_covers 2 _ (by decide +kernel) fun t _ y =>
    (congrFun (after11_2 V c t) y).trans (tall_tile (V c main_v143) (V c main_v144) t y)

/-- Expert 6's first call leaves the product of the rows and its gate and up weights. -/
theorem product12 : (dat12 V c).arrAt 2 cfg12.N = prod (φ₁ := .f32) (φ₂ := .bf16) (V c main_v31) (V c main_v154) :=
  (dat12 V c).arrAt_eq_of_covers 2 _ (by decide +kernel) fun t _ y =>
    (congrFun (after12_2 V c t) y).trans (wide_tile (V c main_v31) (V c main_v154) t y)

/-- Expert 6's second call leaves the product of its gated rows and its down weights. -/
theorem product13 : (dat13 V c).arrAt 2 cfg13.N = prod (φ₁ := .f32) (φ₂ := .bf16) (V c main_v159) (V c main_v160) :=
  (dat13 V c).arrAt_eq_of_covers 2 _ (by decide +kernel) fun t _ y =>
    (congrFun (after13_2 V c t) y).trans (tall_tile (V c main_v159) (V c main_v160) t y)

/-- Expert 7's first call leaves the product of the rows and its gate and up weights. -/
theorem product14 : (dat14 V c).arrAt 2 cfg14.N = prod (φ₁ := .f32) (φ₂ := .bf16) (V c main_v31) (V c main_v170) :=
  (dat14 V c).arrAt_eq_of_covers 2 _ (by decide +kernel) fun t _ y =>
    (congrFun (after14_2 V c t) y).trans (wide_tile (V c main_v31) (V c main_v170) t y)

/-- Expert 7's second call leaves the product of its gated rows and its down weights. -/
theorem product15 : (dat15 V c).arrAt 2 cfg15.N = prod (φ₁ := .f32) (φ₂ := .bf16) (V c main_v175) (V c main_v176) :=
  (dat15 V c).arrAt_eq_of_covers 2 _ (by decide +kernel) fun t _ y =>
    (congrFun (after15_2 V c t) y).trans (tall_tile (V c main_v175) (V c main_v176) t y)

end Cert.MoeIdeal.Parts

end
-- ==== Proof.MoeTerms.lean ====
module

public import proofs.«01_k».proof.Proof.Gen.MoeIdeal.Frame
public import proofs.«01_k».proof.Proof.Products

/-!
The mixture of experts as a function of its arguments.

`mixed` is the sum over the eight experts of a row's share for the expert times the expert's output, built up one expert at a time from
zero.
-/

@[expose] public section

set_option maxRecDepth 16384

noncomputable section

namespace Cert.MoeIdeal.Parts

open Idealize.ShloMosaic Idealize.ShloMosaic.TcCoe Cert.MoeIdeal.Gen Cert.Products

/-- The gate and up weights of the eight experts hold a slice per expert. -/
theorem up_slices : ∀ e : Fin 8, S8x1024x7168.Slices ![e.val, 0, 0] S1x1024x7168 := by decide

/-- The down weights of the eight experts hold a slice per expert. -/
theorem down_slices : ∀ e : Fin 8, S8x3584x1024.Slices ![e.val, 0, 0] S1x3584x1024 := by decide

/-- The shares hold a column per expert. -/
theorem share_slices : ∀ e : Fin 8, S32768x8.Slices ![0, e.val] S32768x1 := by decide

/-- Expert `e`'s gate and up weights. -/
abbrev up (A : FVec Ideal S8x1024x7168 .f32) (e : Fin 8) : FVec Ideal S1024x7168 .f32 :=
  shapeCast S1024x7168 (extractStridedSlice S1x1024x7168 ![e.val, 0, 0] A (up_slices e)) shapeCasts_S1x1024x7168_S1024x7168

/-- Expert `e`'s down weights. -/
abbrev down (A : FVec Ideal S8x3584x1024 .f32) (e : Fin 8) : FVec Ideal S3584x1024 .f32 :=
  shapeCast S3584x1024 (extractStridedSlice S1x3584x1024 ![e.val, 0, 0] A (down_slices e)) shapeCasts_S1x3584x1024_S3584x1024

/-- The rows' shares for expert `e`. -/
abbrev share (G : FVec Ideal S32768x8 .f32) (e : Fin 8) : FVec Ideal S32768x1 .f32 :=
  extractStridedSlice S32768x1 ![0, e.val] G (share_slices e)

/-- An array rounded to the narrower format; at exact values the same array. -/
abbrev narrow {s : Shape} (x : FVec Ideal s .f32) : FVec Ideal s .bf16 := truncf .bf16 x bitsLt_bf16_f32

/-- The left half of a first product. -/
abbrev left (P : FVec Ideal S32768x7168 .f32) : FVec Ideal S32768x3584 .f32 :=
  extractStridedSlice S32768x3584 ![0, 0] P slices_S32768x7168_S32768x3584_0_0

/-- The gated rows: the left half of a first product times its sigmoid times the right half. -/
abbrev gated (P : FVec Ideal S32768x7168 .f32) : FVec Ideal S32768x3584 .f32 :=
  mulf (mulf (left P) (Host.divf (broadcastInDim S32768x3584 ![] bcast_S_S32768x3584 (constant S_ .f32 0x3F800000#32))
      (addf (broadcastInDim S32768x3584 ![] bcast_S_S32768x3584 (constant S_ .f32 0x3F800000#32)) (Host.exp (Host.negf (left P))))))
    (extractStridedSlice S32768x3584 ![0, 3584] P slices_S32768x7168_S32768x3584_0_3584)

/-- An expert's output on rows `H` with first weights `U` and second weights `D`. -/
abbrev expert (H : FVec Ideal S32768x1024 .f32) (U : FVec Ideal S1024x7168 .f32) (D : FVec Ideal S3584x1024 .f32) :
    FVec Ideal S32768x1024 .f32 :=
  dot (M := 32768) (K := 3584) (N := 1024) (gated (dot (M := 32768) (K := 1024) (N := 7168) H U)) D

/-- A sum `Y` with an output `E` added at the shares `s`. -/
abbrev plus (Y : FVec Ideal S32768x1024 .f32) (s : FVec Ideal S32768x1 .f32) (E : FVec Ideal S32768x1024 .f32) :
    FVec Ideal S32768x1024 .f32 :=
  addf Y (mulf (broadcastInDim S32768x1024 ![0, 1] bcast_S32768x1_S32768x1024_0_1 s) E)

/-- The sum over the first `n` experts. -/
def mixed (H : FVec Ideal S32768x1024 .f32) (G : FVec Ideal S32768x8 .f32) (U : FVec Ideal S8x1024x7168 .f32)
    (D : FVec Ideal S8x3584x1024 .f32) : (n : ℕ) → n ≤ 8 → FVec Ideal S32768x1024 .f32
  | 0, _ => broadcastInDim S32768x1024 ![] bcast_S_S32768x1024 (constant S_ .f32 0x00000000#32)
  | n + 1, h => plus (mixed H G U D n (Nat.le_of_succ_le h)) (share G ⟨n, h⟩) (expert H (up U ⟨n, h⟩) (down D ⟨n, h⟩))

/-- Rows normed to mean square one and scaled. -/
abbrev normed (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 g))

/-- The layer's input `x` with the experts' sum `y` added at the modulation `a`. -/
abbrev added (x : FVec Ideal S4x8192x1024 .f32) (a : FVec Ideal S4x1x1024 .f32) (y : FVec Ideal S32768x1024 .f32) :
    FVec Ideal S4x8192x1024 .f32 :=
  addf x (mulf (broadcastInDim S4x8192x1024 ![0, 1, 2] bcast_S4x1x1024_S4x8192x1024_0_1_2 a)
    (shapeCast S4x8192x1024 y shapeCasts_S32768x1024_S4x8192x1024))

variable (m : (ℓ : Loc nD τ sig) → Buf (Elt Ideal) ℓ) (ρ : Dev nD → PrngReg) (c : Dev nD)

/-- The normed and modulated rows the experts take. -/
abbrev rows : FVec Ideal S32768x1024 .f32 := W4 m ρ c (Proc.devRef .tc main_v31)

/-- The rows' shares for the experts. -/
abbrev shares : FVec Ideal S32768x8 .f32 := W4 m ρ c (Proc.devRef .tc main_v51)

end Cert.MoeIdeal.Parts

end
-- ==== Proof.MoeSteps.lean ====
module

public import proofs.«01_k».proof.Proof.MoeTiles
public import proofs.«01_k».proof.Proof.MoeTerms
public import Idealize.ShloMosaic.Lib.Claim

/-!
The mixture of experts, expert by expert.

For each expert: what the host lines between its two calls make of the first product (`gates…`), what the lines after its second call
add to the sum and take for the next expert (`adds…`), which buffers the expert leaves as they were (`kept…`), and from these the sum
over the experts so far (`sum…`).
-/

@[expose] public section

set_option maxRecDepth 16384

noncomputable section

namespace Cert.MoeIdeal.Parts

open Idealize.ShloMosaic Idealize.ShloMosaic.TcCoe Cert.MoeIdeal.Gen Cert.Products
open Idealize.ShloMosaic.StableHlo

/-- One expert more: from the values its lines and calls leave, the sum over one more expert. -/
theorem add_expert {n : ℕ} (h : n + 1 ≤ 8) {H : FVec Ideal S32768x1024 .f32} {G : FVec Ideal S32768x8 .f32}
    {U : FVec Ideal S8x1024x7168 .f32} {D : FVec Ideal S8x3584x1024 .f32} {y o : FVec Ideal S32768x1024 .f32}
    {s : FVec Ideal S32768x1 .f32} {u : FVec Ideal S1024x7168 .bf16} {d : FVec Ideal S3584x1024 .f32}
    {p : FVec Ideal S32768x7168 .f32} {g : FVec Ideal S32768x3584 .f32} {d' : FVec Ideal S3584x1024 .bf16}
    (hy : y = mixed H G U D n (Nat.le_of_succ_le h)) (hs : s = share G ⟨n, h⟩)
    (hu : u = narrow (up U ⟨n, h⟩)) (hd : d = down D ⟨n, h⟩)
    (hp : p = prod (M := 32768) (K := 1024) (N := 7168) H u) (hg : g = gated p) (hd' : d' = narrow d)
    (ho : o = prod (M := 32768) (K := 3584) (N := 1024) g d') : plus y s o = mixed H G U D (n + 1) h := by
  subst hy hs hu hd hp hg hd' ho
  rw [prod_round (M := 32768) (K := 1024) (N := 7168), prod_round (M := 32768) (K := 3584) (N := 1024)]
  rfl

/-- The buffers every expert leaves as they were: the rows, the shares, the last modulation and the arguments. -/
abbrev kept : List (Ref sig .tc) := [main_v31, main_v51, main_v11, main_arg0, main_arg7, main_arg8, main_arg9]

section Lines

variable (S : Valuation τ sig (Elt Ideal))

/-- Expert 0: the second call takes the gated rows of its first product. -/
theorem gates0 : after hostOps1_2 (after hostOps1_1 (after hostOps1 S)) (Proc.devRef .tc main_v63) = gated (S (Proc.devRef .tc main_v59)) := by
  simp only [hostOps1_1, TRef.binary, TRef.nullary, TRef.unary, TRef.toBuf, TRef.ofBuf, cast_eq]
  after_results

/-- Expert 0: the second call takes its down weights. -/
theorem narrows0 : after hostOps1_2 (after hostOps1_1 (after hostOps1 S)) (Proc.devRef .tc main_v64)
    = narrow (s := S3584x1024) (S (Proc.devRef .tc main_v57)) := by
  simp only [hostOps1_1, TRef.binary, TRef.nullary, TRef.unary, TRef.toBuf, TRef.ofBuf, cast_eq]
  after_results

/-- Expert 0's output is added at its shares. -/
theorem adds0 : after hostOps2 S (Proc.devRef .tc main_v68)
    = plus (S (Proc.devRef .tc main_v52)) (S (Proc.devRef .tc main_v53)) (S (Proc.devRef .tc main_v65)) := by
  after_results

/-- After expert 0 the share and the weights of expert 1 are taken. -/
theorem takes0 : after hostOps2 S (Proc.devRef .tc main_v69) = share (S (Proc.devRef .tc main_v51)) 1
    ∧ after hostOps2 S (Proc.devRef .tc main_v74) = narrow (up (S (Proc.devRef .tc main_arg7)) 1)
    ∧ after hostOps2 S (Proc.devRef .tc main_v73) = down (S (Proc.devRef .tc main_arg8)) 1 := by
  refine ⟨?_, ?_, ?_⟩ <;> after_results <;> rfl

/-- Expert 1: the second call takes the gated rows of its first product. -/
theorem gates1 : after hostOps3_2 (after hostOps3_1 (after hostOps3 S)) (Proc.devRef .tc main_v79) = gated (S (Proc.devRef .tc main_v75)) := by
  simp only [hostOps3_1, TRef.binary, TRef.nullary, TRef.unary, TRef.toBuf, TRef.ofBuf, cast_eq]
  after_results

/-- Expert 1: the second call takes its down weights. -/
theorem narrows1 : after hostOps3_2 (after hostOps3_1 (after hostOps3 S)) (Proc.devRef .tc main_v80)
    = narrow (s := S3584x1024) (S (Proc.devRef .tc main_v73)) := by
  simp only [hostOps3_1, TRef.binary, TRef.nullary, TRef.unary, TRef.toBuf, TRef.ofBuf, cast_eq]
  after_results

/-- Expert 1's output is added at its shares. -/
theorem adds1 : after hostOps4 S (Proc.devRef .tc main_v84)
    = plus (S (Proc.devRef .tc main_v68)) (S (Proc.devRef .tc main_v69)) (S (Proc.devRef .tc main_v81)) := by
  after_results

/-- After expert 1 the share and the weights of expert 2 are taken. -/
theorem takes1 : after hostOps4 S (Proc.devRef .tc main_v85) = share (S (Proc.devRef .tc main_v51)) 2
    ∧ after hostOps4 S (Proc.devRef .tc main_v90) = narrow (up (S (Proc.devRef .tc main_arg7)) 2)
    ∧ after hostOps4 S (Proc.devRef .tc main_v89) = down (S (Proc.devRef .tc main_arg8)) 2 := by
  refine ⟨?_, ?_, ?_⟩ <;> after_results <;> rfl

/-- Expert 2: the second call takes the gated rows of its first product. -/
theorem gates2 : after hostOps5_2 (after hostOps5_1 (after hostOps5 S)) (Proc.devRef .tc main_v95) = gated (S (Proc.devRef .tc main_v91)) := by
  simp only [hostOps5_1, TRef.binary, TRef.nullary, TRef.unary, TRef.toBuf, TRef.ofBuf, cast_eq]
  after_results

/-- Expert 2: the second call takes its down weights. -/
theorem narrows2 : after hostOps5_2 (after hostOps5_1 (after hostOps5 S)) (Proc.devRef .tc main_v96)
    = narrow (s := S3584x1024) (S (Proc.devRef .tc main_v89)) := by
  simp only [hostOps5_1, TRef.binary, TRef.nullary, TRef.unary, TRef.toBuf, TRef.ofBuf, cast_eq]
  after_results

/-- Expert 2's output is added at its shares. -/
theorem adds2 : after hostOps6 S (Proc.devRef .tc main_v100)
    = plus (S (Proc.devRef .tc main_v84)) (S (Proc.devRef .tc main_v85)) (S (Proc.devRef .tc main_v97)) := by
  after_results

/-- After expert 2 the share and the weights of expert 3 are taken. -/
theorem takes2 : after hostOps6 S (Proc.devRef .tc main_v101) = share (S (Proc.devRef .tc main_v51)) 3
    ∧ after hostOps6 S (Proc.devRef .tc main_v106) = narrow (up (S (Proc.devRef .tc main_arg7)) 3)
    ∧ after hostOps6 S (Proc.devRef .tc main_v105) = down (S (Proc.devRef .tc main_arg8)) 3 := by
  refine ⟨?_, ?_, ?_⟩ <;> after_results <;> rfl

/-- Expert 3: the second call takes the gated rows of its first product. -/
theorem gates3 : after hostOps7_2 (after hostOps7_1 (after hostOps7 S)) (Proc.devRef .tc main_v111) = gated (S (Proc.devRef .tc main_v107)) := by
  simp only [hostOps7_1, TRef.binary, TRef.nullary, TRef.unary, TRef.toBuf, TRef.ofBuf, cast_eq]
  after_results

/-- Expert 3: the second call takes its down weights. -/
theorem narrows3 : after hostOps7_2 (after hostOps7_1 (after hostOps7 S)) (Proc.devRef .tc main_v112)
    = narrow (s := S3584x1024) (S (Proc.devRef .tc main_v105)) := by
  simp only [hostOps7_1, TRef.binary, TRef.nullary, TRef.unary, TRef.toBuf, TRef.ofBuf, cast_eq]
  after_results

/-- Expert 3's output is added at its shares. -/
theorem adds3 : after hostOps8 S (Proc.devRef .tc main_v116)
    = plus (S (Proc.devRef .tc main_v100)) (S (Proc.devRef .tc main_v101)) (S (Proc.devRef .tc main_v113)) := by
  after_results

/-- After expert 3 the share and the weights of expert 4 are taken. -/
theorem takes3 : after hostOps8 S (Proc.devRef .tc main_v117) = share (S (Proc.devRef .tc main_v51)) 4
    ∧ after hostOps8 S (Proc.devRef .tc main_v122) = narrow (up (S (Proc.devRef .tc main_arg7)) 4)
    ∧ after hostOps8 S (Proc.devRef .tc main_v121) = down (S (Proc.devRef .tc main_arg8)) 4 := by
  refine ⟨?_, ?_, ?_⟩ <;> after_results <;> rfl

/-- Expert 4: the second call takes the gated rows of its first product. -/
theorem gates4 : after hostOps9_2 (after hostOps9_1 (after hostOps9 S)) (Proc.devRef .tc main_v127) = gated (S (Proc.devRef .tc main_v123)) := by
  simp only [hostOps9_1, TRef.binary, TRef.nullary, TRef.unary, TRef.toBuf, TRef.ofBuf, cast_eq]
  after_results

/-- Expert 4: the second call takes its down weights. -/
theorem narrows4 : after hostOps9_2 (after hostOps9_1 (after hostOps9 S)) (Proc.devRef .tc main_v128)
    = narrow (s := S3584x1024) (S (Proc.devRef .tc main_v121)) := by
  simp only [hostOps9_1, TRef.binary, TRef.nullary, TRef.unary, TRef.toBuf, TRef.ofBuf, cast_eq]
  after_results

/-- Expert 4's output is added at its shares. -/
theorem adds4 : after hostOps10 S (Proc.devRef .tc main_v132)
    = plus (S (Proc.devRef .tc main_v116)) (S (Proc.devRef .tc main_v117)) (S (Proc.devRef .tc main_v129)) := by
  after_results

/-- After expert 4 the share and the weights of expert 5 are taken. -/
theorem takes4 : after hostOps10 S (Proc.devRef .tc main_v133) = share (S (Proc.devRef .tc main_v51)) 5
    ∧ after hostOps10 S (Proc.devRef .tc main_v138) = narrow (up (S (Proc.devRef .tc main_arg7)) 5)
    ∧ after hostOps10 S (Proc.devRef .tc main_v137) = down (S (Proc.devRef .tc main_arg8)) 5 := by
  refine ⟨?_, ?_, ?_⟩ <;> after_results <;> rfl

/-- Expert 5: the second call takes the gated rows of its first product. -/
theorem gates5 : after hostOps11_2 (after hostOps11_1 (after hostOps11 S)) (Proc.devRef .tc main_v143) = gated (S (Proc.devRef .tc main_v139)) := by
  simp only [hostOps11_1, TRef.binary, TRef.nullary, TRef.unary, TRef.toBuf, TRef.ofBuf, cast_eq]
  after_results

/-- Expert 5: the second call takes its down weights. -/
theorem narrows5 : after hostOps11_2 (after hostOps11_1 (after hostOps11 S)) (Proc.devRef .tc main_v144)
    = narrow (s := S3584x1024) (S (Proc.devRef .tc main_v137)) := by
  simp only [hostOps11_1, TRef.binary, TRef.nullary, TRef.unary, TRef.toBuf, TRef.ofBuf, cast_eq]
  after_results

/-- Expert 5's output is added at its shares. -/
theorem adds5 : after hostOps12 S (Proc.devRef .tc main_v148)
    = plus (S (Proc.devRef .tc main_v132)) (S (Proc.devRef .tc main_v133)) (S (Proc.devRef .tc main_v145)) := by
  after_results

/-- After expert 5 the share and the weights of expert 6 are taken. -/
theorem takes5 : after hostOps12 S (Proc.devRef .tc main_v149) = share (S (Proc.devRef .tc main_v51)) 6
    ∧ after hostOps12 S (Proc.devRef .tc main_v154) = narrow (up (S (Proc.devRef .tc main_arg7)) 6)
    ∧ after hostOps12 S (Proc.devRef .tc main_v153) = down (S (Proc.devRef .tc main_arg8)) 6 := by
  refine ⟨?_, ?_, ?_⟩ <;> after_results <;> rfl

/-- Expert 6: the second call takes the gated rows of its first product. -/
theorem gates6 : after hostOps13_2 (after hostOps13_1 (after hostOps13 S)) (Proc.devRef .tc main_v159) = gated (S (Proc.devRef .tc main_v155)) := by
  simp only [hostOps13_1, TRef.binary, TRef.nullary, TRef.unary, TRef.toBuf, TRef.ofBuf, cast_eq]
  after_results

/-- Expert 6: the second call takes its down weights. -/
theorem narrows6 : after hostOps13_2 (after hostOps13_1 (after hostOps13 S)) (Proc.devRef .tc main_v160)
    = narrow (s := S3584x1024) (S (Proc.devRef .tc main_v153)) := by
  simp only [hostOps13_1, TRef.binary, TRef.nullary, TRef.unary, TRef.toBuf, TRef.ofBuf, cast_eq]
  after_results

/-- Expert 6's output is added at its shares. -/
theorem adds6 : after hostOps14 S (Proc.devRef .tc main_v164)
    = plus (S (Proc.devRef .tc main_v148)) (S (Proc.devRef .tc main_v149)) (S (Proc.devRef .tc main_v161)) := by
  after_results

/-- After expert 6 the share and the weights of expert 7 are taken. -/
theorem takes6 : after hostOps14 S (Proc.devRef .tc main_v165) = share (S (Proc.devRef .tc main_v51)) 7
    ∧ after hostOps14 S (Proc.devRef .tc main_v170) = narrow (up (S (Proc.devRef .tc main_arg7)) 7)
    ∧ after hostOps14 S (Proc.devRef .tc main_v169) = down (S (Proc.devRef .tc main_arg8)) 7 := by
  refine ⟨?_, ?_, ?_⟩ <;> after_results <;> rfl

/-- Expert 7: the second call takes the gated rows of its first product. -/
theorem gates7 : after hostOps15_2 (after hostOps15_1 (after hostOps15 S)) (Proc.devRef .tc main_v175) = gated (S (Proc.devRef .tc main_v171)) := by
  simp only [hostOps15_1, TRef.binary, TRef.nullary, TRef.unary, TRef.toBuf, TRef.ofBuf, cast_eq]
  after_results

/-- Expert 7: the second call takes its down weights. -/
theorem narrows7 : after hostOps15_2 (after hostOps15_1 (after hostOps15 S)) (Proc.devRef .tc main_v176)
    = narrow (s := S3584x1024) (S (Proc.devRef .tc main_v169)) := by
  simp only [hostOps15_1, TRef.binary, TRef.nullary, TRef.unary, TRef.toBuf, TRef.ofBuf, cast_eq]
  after_results

/-- Before the first expert the sum is zero, and its share and weights are taken. -/
theorem takes : after hostOps0_3 S (Proc.devRef .tc main_v52) = mixed (after hostOps0_3 S (Proc.devRef .tc main_v31))
      (after hostOps0_3 S (Proc.devRef .tc main_v51)) (S (Proc.devRef .tc main_arg7)) (S (Proc.devRef .tc main_arg8)) 0 (by decide)
    ∧ after hostOps0_3 S (Proc.devRef .tc main_v53) = share (after hostOps0_3 S (Proc.devRef .tc main_v51)) 0
    ∧ after hostOps0_3 S (Proc.devRef .tc main_v58) = narrow (up (S (Proc.devRef .tc main_arg7)) 0)
    ∧ after hostOps0_3 S (Proc.devRef .tc main_v57) = down (S (Proc.devRef .tc main_arg8)) 0 := by
  refine ⟨?_, ?_, ?_, ?_⟩ <;> after_results <;> rfl

end Lines

section Sums

variable (m : (ℓ : Loc nD τ sig) → Buf (Elt Ideal) ℓ) (ρ : Dev nD → PrngReg) (c : Dev nD)

/-- The sum over the first `n` experts, from the program's arguments. -/
abbrev sum (n : ℕ) (h : n ≤ 8) : FVec Ideal S32768x1024 .f32 :=
  mixed (rows m ρ c) (shares m ρ c) (m ((c.tc : Thread nD τ).loc main_arg7)) (m ((c.tc : Thread nD τ).loc main_arg8)) n h

/-- What holds when expert `e` is entered at contents `S`: the sum so far, the expert's share and weights, and the kept buffers. -/
abbrev Entry (S : Valuation τ sig (Elt Ideal)) (e : Fin 8) (y : FVec Ideal S32768x1024 .f32) (s : FVec Ideal S32768x1 .f32)
    (u : FVec Ideal S1024x7168 .bf16) (d : FVec Ideal S3584x1024 .f32) : Prop :=
  y = sum m ρ c e.val e.isLt.le ∧ s = share (shares m ρ c) e ∧ u = narrow (up (m ((c.tc : Thread nD τ).loc main_arg7)) e)
    ∧ d = down (m ((c.tc : Thread nD τ).loc main_arg8)) e
    ∧ ∀ r ∈ kept, S (Proc.devRef .tc r) = W4 m ρ c (Proc.devRef .tc r)

/-- What the first expert is entered with. -/
theorem enter0 : Entry m ρ c (W4 m ρ c) 0 (W4 m ρ c (Proc.devRef .tc main_v52)) (W4 m ρ c (Proc.devRef .tc main_v53))
    (W4 m ρ c (Proc.devRef .tc main_v58)) (W4 m ρ c (Proc.devRef .tc main_v57)) := by
  obtain ⟨hy, hs, hu, hd⟩ := takes (W3 m ρ c)
  rw [W3_args m ρ c main_arg7 (by decide)] at hy hu
  rw [W3_args m ρ c main_arg8 (by decide)] at hy hd
  exact ⟨hy, hs, hu, hd, fun _ _ => rfl⟩

/-- Expert 0's calls leave the sum so far, its share and the kept buffers. -/
theorem pass0 : ∀ r ∈ [main_v52, main_v53] ++ kept, W9 m ρ c (Proc.devRef .tc r) = W4 m ρ c (Proc.devRef .tc r) := by
  have hh : ∀ r ∈ [main_v52, main_v53] ++ kept, r ∉ hostOps1_2_W ∧ r ∉ hostOps1_1_W ∧ r ∉ hostOps1_W
      ∧ (∀ w : Fin cfg1.W, Pipeline.arrRef spec1 w = r → (cfg1.win w).isOut = false)
      ∧ (∀ w : Fin cfg0.W, Pipeline.arrRef spec0 w = r → (cfg0.win w).isOut = false) := by decide +kernel
  intro r hr
  obtain ⟨h1, h2, h3, h4, h5⟩ := hh r hr
  exact (W9_of m ρ c r h4).trans ((W8_of m ρ c r h1).trans ((W7_of m ρ c r h2).trans
    ((W6_of m ρ c r h3).trans (W5_of m ρ c r h5))))

/-- With expert 0's output added the sum is over 1 experts. -/
theorem sum0 : plus (W9 m ρ c (Proc.devRef .tc main_v52)) (W9 m ρ c (Proc.devRef .tc main_v53)) (W9 m ρ c (Proc.devRef .tc main_v65))
    = sum m ρ c 1 (by decide) := by
  obtain ⟨hy, hs, hu, hd, hk⟩ := enter0 m ρ c
  exact add_expert (by decide) ((pass0 m ρ c main_v52 (by decide)).trans hy) ((pass0 m ρ c main_v53 (by decide)).trans hs) hu hd
    (((W5_arr m ρ c 2).trans (product0 _ c)).trans
      (congrArg (fun H => prod (M := 32768) (K := 1024) (N := 7168) (φ₁ := .f32) (φ₂ := .bf16) H (W4 m ρ c (Proc.devRef .tc main_v58)))
        (hk main_v31 (by decide))))
    (gates0 _) ((narrows0 _).trans (congrArg (narrow (s := S3584x1024)) (W5_of m ρ c main_v57 (by decide))))
    ((W9_arr m ρ c 2).trans (product1 _ c))

/-- What expert 1 is entered with. -/
theorem enter1 : Entry m ρ c (W10 m ρ c) 1 (W10 m ρ c (Proc.devRef .tc main_v68)) (W10 m ρ c (Proc.devRef .tc main_v69))
    (W10 m ρ c (Proc.devRef .tc main_v74)) (W10 m ρ c (Proc.devRef .tc main_v73)) := by
  have hk : ∀ r ∈ kept, W9 m ρ c (Proc.devRef .tc r) = W4 m ρ c (Proc.devRef .tc r) := fun r hr =>
    (pass0 m ρ c r (List.mem_append_right _ hr)).trans ((enter0 m ρ c).2.2.2.2 r hr)
  have hw : ∀ r ∈ kept, r ∉ hostOps2_W := by decide
  obtain ⟨hs, hu, hd⟩ := takes0 (W9 m ρ c)
  rw [hk main_v51 (by decide)] at hs
  rw [W9_args m ρ c main_arg7 (by decide)] at hu
  rw [W9_args m ρ c main_arg8 (by decide)] at hd
  exact ⟨(adds0 _).trans (sum0 m ρ c), hs, hu, hd, fun r hr => (W10_of m ρ c r (hw r hr)).trans (hk r hr)⟩

/-- Expert 1's calls leave the sum so far, its share and the kept buffers. -/
theorem pass1 : ∀ r ∈ [main_v68, main_v69] ++ kept, W15 m ρ c (Proc.devRef .tc r) = W10 m ρ c (Proc.devRef .tc r) := by
  have hh : ∀ r ∈ [main_v68, main_v69] ++ kept, r ∉ hostOps3_2_W ∧ r ∉ hostOps3_1_W ∧ r ∉ hostOps3_W
      ∧ (∀ w : Fin cfg3.W, Pipeline.arrRef spec3 w = r → (cfg3.win w).isOut = false)
      ∧ (∀ w : Fin cfg2.W, Pipeline.arrRef spec2 w = r → (cfg2.win w).isOut = false) := by decide +kernel
  intro r hr
  obtain ⟨h1, h2, h3, h4, h5⟩ := hh r hr
  exact (W15_of m ρ c r h4).trans ((W14_of m ρ c r h1).trans ((W13_of m ρ c r h2).trans
    ((W12_of m ρ c r h3).trans (W11_of m ρ c r h5))))

/-- With expert 1's output added the sum is over 2 experts. -/
theorem sum1 : plus (W15 m ρ c (Proc.devRef .tc main_v68)) (W15 m ρ c (Proc.devRef .tc main_v69)) (W15 m ρ c (Proc.devRef .tc main_v81))
    = sum m ρ c 2 (by decide) := by
  obtain ⟨hy, hs, hu, hd, hk⟩ := enter1 m ρ c
  exact add_expert (by decide) ((pass1 m ρ c main_v68 (by decide)).trans hy) ((pass1 m ρ c main_v69 (by decide)).trans hs) hu hd
    (((W11_arr m ρ c 2).trans (product2 _ c)).trans
      (congrArg (fun H => prod (M := 32768) (K := 1024) (N := 7168) (φ₁ := .f32) (φ₂ := .bf16) H (W10 m ρ c (Proc.devRef .tc main_v74)))
        (hk main_v31 (by decide))))
    (gates1 _) ((narrows1 _).trans (congrArg (narrow (s := S3584x1024)) (W11_of m ρ c main_v73 (by decide))))
    ((W15_arr m ρ c 2).trans (product3 _ c))

/-- What expert 2 is entered with. -/
theorem enter2 : Entry m ρ c (W16 m ρ c) 2 (W16 m ρ c (Proc.devRef .tc main_v84)) (W16 m ρ c (Proc.devRef .tc main_v85))
    (W16 m ρ c (Proc.devRef .tc main_v90)) (W16 m ρ c (Proc.devRef .tc main_v89)) := by
  have hk : ∀ r ∈ kept, W15 m ρ c (Proc.devRef .tc r) = W4 m ρ c (Proc.devRef .tc r) := fun r hr =>
    (pass1 m ρ c r (List.mem_append_right _ hr)).trans ((enter1 m ρ c).2.2.2.2 r hr)
  have hw : ∀ r ∈ kept, r ∉ hostOps4_W := by decide
  obtain ⟨hs, hu, hd⟩ := takes1 (W15 m ρ c)
  rw [hk main_v51 (by decide)] at hs
  rw [W15_args m ρ c main_arg7 (by decide)] at hu
  rw [W15_args m ρ c main_arg8 (by decide)] at hd
  exact ⟨(adds1 _).trans (sum1 m ρ c), hs, hu, hd, fun r hr => (W16_of m ρ c r (hw r hr)).trans (hk r hr)⟩

/-- Expert 2's calls leave the sum so far, its share and the kept buffers. -/
theorem pass2 : ∀ r ∈ [main_v84, main_v85] ++ kept, W21 m ρ c (Proc.devRef .tc r) = W16 m ρ c (Proc.devRef .tc r) := by
  have hh : ∀ r ∈ [main_v84, main_v85] ++ kept, r ∉ hostOps5_2_W ∧ r ∉ hostOps5_1_W ∧ r ∉ hostOps5_W
      ∧ (∀ w : Fin cfg5.W, Pipeline.arrRef spec5 w = r → (cfg5.win w).isOut = false)
      ∧ (∀ w : Fin cfg4.W, Pipeline.arrRef spec4 w = r → (cfg4.win w).isOut = false) := by decide +kernel
  intro r hr
  obtain ⟨h1, h2, h3, h4, h5⟩ := hh r hr
  exact (W21_of m ρ c r h4).trans ((W20_of m ρ c r h1).trans ((W19_of m ρ c r h2).trans
    ((W18_of m ρ c r h3).trans (W17_of m ρ c r h5))))

/-- With expert 2's output added the sum is over 3 experts. -/
theorem sum2 : plus (W21 m ρ c (Proc.devRef .tc main_v84)) (W21 m ρ c (Proc.devRef .tc main_v85)) (W21 m ρ c (Proc.devRef .tc main_v97))
    = sum m ρ c 3 (by decide) := by
  obtain ⟨hy, hs, hu, hd, hk⟩ := enter2 m ρ c
  exact add_expert (by decide) ((pass2 m ρ c main_v84 (by decide)).trans hy) ((pass2 m ρ c main_v85 (by decide)).trans hs) hu hd
    (((W17_arr m ρ c 2).trans (product4 _ c)).trans
      (congrArg (fun H => prod (M := 32768) (K := 1024) (N := 7168) (φ₁ := .f32) (φ₂ := .bf16) H (W16 m ρ c (Proc.devRef .tc main_v90)))
        (hk main_v31 (by decide))))
    (gates2 _) ((narrows2 _).trans (congrArg (narrow (s := S3584x1024)) (W17_of m ρ c main_v89 (by decide))))
    ((W21_arr m ρ c 2).trans (product5 _ c))

/-- What expert 3 is entered with. -/
theorem enter3 : Entry m ρ c (W22 m ρ c) 3 (W22 m ρ c (Proc.devRef .tc main_v100)) (W22 m ρ c (Proc.devRef .tc main_v101))
    (W22 m ρ c (Proc.devRef .tc main_v106)) (W22 m ρ c (Proc.devRef .tc main_v105)) := by
  have hk : ∀ r ∈ kept, W21 m ρ c (Proc.devRef .tc r) = W4 m ρ c (Proc.devRef .tc r) := fun r hr =>
    (pass2 m ρ c r (List.mem_append_right _ hr)).trans ((enter2 m ρ c).2.2.2.2 r hr)
  have hw : ∀ r ∈ kept, r ∉ hostOps6_W := by decide
  obtain ⟨hs, hu, hd⟩ := takes2 (W21 m ρ c)
  rw [hk main_v51 (by decide)] at hs
  rw [W21_args m ρ c main_arg7 (by decide)] at hu
  rw [W21_args m ρ c main_arg8 (by decide)] at hd
  exact ⟨(adds2 _).trans (sum2 m ρ c), hs, hu, hd, fun r hr => (W22_of m ρ c r (hw r hr)).trans (hk r hr)⟩

/-- Expert 3's calls leave the sum so far, its share and the kept buffers. -/
theorem pass3 : ∀ r ∈ [main_v100, main_v101] ++ kept, W27 m ρ c (Proc.devRef .tc r) = W22 m ρ c (Proc.devRef .tc r) := by
  have hh : ∀ r ∈ [main_v100, main_v101] ++ kept, r ∉ hostOps7_2_W ∧ r ∉ hostOps7_1_W ∧ r ∉ hostOps7_W
      ∧ (∀ w : Fin cfg7.W, Pipeline.arrRef spec7 w = r → (cfg7.win w).isOut = false)
      ∧ (∀ w : Fin cfg6.W, Pipeline.arrRef spec6 w = r → (cfg6.win w).isOut = false) := by decide +kernel
  intro r hr
  obtain ⟨h1, h2, h3, h4, h5⟩ := hh r hr
  exact (W27_of m ρ c r h4).trans ((W26_of m ρ c r h1).trans ((W25_of m ρ c r h2).trans
    ((W24_of m ρ c r h3).trans (W23_of m ρ c r h5))))

/-- With expert 3's output added the sum is over 4 experts. -/
theorem sum3 : plus (W27 m ρ c (Proc.devRef .tc main_v100)) (W27 m ρ c (Proc.devRef .tc main_v101)) (W27 m ρ c (Proc.devRef .tc main_v113))
    = sum m ρ c 4 (by decide) := by
  obtain ⟨hy, hs, hu, hd, hk⟩ := enter3 m ρ c
  exact add_expert (by decide) ((pass3 m ρ c main_v100 (by decide)).trans hy) ((pass3 m ρ c main_v101 (by decide)).trans hs) hu hd
    (((W23_arr m ρ c 2).trans (product6 _ c)).trans
      (congrArg (fun H => prod (M := 32768) (K := 1024) (N := 7168) (φ₁ := .f32) (φ₂ := .bf16) H (W22 m ρ c (Proc.devRef .tc main_v106)))
        (hk main_v31 (by decide))))
    (gates3 _) ((narrows3 _).trans (congrArg (narrow (s := S3584x1024)) (W23_of m ρ c main_v105 (by decide))))
    ((W27_arr m ρ c 2).trans (product7 _ c))

/-- What expert 4 is entered with. -/
theorem enter4 : Entry m ρ c (W28 m ρ c) 4 (W28 m ρ c (Proc.devRef .tc main_v116)) (W28 m ρ c (Proc.devRef .tc main_v117))
    (W28 m ρ c (Proc.devRef .tc main_v122)) (W28 m ρ c (Proc.devRef .tc main_v121)) := by
  have hk : ∀ r ∈ kept, W27 m ρ c (Proc.devRef .tc r) = W4 m ρ c (Proc.devRef .tc r) := fun r hr =>
    (pass3 m ρ c r (List.mem_append_right _ hr)).trans ((enter3 m ρ c).2.2.2.2 r hr)
  have hw : ∀ r ∈ kept, r ∉ hostOps8_W := by decide
  obtain ⟨hs, hu, hd⟩ := takes3 (W27 m ρ c)
  rw [hk main_v51 (by decide)] at hs
  rw [W27_args m ρ c main_arg7 (by decide)] at hu
  rw [W27_args m ρ c main_arg8 (by decide)] at hd
  exact ⟨(adds3 _).trans (sum3 m ρ c), hs, hu, hd, fun r hr => (W28_of m ρ c r (hw r hr)).trans (hk r hr)⟩

/-- Expert 4's calls leave the sum so far, its share and the kept buffers. -/
theorem pass4 : ∀ r ∈ [main_v116, main_v117] ++ kept, W33 m ρ c (Proc.devRef .tc r) = W28 m ρ c (Proc.devRef .tc r) := by
  have hh : ∀ r ∈ [main_v116, main_v117] ++ kept, r ∉ hostOps9_2_W ∧ r ∉ hostOps9_1_W ∧ r ∉ hostOps9_W
      ∧ (∀ w : Fin cfg9.W, Pipeline.arrRef spec9 w = r → (cfg9.win w).isOut = false)
      ∧ (∀ w : Fin cfg8.W, Pipeline.arrRef spec8 w = r → (cfg8.win w).isOut = false) := by decide +kernel
  intro r hr
  obtain ⟨h1, h2, h3, h4, h5⟩ := hh r hr
  exact (W33_of m ρ c r h4).trans ((W32_of m ρ c r h1).trans ((W31_of m ρ c r h2).trans
    ((W30_of m ρ c r h3).trans (W29_of m ρ c r h5))))

/-- With expert 4's output added the sum is over 5 experts. -/
theorem sum4 : plus (W33 m ρ c (Proc.devRef .tc main_v116)) (W33 m ρ c (Proc.devRef .tc main_v117)) (W33 m ρ c (Proc.devRef .tc main_v129))
    = sum m ρ c 5 (by decide) := by
  obtain ⟨hy, hs, hu, hd, hk⟩ := enter4 m ρ c
  exact add_expert (by decide) ((pass4 m ρ c main_v116 (by decide)).trans hy) ((pass4 m ρ c main_v117 (by decide)).trans hs) hu hd
    (((W29_arr m ρ c 2).trans (product8 _ c)).trans
      (congrArg (fun H => prod (M := 32768) (K := 1024) (N := 7168) (φ₁ := .f32) (φ₂ := .bf16) H (W28 m ρ c (Proc.devRef .tc main_v122)))
        (hk main_v31 (by decide))))
    (gates4 _) ((narrows4 _).trans (congrArg (narrow (s := S3584x1024)) (W29_of m ρ c main_v121 (by decide))))
    ((W33_arr m ρ c 2).trans (product9 _ c))

/-- What expert 5 is entered with. -/
theorem enter5 : Entry m ρ c (W34 m ρ c) 5 (W34 m ρ c (Proc.devRef .tc main_v132)) (W34 m ρ c (Proc.devRef .tc main_v133))
    (W34 m ρ c (Proc.devRef .tc main_v138)) (W34 m ρ c (Proc.devRef .tc main_v137)) := by
  have hk : ∀ r ∈ kept, W33 m ρ c (Proc.devRef .tc r) = W4 m ρ c (Proc.devRef .tc r) := fun r hr =>
    (pass4 m ρ c r (List.mem_append_right _ hr)).trans ((enter4 m ρ c).2.2.2.2 r hr)
  have hw : ∀ r ∈ kept, r ∉ hostOps10_W := by decide
  obtain ⟨hs, hu, hd⟩ := takes4 (W33 m ρ c)
  rw [hk main_v51 (by decide)] at hs
  rw [W33_args m ρ c main_arg7 (by decide)] at hu
  rw [W33_args m ρ c main_arg8 (by decide)] at hd
  exact ⟨(adds4 _).trans (sum4 m ρ c), hs, hu, hd, fun r hr => (W34_of m ρ c r (hw r hr)).trans (hk r hr)⟩

/-- Expert 5's calls leave the sum so far, its share and the kept buffers. -/
theorem pass5 : ∀ r ∈ [main_v132, main_v133] ++ kept, W39 m ρ c (Proc.devRef .tc r) = W34 m ρ c (Proc.devRef .tc r) := by
  have hh : ∀ r ∈ [main_v132, main_v133] ++ kept, r ∉ hostOps11_2_W ∧ r ∉ hostOps11_1_W ∧ r ∉ hostOps11_W
      ∧ (∀ w : Fin cfg11.W, Pipeline.arrRef spec11 w = r → (cfg11.win w).isOut = false)
      ∧ (∀ w : Fin cfg10.W, Pipeline.arrRef spec10 w = r → (cfg10.win w).isOut = false) := by decide +kernel
  intro r hr
  obtain ⟨h1, h2, h3, h4, h5⟩ := hh r hr
  exact (W39_of m ρ c r h4).trans ((W38_of m ρ c r h1).trans ((W37_of m ρ c r h2).trans
    ((W36_of m ρ c r h3).trans (W35_of m ρ c r h5))))

/-- With expert 5's output added the sum is over 6 experts. -/
theorem sum5 : plus (W39 m ρ c (Proc.devRef .tc main_v132)) (W39 m ρ c (Proc.devRef .tc main_v133)) (W39 m ρ c (Proc.devRef .tc main_v145))
    = sum m ρ c 6 (by decide) := by
  obtain ⟨hy, hs, hu, hd, hk⟩ := enter5 m ρ c
  exact add_expert (by decide) ((pass5 m ρ c main_v132 (by decide)).trans hy) ((pass5 m ρ c main_v133 (by decide)).trans hs) hu hd
    (((W35_arr m ρ c 2).trans (product10 _ c)).trans
      (congrArg (fun H => prod (M := 32768) (K := 1024) (N := 7168) (φ₁ := .f32) (φ₂ := .bf16) H (W34 m ρ c (Proc.devRef .tc main_v138)))
        (hk main_v31 (by decide))))
    (gates5 _) ((narrows5 _).trans (congrArg (narrow (s := S3584x1024)) (W35_of m ρ c main_v137 (by decide))))
    ((W39_arr m ρ c 2).trans (product11 _ c))

/-- What expert 6 is entered with. -/
theorem enter6 : Entry m ρ c (W40 m ρ c) 6 (W40 m ρ c (Proc.devRef .tc main_v148)) (W40 m ρ c (Proc.devRef .tc main_v149))
    (W40 m ρ c (Proc.devRef .tc main_v154)) (W40 m ρ c (Proc.devRef .tc main_v153)) := by
  have hk : ∀ r ∈ kept, W39 m ρ c (Proc.devRef .tc r) = W4 m ρ c (Proc.devRef .tc r) := fun r hr =>
    (pass5 m ρ c r (List.mem_append_right _ hr)).trans ((enter5 m ρ c).2.2.2.2 r hr)
  have hw : ∀ r ∈ kept, r ∉ hostOps12_W := by decide
  obtain ⟨hs, hu, hd⟩ := takes5 (W39 m ρ c)
  rw [hk main_v51 (by decide)] at hs
  rw [W39_args m ρ c main_arg7 (by decide)] at hu
  rw [W39_args m ρ c main_arg8 (by decide)] at hd
  exact ⟨(adds5 _).trans (sum5 m ρ c), hs, hu, hd, fun r hr => (W40_of m ρ c r (hw r hr)).trans (hk r hr)⟩

/-- Expert 6's calls leave the sum so far, its share and the kept buffers. -/
theorem pass6 : ∀ r ∈ [main_v148, main_v149] ++ kept, W45 m ρ c (Proc.devRef .tc r) = W40 m ρ c (Proc.devRef .tc r) := by
  have hh : ∀ r ∈ [main_v148, main_v149] ++ kept, r ∉ hostOps13_2_W ∧ r ∉ hostOps13_1_W ∧ r ∉ hostOps13_W
      ∧ (∀ w : Fin cfg13.W, Pipeline.arrRef spec13 w = r → (cfg13.win w).isOut = false)
      ∧ (∀ w : Fin cfg12.W, Pipeline.arrRef spec12 w = r → (cfg12.win w).isOut = false) := by decide +kernel
  intro r hr
  obtain ⟨h1, h2, h3, h4, h5⟩ := hh r hr
  exact (W45_of m ρ c r h4).trans ((W44_of m ρ c r h1).trans ((W43_of m ρ c r h2).trans
    ((W42_of m ρ c r h3).trans (W41_of m ρ c r h5))))

/-- With expert 6's output added the sum is over 7 experts. -/
theorem sum6 : plus (W45 m ρ c (Proc.devRef .tc main_v148)) (W45 m ρ c (Proc.devRef .tc main_v149)) (W45 m ρ c (Proc.devRef .tc main_v161))
    = sum m ρ c 7 (by decide) := by
  obtain ⟨hy, hs, hu, hd, hk⟩ := enter6 m ρ c
  exact add_expert (by decide) ((pass6 m ρ c main_v148 (by decide)).trans hy) ((pass6 m ρ c main_v149 (by decide)).trans hs) hu hd
    (((W41_arr m ρ c 2).trans (product12 _ c)).trans
      (congrArg (fun H => prod (M := 32768) (K := 1024) (N := 7168) (φ₁ := .f32) (φ₂ := .bf16) H (W40 m ρ c (Proc.devRef .tc main_v154)))
        (hk main_v31 (by decide))))
    (gates6 _) ((narrows6 _).trans (congrArg (narrow (s := S3584x1024)) (W41_of m ρ c main_v153 (by decide))))
    ((W45_arr m ρ c 2).trans (product13 _ c))

/-- What expert 7 is entered with. -/
theorem enter7 : Entry m ρ c (W46 m ρ c) 7 (W46 m ρ c (Proc.devRef .tc main_v164)) (W46 m ρ c (Proc.devRef .tc main_v165))
    (W46 m ρ c (Proc.devRef .tc main_v170)) (W46 m ρ c (Proc.devRef .tc main_v169)) := by
  have hk : ∀ r ∈ kept, W45 m ρ c (Proc.devRef .tc r) = W4 m ρ c (Proc.devRef .tc r) := fun r hr =>
    (pass6 m ρ c r (List.mem_append_right _ hr)).trans ((enter6 m ρ c).2.2.2.2 r hr)
  have hw : ∀ r ∈ kept, r ∉ hostOps14_W := by decide
  obtain ⟨hs, hu, hd⟩ := takes6 (W45 m ρ c)
  rw [hk main_v51 (by decide)] at hs
  rw [W45_args m ρ c main_arg7 (by decide)] at hu
  rw [W45_args m ρ c main_arg8 (by decide)] at hd
  exact ⟨(adds6 _).trans (sum6 m ρ c), hs, hu, hd, fun r hr => (W46_of m ρ c r (hw r hr)).trans (hk r hr)⟩

/-- Expert 7's calls leave the sum so far, its share and the kept buffers. -/
theorem pass7 : ∀ r ∈ [main_v164, main_v165] ++ kept, W51 m ρ c (Proc.devRef .tc r) = W46 m ρ c (Proc.devRef .tc r) := by
  have hh : ∀ r ∈ [main_v164, main_v165] ++ kept, r ∉ hostOps15_2_W ∧ r ∉ hostOps15_1_W ∧ r ∉ hostOps15_W
      ∧ (∀ w : Fin cfg15.W, Pipeline.arrRef spec15 w = r → (cfg15.win w).isOut = false)
      ∧ (∀ w : Fin cfg14.W, Pipeline.arrRef spec14 w = r → (cfg14.win w).isOut = false) := by decide +kernel
  intro r hr
  obtain ⟨h1, h2, h3, h4, h5⟩ := hh r hr
  exact (W51_of m ρ c r h4).trans ((W50_of m ρ c r h1).trans ((W49_of m ρ c r h2).trans
    ((W48_of m ρ c r h3).trans (W47_of m ρ c r h5))))

/-- With expert 7's output added the sum is over 8 experts. -/
theorem sum7 : plus (W51 m ρ c (Proc.devRef .tc main_v164)) (W51 m ρ c (Proc.devRef .tc main_v165)) (W51 m ρ c (Proc.devRef .tc main_v177))
    = sum m ρ c 8 (by decide) := by
  obtain ⟨hy, hs, hu, hd, hk⟩ := enter7 m ρ c
  exact add_expert (by decide) ((pass7 m ρ c main_v164 (by decide)).trans hy) ((pass7 m ρ c main_v165 (by decide)).trans hs) hu hd
    (((W47_arr m ρ c 2).trans (product14 _ c)).trans
      (congrArg (fun H => prod (M := 32768) (K := 1024) (N := 7168) (φ₁ := .f32) (φ₂ := .bf16) H (W46 m ρ c (Proc.devRef .tc main_v170)))
        (hk main_v31 (by decide))))
    (gates7 _) ((narrows7 _).trans (congrArg (narrow (s := S3584x1024)) (W47_of m ρ c main_v169 (by decide))))
    ((W51_arr m ρ c 2).trans (product15 _ c))

end Sums

end Cert.MoeIdeal.Parts

end
-- ==== Proof.MoeRun.lean ====
module

public import proofs.«01_k».proof.Proof.Gen.MoeIdeal.Frame

@[expose] public section

set_option maxRecDepth 16384

noncomputable section

namespace Cert.MoeIdeal.Parts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeIdeal.Gen

/-! # The run of the program of the last channel mixing -/

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends, and then every buffer it was launched with holds the contents `W52` gives: what the host
operations and the calls leave, one after the other. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W52 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W52 m ρ c b)
    (hfin := fun c s' => by
      iintro ⟨⟨Hh, -⟩, HSI⟩
      unfold StableHlo.held
      imodintro
      iapply (pointsTo_read_all (Pipeline.ucRefs τ sig) (fun b => (((c : Thread nD τ)).1, b)) (W52 m ρ c) s')
      isplitl [Hh] <;> iassumption)
    (hQ := fun _ h _ => h)

end Cert.MoeIdeal.Parts

end
-- ==== Proof.MoeStart.lean ====
module

public import proofs.«01_k».proof.Proof.MoeTerms
public import proofs.«01_k».proof.Proof.Gen.MoeRefIdeal.Run
public import Idealize.ShloMosaic.Lib.Claim

/-!
What the mixture of experts starts from: the last modulation, the normed rows and the shares are those of the plain program.
-/

@[expose] public section

set_option maxRecDepth 16384

noncomputable section

namespace Cert.MoeIdeal.Parts

open Idealize.ShloMosaic Idealize.ShloMosaic.TcCoe Idealize.SL.Sem Cert.MoeIdeal.Gen Cert.Products
open Idealize.ShloMosaic.StableHlo

section Start

open MoeRefIdeal.Value (res_main_v5 res_main_v31 res_main_v35 res_main_v42 res_main_values res_main_v51)

variable (m : (ℓ : Loc nD τ sig) → Buf (Elt Ideal) ℓ) (ρ : Dev nD → PrngReg) (c : Dev nD) (R : Valuation MoeRefIdeal.τ MoeRefIdeal.sig (Elt Ideal))

/-- The reference's arguments in `R` are the program's in `m`, on device `c`. -/
abbrev Agree : Prop :=
  R (Proc.devRef .tc MoeRefIdeal.main_arg0) = m ((c.tc : Thread nD τ).loc main_arg0)
  ∧ R (Proc.devRef .tc MoeRefIdeal.main_arg1) = m ((c.tc : Thread nD τ).loc main_arg1)
  ∧ R (Proc.devRef .tc MoeRefIdeal.main_arg2) = m ((c.tc : Thread nD τ).loc main_arg2)
  ∧ R (Proc.devRef .tc MoeRefIdeal.main_arg3) = m ((c.tc : Thread nD τ).loc main_arg3)
  ∧ R (Proc.devRef .tc MoeRefIdeal.main_arg4) = m ((c.tc : Thread nD τ).loc main_arg4)
  ∧ R (Proc.devRef .tc MoeRefIdeal.main_arg5) = m ((c.tc : Thread nD τ).loc main_arg5)
  ∧ R (Proc.devRef .tc MoeRefIdeal.main_arg6) = m ((c.tc : Thread nD τ).loc main_arg6)
  ∧ R (Proc.devRef .tc MoeRefIdeal.main_arg7) = m ((c.tc : Thread nD τ).loc main_arg7)
  ∧ R (Proc.devRef .tc MoeRefIdeal.main_arg8) = m ((c.tc : Thread nD τ).loc main_arg8)
  ∧ R (Proc.devRef .tc MoeRefIdeal.main_arg9) = m ((c.tc : Thread nD τ).loc main_arg9)

variable (h : Agree m c R)
include h

/-- The last modulation is the reference's. -/
theorem start_scale : W4 m ρ c (Proc.devRef .tc main_v11)
    = (extractStridedSlice S4x1x1024 ![0, 0, 5120] (res_main_v5 R) slices_S4x1x6144_S4x1x1024_0_0_5120 : FVec Ideal S4x1x1024 .f32) := by
  simp only [W4, W3, W2, W1, hostOps0, hostOps0_1, hostOps0_2, TRef.binary, TRef.nullary, TRef.unary, TRef.toBuf, TRef.ofBuf, cast_eq]
  after_results
  unfold res_main_v5
  obtain ⟨h0, h1, h2, h3, h4, h5, h6, h7, h8, h9⟩ := h
  rw [h1, h2, h3]
  rfl

/-- The rows the experts take are the reference's. -/
theorem start_rows : rows m ρ c = res_main_v31 R := by
  unfold rows
  simp only [W4, W3, W2, W1, hostOps0, hostOps0_1, hostOps0_2, TRef.binary, TRef.nullary, TRef.unary, TRef.toBuf, TRef.ofBuf, cast_eq]
  after_results
  unfold res_main_v31 res_main_v5
  obtain ⟨h0, h1, h2, h3, h4, h5, h6, h7, h8, h9⟩ := h
  rw [h0, h1, h2, h3, h4]
  rfl

/-- The shares are the reference's. -/
theorem start_shares : shares m ρ c = res_main_v51 R := by
  unfold shares
  simp only [W4, W3, W2, W1, hostOps0, hostOps0_1, hostOps0_2, TRef.binary, TRef.nullary, TRef.unary, TRef.toBuf, TRef.ofBuf, cast_eq]
  after_results
  unfold res_main_v51 res_main_v42 res_main_values res_main_v35 res_main_v31 res_main_v5
  obtain ⟨h0, h1, h2, h3, h4, h5, h6, h7, h8, h9⟩ := h
  rw [h0, h1, h2, h3, h4, h5, h6]
  rfl

end Start

end Cert.MoeIdeal.Parts

end
-- ==== Proof.MoeValue.lean ====
module

public import proofs.«01_k».proof.Defs
public import proofs.«01_k».proof.Proof.MoeSteps
public import proofs.«01_k».proof.Proof.MoeRun
public import proofs.«01_k».proof.Proof.MoeStart
public import proofs.«01_k».proof.Proof.Gen.MoeRefIdeal.Run
public import Idealize.ShloMosaic.Lib.Claim

/-!
The mixture of experts with its norms, at exact values: the program with tiled products computes what the plain one computes.
-/

@[expose] public section

set_option maxRecDepth 16384

noncomputable section

namespace Cert.MoeIdeal.Parts

open Idealize.ShloMosaic Idealize.ShloMosaic.TcCoe Idealize.SL.Sem Cert.MoeIdeal.Gen Cert.Products
open Idealize.ShloMosaic.StableHlo

section Value

variable (m : (ℓ : Loc nD τ sig) → Buf (Elt Ideal) ℓ) (ρ : Dev nD → PrngReg) (c : Dev nD)

/-- The last lines: the last expert's output is added, the sum goes into the layer's input, and the result is normed. -/
theorem finishes (S : Valuation τ sig (Elt Ideal)) : after hostOps16 S (Proc.devRef .tc main_v197)
    = normed (added (S (Proc.devRef .tc main_arg0)) (S (Proc.devRef .tc main_v11))
        (plus (S (Proc.devRef .tc main_v164)) (S (Proc.devRef .tc main_v165)) (S (Proc.devRef .tc main_v177))))
      (S (Proc.devRef .tc main_arg9)) := by
  after_results
  rfl

/-- The result: the layer's input with the experts' sum added, normed. -/
theorem at_end : W52 m ρ c (Proc.devRef .tc main_v197)
    = normed (added (m ((c.tc : Thread nD τ).loc main_arg0)) (W4 m ρ c (Proc.devRef .tc main_v11)) (sum m ρ c 8 (by decide)))
      (m ((c.tc : Thread nD τ).loc main_arg9)) := by
  refine (finishes _).trans ?_
  rw [sum7, W51_args m ρ c main_arg0 (by decide), W51_args m ρ c main_arg9 (by decide),
    (pass7 m ρ c main_v11 (by decide)).trans ((enter7 m ρ c).2.2.2.2 main_v11 (by decide))]

end Value

section Reference

open MoeRefIdeal.Value (res_main_v5 res_main_v31 res_main_v51)

variable (R : Valuation MoeRefIdeal.τ MoeRefIdeal.sig (Elt Ideal))

/-- The reference's sum over the experts is `mixed` of its rows, shares and weights, and goes into the layer's input the same way. -/
theorem ref_added : MoeRefIdeal.Value.res_main_v168 R
    = added (R (Proc.devRef .tc MoeRefIdeal.main_arg0))
        (extractStridedSlice S4x1x1024 ![0, 0, 5120] (res_main_v5 R) slices_S4x1x6144_S4x1x1024_0_0_5120)
        (mixed (res_main_v31 R) (res_main_v51 R) (R (Proc.devRef .tc MoeRefIdeal.main_arg7)) (R (Proc.devRef .tc MoeRefIdeal.main_arg8)) 8
          (by decide)) := by
  unfold MoeRefIdeal.Value.res_main_v168
  rfl

end Reference

end Cert.MoeIdeal.Parts

namespace Cert.Proof

open Idealize.ShloMosaic Idealize.ShloMosaic.TcCoe Idealize.SL.Sem

/-- From arguments that agree, the mixture of experts with tiled products and the plain one end with the same result, at exact values. -/
theorem moe_agrees : Cert.algebraic_MoeIdeal_MoeRefIdeal := by
  intro m ρ m' ρ' _ hagree
  refine ⟨_, ?_, (θ_run _ _ _).mono (fun _ h c => h c) (MoeRefIdeal.Value.run (F := Ideal) m' ρ')⟩
  refine (θ_run _ _ _).mono (fun _ h c => ⟨?_, h.2.1 c⟩)
    (θ_run_and (MoeIdeal.Parts.run_all (F := Ideal) m ρ) (MoeIdeal.Gen.frame (F := Ideal) m ρ))
  refine (h.1 c _ (MoeIdeal.Gen.mem_uc MoeIdeal.main_v197 (by decide))).trans ((MoeIdeal.Parts.at_end m ρ c).trans ?_)
  have ha : MoeIdeal.Parts.Agree m c (StableHlo.launchContents m' c) := hagree c
  rw [MoeIdeal.Parts.ref_added, MoeIdeal.Parts.start_scale m ρ c _ ha]
  unfold MoeIdeal.Parts.sum
  rw [MoeIdeal.Parts.start_rows m ρ c _ ha, MoeIdeal.Parts.start_shares m ρ c _ ha]
  obtain ⟨h0, h1, h2, h3, h4, h5, h6, h7, h8, h9⟩ := ha
  rw [h0, h7, h8, h9]

end Cert.Proof

end
-- ==== Proof.BetweenTiles.lean ====
module

public import proofs.«01_k».proof.Proof.Gen.BetweenIdeal.Frame
public import proofs.«01_k».proof.Proof.Products
public import Idealize.ShloMosaic.Lib.Pipeline.ValueKit

/-!
What the eight calls between the branches of the first layer and those of the second leave.

Each call multiplies 32768 rows with a matrix, block by block, and leaves the product of the two whole arrays. The four calls on the
branches have the same blocks and the same body, so one lemma on a block serves them all.
-/

@[expose] public section

set_option maxRecDepth 16384

noncomputable section

namespace Cert.BetweenIdeal.Parts

open Idealize.ShloMosaic Idealize.ShloMosaic.TcCoe Cert.BetweenIdeal.Gen Cert.Products
open Idealize.ShloMosaic.Pipeline (Dat Cfg Window)

/-- The blocks of a branch's product: which rows and columns point `t` takes. -/
theorem branch_blocks : ∀ t : Fin cfg0.N, win0_0.index t = ![t.val, 0] ∧ win0_1.index t = ![0, 0]
    ∧ win0_2.index t = ![t.val, 0] := by decide +kernel

/-- What the body of a branch's product stores: one tile. -/
theorem branch_out (x : Vec Ideal S512x256 .f32) (w : Vec Ideal S256x1024 .bf16) :
    out0_2 x w = tile (m := 512) (K := 256) (n := 1024) x w := by
  unfold out0_2 k0_pay1
  rw [View.canon_cons_unit_lit _ _ _ (by decide), View.ld_unit_lit _ _ (by decide), View.ld_unit_lit _ _ (by decide), shapeCast_self,
    shapeCast_self]
  rfl

/-- A tile of a branch's product is the block of the whole product at its place. -/
theorem branch_tile (X : FVec Ideal ⟨2, ![32768, 256]⟩ .f32) (W : FVec Ideal ⟨2, ![256, 1024]⟩ .bf16) (t : Fin cfg0.N)
    (y : (⟨2, ![512, 1024]⟩ : Shape).Idx) :
    out0_2 (F := Ideal) (fun a => X (((cfg0.win 0).blk t).view.emb a)) (fun a => W (((cfg0.win 1).blk t).view.emb a)) y
      = prod X W (((cfg0.win 2).blk t).view.emb y) := by
  obtain ⟨e0, e1, e2⟩ := branch_blocks t
  refine (congrFun (branch_out _ _) y).trans ?_
  refine tile_prod none X W _ _ ((cfg0.win 0).blk t).view.emb ((cfg0.win 1).blk t).view.emb
    ((cfg0.win 2).blk t).view.emb (t.val * 512) 0 (fun _ => rfl) (fun _ => rfl) ?_ ?_ ?_ ?_ ?_ ?_ y
  all_goals
    intro a
    blk_simp [e0, e1, e2]

/-- The blocks of the product of the merged rows: which rows and columns point `t` takes. -/
theorem out_blocks : ∀ t : Fin cfg4.N, win4_0.index t = ![t.val, 0] ∧ win4_1.index t = ![0, 0]
    ∧ win4_2.index t = ![t.val, 0] := by decide +kernel

/-- What the body of the product of the merged rows stores: one tile. -/
theorem out_out (x : Vec Ideal S512x1024 .f32) (w : Vec Ideal S1024x1024 .bf16) :
    out4_2 x w = tile (m := 512) (K := 1024) (n := 1024) x w := by
  unfold out4_2 k4_pay1
  rw [View.canon_cons_unit_lit _ _ _ (by decide), View.ld_unit_lit _ _ (by decide), View.ld_unit_lit _ _ (by decide), shapeCast_self,
    shapeCast_self]
  rfl

/-- A tile of the product of the merged rows is the block of the whole product at its place. -/
theorem out_tile (X : FVec Ideal ⟨2, ![32768, 1024]⟩ .f32) (W : FVec Ideal ⟨2, ![1024, 1024]⟩ .bf16) (t : Fin cfg4.N)
    (y : (⟨2, ![512, 1024]⟩ : Shape).Idx) :
    out4_2 (F := Ideal) (fun a => X (((cfg4.win 0).blk t).view.emb a)) (fun a => W (((cfg4.win 1).blk t).view.emb a)) y
      = prod X W (((cfg4.win 2).blk t).view.emb y) := by
  obtain ⟨e0, e1, e2⟩ := out_blocks t
  refine (congrFun (out_out _ _) y).trans ?_
  refine tile_prod none X W _ _ ((cfg4.win 0).blk t).view.emb ((cfg4.win 1).blk t).view.emb
    ((cfg4.win 2).blk t).view.emb (t.val * 512) 0 (fun _ => rfl) (fun _ => rfl) ?_ ?_ ?_ ?_ ?_ ?_ y
  all_goals
    intro a
    blk_simp [e0, e1, e2]

/-- The blocks of the gate and up product: which rows and columns point `t` takes. -/
theorem gate_blocks : ∀ t : Fin cfg5.N, win5_0.index t = ![t.val / 11, 0] ∧ win5_1.index t = ![0, t.val % 11]
    ∧ win5_2.index t = ![t.val / 11, t.val % 11] := by decide +kernel

/-- What the body of the gate and up product stores: one tile. -/
theorem gate_out (x : Vec Ideal S512x1024 .f32) (w : Vec Ideal S1024x512 .bf16) :
    out5_2 x w = tile (m := 512) (K := 1024) (n := 512) x w := by
  unfold out5_2 k5_pay1
  rw [View.canon_cons_unit_lit _ _ _ (by decide), View.ld_unit_lit _ _ (by decide), View.ld_unit_lit _ _ (by decide), shapeCast_self,
    shapeCast_self]
  rfl

/-- A tile of the gate and up product is the block of the whole product at its place. -/
theorem gate_tile (X : FVec Ideal ⟨2, ![32768, 1024]⟩ .f32) (W : FVec Ideal ⟨2, ![1024, 5632]⟩ .bf16) (t : Fin cfg5.N)
    (y : (⟨2, ![512, 512]⟩ : Shape).Idx) :
    out5_2 (F := Ideal) (fun a => X (((cfg5.win 0).blk t).view.emb a)) (fun a => W (((cfg5.win 1).blk t).view.emb a)) y
      = prod X W (((cfg5.win 2).blk t).view.emb y) := by
  obtain ⟨e0, e1, e2⟩ := gate_blocks t
  refine (congrFun (gate_out _ _) y).trans ?_
  refine tile_prod none X W _ _ ((cfg5.win 0).blk t).view.emb ((cfg5.win 1).blk t).view.emb
    ((cfg5.win 2).blk t).view.emb (t.val / 11 * 512) (t.val % 11 * 512) (fun _ => rfl) (fun _ => rfl) ?_ ?_ ?_ ?_ ?_ ?_ y
  all_goals
    intro a
    blk_simp [e0, e1, e2]

/-- The blocks of the down product: which rows and columns point `t` takes. -/
theorem down_blocks : ∀ t : Fin cfg6.N, win6_0.index t = ![t.val, 0] ∧ win6_1.index t = ![0, 0]
    ∧ win6_2.index t = ![t.val, 0] := by decide +kernel

/-- What the body of the down product stores: one tile. -/
theorem down_out (x : Vec Ideal S256x2816 .f32) (w : Vec Ideal S2816x1024 .bf16) :
    out6_2 x w = tile (m := 256) (K := 2816) (n := 1024) x w := by
  unfold out6_2 k6_pay1
  rw [View.canon_cons_unit_lit _ _ _ (by decide), View.ld_unit_lit _ _ (by decide), View.ld_unit_lit _ _ (by decide), shapeCast_self,
    shapeCast_self]
  rfl

/-- A tile of the down product is the block of the whole product at its place. -/
theorem down_tile (X : FVec Ideal ⟨2, ![32768, 2816]⟩ .f32) (W : FVec Ideal ⟨2, ![2816, 1024]⟩ .bf16) (t : Fin cfg6.N)
    (y : (⟨2, ![256, 1024]⟩ : Shape).Idx) :
    out6_2 (F := Ideal) (fun a => X (((cfg6.win 0).blk t).view.emb a)) (fun a => W (((cfg6.win 1).blk t).view.emb a)) y
      = prod X W (((cfg6.win 2).blk t).view.emb y) := by
  obtain ⟨e0, e1, e2⟩ := down_blocks t
  refine (congrFun (down_out _ _) y).trans ?_
  refine tile_prod none X W _ _ ((cfg6.win 0).blk t).view.emb ((cfg6.win 1).blk t).view.emb
    ((cfg6.win 2).blk t).view.emb (t.val * 256) 0 (fun _ => rfl) (fun _ => rfl) ?_ ?_ ?_ ?_ ?_ ?_ y
  all_goals
    intro a
    blk_simp [e0, e1, e2]

/-- The blocks of the input projection: which rows and columns point `t` takes. -/
theorem cols_blocks : ∀ t : Fin cfg7.N, win7_0.index t = ![t.val, 0] ∧ win7_1.index t = ![0, 0]
    ∧ win7_2.index t = ![t.val, 0] := by decide +kernel

/-- What the body of the input projection stores: one tile. -/
theorem cols_out (x : Vec Ideal S512x1024 .f32) (w : Vec Ideal S1024x6688 .bf16) :
    out7_2 x w = tile (m := 512) (K := 1024) (n := 6688) x w := by
  unfold out7_2 k7_pay1
  rw [View.canon_cons_unit_lit _ _ _ (by decide), View.ld_unit_lit _ _ (by decide), View.ld_unit_lit _ _ (by decide), shapeCast_self,
    shapeCast_self]
  rfl

/-- A tile of the input projection is the block of the whole product at its place. -/
theorem cols_tile (X : FVec Ideal ⟨2, ![32768, 1024]⟩ .f32) (W : FVec Ideal ⟨2, ![1024, 6688]⟩ .bf16) (t : Fin cfg7.N)
    (y : (⟨2, ![512, 6688]⟩ : Shape).Idx) :
    out7_2 (F := Ideal) (fun a => X (((cfg7.win 0).blk t).view.emb a)) (fun a => W (((cfg7.win 1).blk t).view.emb a)) y
      = prod X W (((cfg7.win 2).blk t).view.emb y) := by
  obtain ⟨e0, e1, e2⟩ := cols_blocks t
  refine (congrFun (cols_out _ _) y).trans ?_
  refine tile_prod none X W _ _ ((cfg7.win 0).blk t).view.emb ((cfg7.win 1).blk t).view.emb
    ((cfg7.win 2).blk t).view.emb (t.val * 512) 0 (fun _ => rfl) (fun _ => rfl) ?_ ?_ ?_ ?_ ?_ ?_ y
  all_goals
    intro a
    blk_simp [e0, e1, e2]

variable (V : (c : Dev nD) → (b : Ref sig .tc) → Buf (Elt Ideal) ((c : Thread nD τ).loc b)) (c : Dev nD)

/-- Call 0 leaves the product of a branch's rows with its matrix. -/
theorem product0 : (dat0 V c).arrAt 2 cfg0.N = prod (φ₁ := .f32) (φ₂ := .bf16) (V c main_v32) (V c main_v33) :=
  (dat0 V c).arrAt_eq_of_covers 2 _ (by decide +kernel) fun t _ y =>
    (congrFun (after0_2 V c t) y).trans (branch_tile (V c main_v32) (V c main_v33) t y)

/-- Call 1 leaves the product of a branch's rows with its matrix. -/
theorem product1 : (dat1 V c).arrAt 2 cfg1.N = prod (φ₁ := .f32) (φ₂ := .bf16) (V c main_v47) (V c main_v48) :=
  (dat1 V c).arrAt_eq_of_covers 2 _ (by decide +kernel) fun t _ y =>
    (congrFun (after1_2 V c t) y).trans (branch_tile (V c main_v47) (V c main_v48) t y)

/-- Call 2 leaves the product of a branch's rows with its matrix. -/
theorem product2 : (dat2 V c).arrAt 2 cfg2.N = prod (φ₁ := .f32) (φ₂ := .bf16) (V c main_v61) (V c main_v62) :=
  (dat2 V c).arrAt_eq_of_covers 2 _ (by decide +kernel) fun t _ y =>
    (congrFun (after2_2 V c t) y).trans (branch_tile (V c main_v61) (V c main_v62) t y)

/-- Call 3 leaves the product of a branch's rows with its matrix. -/
theorem product3 : (dat3 V c).arrAt 2 cfg3.N = prod (φ₁ := .f32) (φ₂ := .bf16) (V c main_v75) (V c main_v76) :=
  (dat3 V c).arrAt_eq_of_covers 2 _ (by decide +kernel) fun t _ y =>
    (congrFun (after3_2 V c t) y).trans (branch_tile (V c main_v75) (V c main_v76) t y)

/-- Call 4 leaves the product of the merged rows with the output matrix. -/
theorem product4 : (dat4 V c).arrAt 2 cfg4.N = prod (φ₁ := .f32) (φ₂ := .bf16) (V c main_v81) (V c main_v82) :=
  (dat4 V c).arrAt_eq_of_covers 2 _ (by decide +kernel) fun t _ y =>
    (congrFun (after4_2 V c t) y).trans (out_tile (V c main_v81) (V c main_v82) t y)

/-- Call 5 leaves the product of the normed rows with the gate and up weights. -/
theorem product5 : (dat5 V c).arrAt 2 cfg5.N = prod (φ₁ := .f32) (φ₂ := .bf16) (V c main_v111) (V c main_v112) :=
  (dat5 V c).arrAt_eq_of_covers 2 _ (by decide +kernel) fun t _ y =>
    (congrFun (after5_2 V c t) y).trans (gate_tile (V c main_v111) (V c main_v112) t y)

/-- Call 6 leaves the product of the gated rows with the down weights. -/
theorem product6 : (dat6 V c).arrAt 2 cfg6.N = prod (φ₁ := .f32) (φ₂ := .bf16) (V c main_v119) (V c main_v120) :=
  (dat6 V c).arrAt_eq_of_covers 2 _ (by decide +kernel) fun t _ y =>
    (congrFun (after6_2 V c t) y).trans (down_tile (V c main_v119) (V c main_v120) t y)

/-- Call 7 leaves the product of the normed rows with the projection matrix. -/
theorem product7 : (dat7 V c).arrAt 2 cfg7.N = prod (φ₁ := .f32) (φ₂ := .bf16) (V c main_v165) (V c main_v166) :=
  (dat7 V c).arrAt_eq_of_covers 2 _ (by decide +kernel) fun t _ y =>
    (congrFun (after7_2 V c t) y).trans (cols_tile (V c main_v165) (V c main_v166) t y)

end Cert.BetweenIdeal.Parts

end
-- ==== Proof.Rows.lean ====
module

public import proofs.«01_k».proof.Proof.Products

/-!
Products taken row by row over an array with two leading coordinates.

Flattening the two leading coordinates into one, multiplying by the matrix and splitting the rows again is the product of the array with
the matrix over its last coordinate.
-/

@[expose] public section

noncomputable section

namespace Cert.Products

open Idealize.ShloMosaic Idealize.ShloMosaic.ValueIdx

variable {A B M K N : ℕ}

/-- The host's product of a batch of matrices with one matrix, entry by entry: the sum over the shared coordinate. -/
theorem batch_apply (w : DotDims.WF ⟨3, ![A, B, K]⟩ ⟨2, ![K, N]⟩ ⟨3, ![A, B, N]⟩ [2] [0] [0, 1] [1] [] [])
    (x : FVec Ideal ⟨3, ![A, B, K]⟩ .f32) (v : FVec Ideal ⟨2, ![K, N]⟩ .f32) (a : Fin A) (b : Fin B) (n : Fin N) :
    Host.dotGeneral (⟨[2], [0], [0, 1], [1], [], [], w⟩ : DotDims _ _ _) none x v (ix3 a b n)
      = ∑ k : Fin K, x (ix3 a b k) * v (ix2 k n) := by
  show FloatOps.dotGeneral _ none _ x v (ix3 a b n) = _
  rw [Ideal.dotGeneral_apply,
    ← Equiv.sum_comp (contrEquiv1 (⟨[2], [0], [0, 1], [1], [], [], w⟩ : DotDims _ _ _) K rfl rfl).symm]
  refine Finset.sum_congr rfl fun k _ => ?_
  have hk := contrEquiv1_symm_val
    (⟨[2], [0], [0, 1], [1], [], [], w⟩ : DotDims ⟨3, ![A, B, K]⟩ ⟨2, ![K, N]⟩ ⟨3, ![A, B, N]⟩) K rfl rfl k
  congr 1
  · refine congrArg x (funext fun d => Fin.ext ?_)
    match d with
    | ⟨0, _⟩ => simp [DotDims.lhsIdx]; rfl
    | ⟨1, _⟩ => simp [DotDims.lhsIdx]; rfl
    | ⟨2, _⟩ => simp [DotDims.lhsIdx]; exact hk
  · refine congrArg v (funext fun d => Fin.ext ?_)
    match d with
    | ⟨0, _⟩ => simp [DotDims.rhsIdx]; exact hk
    | ⟨1, _⟩ => simp [DotDims.rhsIdx]; rfl

/-- The rows of a batch, flattened, multiplied by a rounded matrix and split again, are the batch's product with the matrix. -/
theorem rows_dot (hM : A * B = M) (w : DotDims.WF ⟨3, ![A, B, K]⟩ ⟨2, ![K, N]⟩ ⟨3, ![A, B, N]⟩ [2] [0] [0, 1] [1] [] [])
    (x : FVec Ideal ⟨3, ![A, B, K]⟩ .f32) (v : FVec Ideal ⟨2, ![K, N]⟩ .f32) (hx : (⟨3, ![A, B, K]⟩ : Shape).ShapeCasts ⟨2, ![M, K]⟩)
    (ho : (⟨2, ![M, N]⟩ : Shape).ShapeCasts ⟨3, ![A, B, N]⟩) (hb) :
    shapeCast ⟨3, ![A, B, N]⟩ (prod (shapeCast ⟨2, ![M, K]⟩ x hx) (truncf .bf16 v hb)) ho
      = Host.dotGeneral (⟨[2], [0], [0, 1], [1], [], [], w⟩ : DotDims _ _ _) none x v := by
  subst hM
  funext j
  obtain ⟨a, b, n, rfl⟩ : ∃ (a : Fin A) (b : Fin B) (n : Fin N), j = ix3 a b n := ⟨j 0, j 1, j 2, eq_ix3 j⟩
  have hr : a.val * B + b.val < A * B :=
    lt_of_lt_of_le (Nat.add_lt_add_left b.isLt _) (by rw [← Nat.succ_mul]; exact Nat.mul_le_mul_right B a.isLt)
  rw [shapeCast_apply _ ho (ix3 a b n) (ix2 ⟨a.val * B + b.val, hr⟩ n)
    (by rw [Shape.rowMajor_val_two, Shape.rowMajor_val_three]; rfl), batch_apply]
  refine Finset.sum_congr rfl fun k _ => ?_
  refine congrArg (· * _) (shapeCast_apply _ hx _ _ ?_)
  rw [Shape.rowMajor_val_two, Shape.rowMajor_val_three]
  rfl

end Cert.Products

end
-- ==== Proof.BetweenTerms.lean ====
module

public import proofs.«01_k».proof.Proof.Gen.BetweenIdeal.Frame
public import proofs.«01_k».proof.Proof.Gen.BetweenRefIdeal
public import proofs.«01_k».proof.Proof.Rows

/-!
The stretch between the branches of the first layer and those of the second, as a function of its arguments.
-/

@[expose] public section

set_option maxRecDepth 16384

noncomputable section

namespace Cert.BetweenIdeal.Parts

open Idealize.ShloMosaic Idealize.ShloMosaic.TcCoe Cert.BetweenIdeal.Gen Cert.Products

/-- A layer's modulations from the condition `c`: the activated condition times the layer's matrix, plus its bias. -/
abbrev modulations (c : FVec Ideal S4x1024 .f32) (W : FVec Ideal S1024x6144 .f32) (b : FVec Ideal S6144 .f32) : FVec Ideal S4x1x6144 .f32 :=
  broadcastInDim S4x1x6144 ![0, 2] bcast_S4x6144_S4x1x6144_0_2 (addf
    (Host.dotGeneral dot_S4x1024_S1024x6144_S4x6144_1_0_0_1_n_n none
      (mulf c (Host.divf (broadcastInDim S4x1024 ![] bcast_S_S4x1024 (constant S_ .f32 0x3F800000#32))
        (addf (broadcastInDim S4x1024 ![] bcast_S_S4x1024 (constant S_ .f32 0x3F800000#32)) (Host.exp (Host.negf c))))) W)
    (broadcastInDim S4x6144 ![0, 1] bcast_S1x6144_S4x6144_0_1 (broadcastInDim S1x6144 ![1] bcast_S6144_S1x6144_1 b)))

/-- The first layer's modulations. -/
abbrev first (c : FVec Ideal S4x1024 .f32) (W : FVec Ideal S2x1024x6144 .f32) (b : FVec Ideal S2x6144 .f32) : FVec Ideal S4x1x6144 .f32 :=
  modulations c
    (shapeCast S1024x6144 (extractStridedSlice S1x1024x6144 ![0, 0, 0] W slices_S2x1024x6144_S1x1024x6144_0_0_0)
      shapeCasts_S1x1024x6144_S1024x6144)
    (shapeCast S6144 (extractStridedSlice S1x6144 ![0, 0] b slices_S2x6144_S1x6144_0_0) shapeCasts_S1x6144_S6144)

/-- The second layer's modulations. -/
abbrev second (c : FVec Ideal S4x1024 .f32) (W : FVec Ideal S2x1024x6144 .f32) (b : FVec Ideal S2x6144 .f32) : FVec Ideal S4x1x6144 .f32 :=
  modulations c
    (shapeCast S1024x6144 (extractStridedSlice S1x1024x6144 ![1, 0, 0] W slices_S2x1024x6144_S1x1024x6144_1_0_0)
      shapeCasts_S1x1024x6144_S1024x6144)
    (shapeCast S6144 (extractStridedSlice S1x6144 ![1, 0] b slices_S2x6144_S1x6144_1_0) shapeCasts_S1x6144_S6144)

/-- Of six modulations, the one that starts at column `1024 n`. -/
theorem sixths : ∀ n : Fin 6, S4x1x6144.Slices ![0, 0, 1024 * n.val] S4x1x1024 := by decide

/-- Modulation `n` of six. -/
abbrev sixth (n : Fin 6) (a : FVec Ideal S4x1x6144 .f32) : FVec Ideal S4x1x1024 .f32 :=
  extractStridedSlice S4x1x1024 ![0, 0, 1024 * n.val] a (sixths n)

/-- The gates hold a block of 1024 columns per branch. -/
theorem gate_slices : ∀ k : Fin 4, S4x8192x4096.Slices ![0, 0, 1024 * k.val] S4x8192x1024 := by decide

/-- Branch `k`'s gate before it is opened. -/
abbrev gate (k : Fin 4) (G : FVec Ideal S4x8192x4096 .f32) : FVec Ideal S4x8192x1024 .f32 :=
  extractStridedSlice S4x8192x1024 ![0, 0, 1024 * k.val] G (gate_slices k)

/-- The branch matrices hold one matrix per branch. -/
theorem branch_slices : ∀ k : Fin 4, S4x256x1024.Slices ![k.val, 0, 0] S1x256x1024 := by decide

/-- Branch `k`'s matrix. -/
abbrev matrix (k : Fin 4) (W : FVec Ideal S4x256x1024 .f32) : FVec Ideal S256x1024 .f32 :=
  shapeCast S256x1024 (extractStridedSlice S1x256x1024 ![k.val, 0, 0] W (branch_slices k)) shapeCasts_S1x256x1024_S256x1024

/-- The logistic function of an array. -/
abbrev logistic (g : FVec Ideal S4x8192x1024 .f32) : FVec Ideal S4x8192x1024 .f32 :=
  Host.divf (broadcastInDim S4x8192x1024 ![] bcast_S_S4x8192x1024 (constant S_ .f32 0x3F800000#32))
    (addf (broadcastInDim S4x8192x1024 ![] bcast_S_S4x8192x1024 (constant S_ .f32 0x3F800000#32)) (Host.exp (Host.negf g)))

/-- An array rounded to the narrower format; at exact values the same array. -/
abbrev narrow {s : Shape} (x : FVec Ideal s .f32) : FVec Ideal s .bf16 := truncf .bf16 x bitsLt_bf16_f32

/-- The rows of a product with 1024 columns split into batches again. -/
abbrev split (p : FVec Ideal S32768x1024 .f32) : FVec Ideal S4x8192x1024 .f32 := shapeCast S4x8192x1024 p shapeCasts_S32768x1024_S4x8192x1024

/-- A branch's rows in one list. -/
abbrev flat (x : FVec Ideal S4x8192x256 .f32) : FVec Ideal S32768x256 .f32 := shapeCast S32768x256 x shapeCasts_S4x8192x256_S32768x256

/-- The layer's rows in one list. -/
abbrev list (x : FVec Ideal S4x8192x1024 .f32) : FVec Ideal S32768x1024 .f32 := shapeCast S32768x1024 x shapeCasts_S4x8192x1024_S32768x1024

/-- A modulation, the same for all rows of a batch. -/
abbrev spread (a : FVec Ideal S4x1x1024 .f32) : FVec Ideal S4x8192x1024 .f32 :=
  broadcastInDim S4x8192x1024 ![0, 1, 2] bcast_S4x1x1024_S4x8192x1024_0_1_2 a

/-- The sum of the branches before any is added. -/
abbrev none_yet : FVec Ideal S4x8192x1024 .f32 := broadcastInDim S4x8192x1024 ![] bcast_S_S4x8192x1024 (constant S_ .f32 0x00000000#32)

/-- Rows normed to mean square one, scaled by `g`, then scaled and shifted by the modulations `s` and `t`. -/
abbrev normed (x : FVec Ideal S4x8192x1024 .f32) (g : FVec Ideal S1024 .f32) (t s : FVec Ideal S4x1x1024 .f32) :
    FVec Ideal S4x8192x1024 .f32 :=
  addf (mulf (mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 g)))
    (spread (addf (broadcastInDim S4x1x1024 ![] bcast_S_S4x1x1024 (constant S_ .f32 0x3F800000#32)) s))) (spread t)

/-- The left half of the gate and up product. -/
abbrev left (p : FVec Ideal S4x8192x5632 .f32) : FVec Ideal S4x8192x2816 .f32 :=
  extractStridedSlice S4x8192x2816 ![0, 0, 0] p slices_S4x8192x5632_S4x8192x2816_0_0_0

/-- The gated rows of the gate and up product: its left half, activated, times its right half. -/
abbrev gated (p : FVec Ideal S4x8192x5632 .f32) : FVec Ideal S4x8192x2816 .f32 :=
  mulf (mulf (left p) (Host.divf (broadcastInDim S4x8192x2816 ![] bcast_S_S4x8192x2816 (constant S_ .f32 0x3F800000#32))
      (addf (broadcastInDim S4x8192x2816 ![] bcast_S_S4x8192x2816 (constant S_ .f32 0x3F800000#32)) (Host.exp (Host.negf (left p))))))
    (extractStridedSlice S4x8192x2816 ![0, 0, 2816] p slices_S4x8192x5632_S4x8192x2816_0_0_2816)

/-- A row of the first norm's weights. -/
abbrev weight0 (g : FVec Ideal S2x1024 .f32) : FVec Ideal S1024 .f32 :=
  shapeCast S1024 (extractStridedSlice S1x1024 ![0, 0] g slices_S2x1024_S1x1024_0_0) shapeCasts_S1x1024_S1024

/-- A row of the second layer's norm weights. -/
abbrev weight1 (g : FVec Ideal S2x1024 .f32) : FVec Ideal S1024 .f32 :=
  shapeCast S1024 (extractStridedSlice S1x1024 ![1, 0] g slices_S2x1024_S1x1024_1_0) shapeCasts_S1x1024_S1024

/-- The first layer's branch matrices. -/
abbrev matrices (W : FVec Ideal S2x4x256x1024 .f32) : FVec Ideal S4x256x1024 .f32 :=
  shapeCast S4x256x1024 (extractStridedSlice S1x4x256x1024 ![0, 0, 0, 0] W slices_S2x4x256x1024_S1x4x256x1024_0_0_0_0)
    shapeCasts_S1x4x256x1024_S4x256x1024

/-- The first layer's output matrix. -/
abbrev output (W : FVec Ideal S2x1024x1024 .f32) : FVec Ideal S1024x1024 .f32 :=
  shapeCast S1024x1024 (extractStridedSlice S1x1024x1024 ![0, 0, 0] W slices_S2x1024x1024_S1x1024x1024_0_0_0)
    shapeCasts_S1x1024x1024_S1024x1024

/-- The second layer's projection matrix. -/
abbrev projection (W : FVec Ideal S2x1024x6688 .f32) : FVec Ideal S1024x6688 .f32 :=
  shapeCast S1024x6688 (extractStridedSlice S1x1024x6688 ![1, 0, 0] W slices_S2x1024x6688_S1x1024x6688_1_0_0)
    shapeCasts_S1x1024x6688_S1024x6688

/-- A branch's rows multiplied as one list and split again are their product with the matrix. -/
theorem times_branch (x : FVec Ideal S4x8192x256 .f32) (w : FVec Ideal S256x1024 .f32) :
    shapeCast S4x8192x1024 (prod (M := 32768) (K := 256) (N := 1024) (φ₁ := .f32) (φ₂ := .bf16)
        (shapeCast S32768x256 x shapeCasts_S4x8192x256_S32768x256) (narrow w)) shapeCasts_S32768x1024_S4x8192x1024
      = Host.dotGeneral BetweenRefIdeal.dot_S4x8192x256_S256x1024_S4x8192x1024_2_0_01_1_n_n none x w :=
  rows_dot (A := 4) (B := 8192) (M := 32768) (K := 256) (N := 1024) rfl
    BetweenRefIdeal.Facts₀.dot_S4x8192x256_S256x1024_S4x8192x1024_2_0_01_1_n_n_wf x w _ _ _

/-- The merged rows multiplied as one list and split again are their product with the matrix. -/
theorem times_output (x : FVec Ideal S4x8192x1024 .f32) (w : FVec Ideal S1024x1024 .f32) :
    shapeCast S4x8192x1024 (prod (M := 32768) (K := 1024) (N := 1024) (φ₁ := .f32) (φ₂ := .bf16)
        (shapeCast S32768x1024 x shapeCasts_S4x8192x1024_S32768x1024) (narrow w)) shapeCasts_S32768x1024_S4x8192x1024
      = Host.dotGeneral BetweenRefIdeal.dot_S4x8192x1024_S1024x1024_S4x8192x1024_2_0_01_1_n_n none x w :=
  rows_dot (A := 4) (B := 8192) (M := 32768) (K := 1024) (N := 1024) rfl
    BetweenRefIdeal.Facts₀.dot_S4x8192x1024_S1024x1024_S4x8192x1024_2_0_01_1_n_n_wf x w _ _ _

/-- The normed rows multiplied as one list and split again are their product with the matrix. -/
theorem times_gate (x : FVec Ideal S4x8192x1024 .f32) (w : FVec Ideal S1024x5632 .f32) :
    shapeCast S4x8192x5632 (prod (M := 32768) (K := 1024) (N := 5632) (φ₁ := .f32) (φ₂ := .bf16)
        (shapeCast S32768x1024 x shapeCasts_S4x8192x1024_S32768x1024) (narrow w)) shapeCasts_S32768x5632_S4x8192x5632
      = Host.dotGeneral BetweenRefIdeal.dot_S4x8192x1024_S1024x5632_S4x8192x5632_2_0_01_1_n_n none x w :=
  rows_dot (A := 4) (B := 8192) (M := 32768) (K := 1024) (N := 5632) rfl
    BetweenRefIdeal.Facts₀.dot_S4x8192x1024_S1024x5632_S4x8192x5632_2_0_01_1_n_n_wf x w _ _ _

/-- The gated rows multiplied as one list and split again are their product with the matrix. -/
theorem times_down (x : FVec Ideal S4x8192x2816 .f32) (w : FVec Ideal S2816x1024 .f32) :
    shapeCast S4x8192x1024 (prod (M := 32768) (K := 2816) (N := 1024) (φ₁ := .f32) (φ₂ := .bf16)
        (shapeCast S32768x2816 x shapeCasts_S4x8192x2816_S32768x2816) (narrow w)) shapeCasts_S32768x1024_S4x8192x1024
      = Host.dotGeneral BetweenRefIdeal.dot_S4x8192x2816_S2816x1024_S4x8192x1024_2_0_01_1_n_n none x w :=
  rows_dot (A := 4) (B := 8192) (M := 32768) (K := 2816) (N := 1024) rfl
    BetweenRefIdeal.Facts₀.dot_S4x8192x2816_S2816x1024_S4x8192x1024_2_0_01_1_n_n_wf x w _ _ _

/-- The second layer's rows multiplied as one list and split again are their product with the matrix. -/
theorem times_cols (x : FVec Ideal S4x8192x1024 .f32) (w : FVec Ideal S1024x6688 .f32) :
    shapeCast S4x8192x6688 (prod (M := 32768) (K := 1024) (N := 6688) (φ₁ := .f32) (φ₂ := .bf16)
        (shapeCast S32768x1024 x shapeCasts_S4x8192x1024_S32768x1024) (narrow w)) shapeCasts_S32768x6688_S4x8192x6688
      = Host.dotGeneral BetweenRefIdeal.dot_S4x8192x1024_S1024x6688_S4x8192x6688_2_0_01_1_n_n none x w :=
  rows_dot (A := 4) (B := 8192) (M := 32768) (K := 1024) (N := 6688) rfl
    BetweenRefIdeal.Facts₀.dot_S4x8192x1024_S1024x6688_S4x8192x6688_2_0_01_1_n_n_wf x w _ _ _

end Cert.BetweenIdeal.Parts

end
-- ==== Proof.BetweenLines.lean ====
module

public import proofs.«01_k».proof.Proof.BetweenTerms

/-!
What the host lines around the eight products make of the buffers they start from.

`S` is what the buffers hold when the lines start; each theorem gives buffers after them.
-/

@[expose] public section

set_option maxRecDepth 16384

noncomputable section

namespace Cert.BetweenIdeal.Parts

open Idealize.ShloMosaic Idealize.ShloMosaic.TcCoe Cert.BetweenIdeal.Gen Cert.Products
open Idealize.ShloMosaic.StableHlo

variable (S : Valuation τ sig (Elt Ideal))

/-- The buffers after the lines before the first product. -/
abbrev opened : Valuation τ sig (Elt Ideal) := after hostOps0_2 (after hostOps0_1 (after hostOps0 S))

/-- The buffers after the lines between the gate and up product and the down product. -/
abbrev halved : Valuation τ sig (Elt Ideal) := after hostOps6_2 (after hostOps6_1 (after hostOps6 S))

/-- The buffers after the lines between the down product and the second layer's projection. -/
abbrev entered : Valuation τ sig (Elt Ideal) := after hostOps7_2 (after hostOps7_1 (after hostOps7 S))

/-- The modulations the first layer's second half uses. -/
theorem opened_modulations : opened S (Proc.devRef .tc main_v12) = sixth 2 (first (S (Proc.devRef .tc main_arg1)) (S (Proc.devRef .tc main_arg2)) (S (Proc.devRef .tc main_arg3)))
    ∧ opened S (Proc.devRef .tc main_v13) = sixth 3 (first (S (Proc.devRef .tc main_arg1)) (S (Proc.devRef .tc main_arg2)) (S (Proc.devRef .tc main_arg3)))
    ∧ opened S (Proc.devRef .tc main_v14) = sixth 4 (first (S (Proc.devRef .tc main_arg1)) (S (Proc.devRef .tc main_arg2)) (S (Proc.devRef .tc main_arg3)))
    ∧ opened S (Proc.devRef .tc main_v15) = sixth 5 (first (S (Proc.devRef .tc main_arg1)) (S (Proc.devRef .tc main_arg2)) (S (Proc.devRef .tc main_arg3))) := by
  refine ⟨?_, ?_, ?_, ?_⟩
  all_goals
    simp only [opened, hostOps0_1, TRef.binary, TRef.nullary, TRef.unary, TRef.toBuf, TRef.ofBuf, cast_eq]
    after_results
    try rfl

/-- The gates, and the matrices of the branches and of the output. -/
theorem opened_gates : opened S (Proc.devRef .tc main_v29) = logistic (gate 0 (S (Proc.devRef .tc main_arg11)))
    ∧ opened S (Proc.devRef .tc main_v21) = gate 1 (S (Proc.devRef .tc main_arg11))
    ∧ opened S (Proc.devRef .tc main_v22) = gate 2 (S (Proc.devRef .tc main_arg11))
    ∧ opened S (Proc.devRef .tc main_v23) = gate 3 (S (Proc.devRef .tc main_arg11))
    ∧ opened S (Proc.devRef .tc main_v17) = matrices (S (Proc.devRef .tc main_arg12))
    ∧ opened S (Proc.devRef .tc main_v19) = output (S (Proc.devRef .tc main_arg13)) := by
  refine ⟨?_, ?_, ?_, ?_, ?_, ?_⟩
  all_goals
    simp only [opened, hostOps0_1, TRef.binary, TRef.nullary, TRef.unary, TRef.toBuf, TRef.ofBuf, cast_eq]
    after_results
    try rfl

/-- What the first branch's product takes. -/
theorem opened_branch : opened S (Proc.devRef .tc main_v32) = flat (S (Proc.devRef .tc main_arg7))
    ∧ opened S (Proc.devRef .tc main_v33) = narrow (matrix 0 (matrices (S (Proc.devRef .tc main_arg12)))) := by
  refine ⟨?_, ?_⟩
  all_goals
    simp only [opened, hostOps0_1, TRef.binary, TRef.nullary, TRef.unary, TRef.toBuf, TRef.ofBuf, cast_eq]
    after_results
    try rfl

/-- Branch 0 is added at its gate; the gate, rows and matrix of branch 1 are taken. -/
theorem adds0 : after hostOps1 S (Proc.devRef .tc main_v38) = addf none_yet (mulf (S (Proc.devRef .tc main_v29)) (split (S (Proc.devRef .tc main_v34))))
    ∧ after hostOps1 S (Proc.devRef .tc main_v44) = logistic (S (Proc.devRef .tc main_v21))
    ∧ after hostOps1 S (Proc.devRef .tc main_v47) = flat (S (Proc.devRef .tc main_arg8))
    ∧ after hostOps1 S (Proc.devRef .tc main_v48) = narrow (matrix 1 (S (Proc.devRef .tc main_v17))) := by
  refine ⟨?_, ?_, ?_, ?_⟩
  all_goals
    after_results
    try rfl

/-- Branch 1 is added at its gate; the gate, rows and matrix of branch 2 are taken. -/
theorem adds1 : after hostOps2 S (Proc.devRef .tc main_v52) = addf (S (Proc.devRef .tc main_v38)) (mulf (S (Proc.devRef .tc main_v44)) (split (S (Proc.devRef .tc main_v49))))
    ∧ after hostOps2 S (Proc.devRef .tc main_v58) = logistic (S (Proc.devRef .tc main_v22))
    ∧ after hostOps2 S (Proc.devRef .tc main_v61) = flat (S (Proc.devRef .tc main_arg9))
    ∧ after hostOps2 S (Proc.devRef .tc main_v62) = narrow (matrix 2 (S (Proc.devRef .tc main_v17))) := by
  refine ⟨?_, ?_, ?_, ?_⟩
  all_goals
    after_results
    try rfl

/-- Branch 2 is added at its gate; the gate, rows and matrix of branch 3 are taken. -/
theorem adds2 : after hostOps3 S (Proc.devRef .tc main_v66) = addf (S (Proc.devRef .tc main_v52)) (mulf (S (Proc.devRef .tc main_v58)) (split (S (Proc.devRef .tc main_v63))))
    ∧ after hostOps3 S (Proc.devRef .tc main_v72) = logistic (S (Proc.devRef .tc main_v23))
    ∧ after hostOps3 S (Proc.devRef .tc main_v75) = flat (S (Proc.devRef .tc main_arg10))
    ∧ after hostOps3 S (Proc.devRef .tc main_v76) = narrow (matrix 3 (S (Proc.devRef .tc main_v17))) := by
  refine ⟨?_, ?_, ?_, ?_⟩
  all_goals
    after_results
    try rfl

/-- Branch 3 is added at its gate; the sum's rows and the output matrix are taken. -/
theorem adds3 : after hostOps4 S (Proc.devRef .tc main_v81) = list (addf (S (Proc.devRef .tc main_v66)) (mulf (S (Proc.devRef .tc main_v72)) (split (S (Proc.devRef .tc main_v77)))))
    ∧ after hostOps4 S (Proc.devRef .tc main_v82) = narrow (s := S1024x1024) (S (Proc.devRef .tc main_v19)) := by
  refine ⟨?_, ?_⟩
  all_goals
    after_results
    try rfl

/-- The merged branches go into the layer's input. -/
theorem merges : after hostOps5 S (Proc.devRef .tc main_v87) = addf (S (Proc.devRef .tc main_arg0)) (mulf (spread (S (Proc.devRef .tc main_v12))) (split (S (Proc.devRef .tc main_v83)))) := by
  after_results
  try rfl

/-- The rows and the weights the gate and up product takes, and the down weights. -/
theorem takes_up : after hostOps5 S (Proc.devRef .tc main_v111) = list (normed (addf (S (Proc.devRef .tc main_arg0)) (mulf (spread (S (Proc.devRef .tc main_v12))) (split (S (Proc.devRef .tc main_v83))))) (weight0 (S (Proc.devRef .tc main_arg5))) (S (Proc.devRef .tc main_v13)) (S (Proc.devRef .tc main_v14)))
    ∧ after hostOps5 S (Proc.devRef .tc main_v112) = narrow (shapeCast S1024x5632 (S (Proc.devRef .tc main_arg14)) shapeCasts_S1x1024x5632_S1024x5632)
    ∧ after hostOps5 S (Proc.devRef .tc main_v110) = (shapeCast S2816x1024 (S (Proc.devRef .tc main_arg15)) shapeCasts_S1x2816x1024_S2816x1024 : FVec Ideal S2816x1024 .f32) := by
  refine ⟨?_, ?_, ?_⟩
  all_goals
    after_results
    try rfl

/-- The rows and the weights the down product takes. -/
theorem takes_down : halved S (Proc.devRef .tc main_v119) = (shapeCast S32768x2816 (gated (shapeCast S4x8192x5632 (S (Proc.devRef .tc main_v113)) shapeCasts_S32768x5632_S4x8192x5632)) shapeCasts_S4x8192x2816_S32768x2816 : FVec Ideal S32768x2816 .f32)
    ∧ halved S (Proc.devRef .tc main_v120) = narrow (s := S2816x1024) (S (Proc.devRef .tc main_v110)) := by
  refine ⟨?_, ?_⟩
  all_goals
    simp only [halved, hostOps6_1, TRef.binary, TRef.nullary, TRef.unary, TRef.toBuf, TRef.ofBuf, cast_eq]
    after_results
    try rfl

/-- The channel mixing goes into the layer's rows. -/
theorem leaves : entered S (Proc.devRef .tc main_v125) = addf (S (Proc.devRef .tc main_v87)) (mulf (spread (S (Proc.devRef .tc main_v15))) (split (S (Proc.devRef .tc main_v121)))) := by
  simp only [entered, hostOps7_1, TRef.binary, TRef.nullary, TRef.unary, TRef.toBuf, TRef.ofBuf, cast_eq]
  after_results
  try rfl

/-- The rows and the matrix the second layer's projection takes. -/
theorem takes_cols : entered S (Proc.devRef .tc main_v165) = list (normed (addf (S (Proc.devRef .tc main_v87)) (mulf (spread (S (Proc.devRef .tc main_v15))) (split (S (Proc.devRef .tc main_v121))))) (weight1 (S (Proc.devRef .tc main_arg4))) (sixth 0 (second (S (Proc.devRef .tc main_arg1)) (S (Proc.devRef .tc main_arg2)) (S (Proc.devRef .tc main_arg3)))) (sixth 1 (second (S (Proc.devRef .tc main_arg1)) (S (Proc.devRef .tc main_arg2)) (S (Proc.devRef .tc main_arg3)))))
    ∧ entered S (Proc.devRef .tc main_v166) = narrow (projection (S (Proc.devRef .tc main_arg6))) := by
  refine ⟨?_, ?_⟩
  all_goals
    simp only [entered, hostOps7_1, TRef.binary, TRef.nullary, TRef.unary, TRef.toBuf, TRef.ofBuf, cast_eq]
    after_results
    try rfl

/-- The projection's rows split into batches again. -/
abbrev columns (p : FVec Ideal S32768x6688 .f32) : FVec Ideal S4x8192x6688 .f32 := shapeCast S4x8192x6688 p shapeCasts_S32768x6688_S4x8192x6688

/-- The second layer's inputs are columns of the projection. -/
theorem columns_of : after hostOps8 S (Proc.devRef .tc main_v169) = (extractStridedSlice S4x8192x256 ![0, 0, 0] (columns (S (Proc.devRef .tc main_v167))) slices_S4x8192x6688_S4x8192x256_0_0_0 : FVec Ideal S4x8192x256 .f32)
    ∧ after hostOps8 S (Proc.devRef .tc main_v170) = (extractStridedSlice S4x8192x256 ![0, 0, 256] (columns (S (Proc.devRef .tc main_v167))) slices_S4x8192x6688_S4x8192x256_0_0_256 : FVec Ideal S4x8192x256 .f32)
    ∧ after hostOps8 S (Proc.devRef .tc main_v171) = (extractStridedSlice S4x8192x256 ![0, 0, 512] (columns (S (Proc.devRef .tc main_v167))) slices_S4x8192x6688_S4x8192x256_0_0_512 : FVec Ideal S4x8192x256 .f32)
    ∧ after hostOps8 S (Proc.devRef .tc main_v172) = (extractStridedSlice S4x8192x256 ![0, 0, 768] (columns (S (Proc.devRef .tc main_v167))) slices_S4x8192x6688_S4x8192x256_0_0_768 : FVec Ideal S4x8192x256 .f32)
    ∧ after hostOps8 S (Proc.devRef .tc main_v173) = (extractStridedSlice S4x8192x32 ![0, 0, 1024] (columns (S (Proc.devRef .tc main_v167))) slices_S4x8192x6688_S4x8192x32_0_0_1024 : FVec Ideal S4x8192x32 .f32)
    ∧ after hostOps8 S (Proc.devRef .tc main_v174) = (extractStridedSlice S4x8192x256 ![0, 0, 1056] (columns (S (Proc.devRef .tc main_v167))) slices_S4x8192x6688_S4x8192x256_0_0_1056 : FVec Ideal S4x8192x256 .f32)
    ∧ after hostOps8 S (Proc.devRef .tc main_v175) = (extractStridedSlice S4x8192x768 ![0, 0, 1312] (columns (S (Proc.devRef .tc main_v167))) slices_S4x8192x6688_S4x8192x768_0_0_1312 : FVec Ideal S4x8192x768 .f32)
    ∧ after hostOps8 S (Proc.devRef .tc main_v176) = (extractStridedSlice S4x8192x256 ![0, 0, 2080] (columns (S (Proc.devRef .tc main_v167))) slices_S4x8192x6688_S4x8192x256_0_0_2080 : FVec Ideal S4x8192x256 .f32)
    ∧ after hostOps8 S (Proc.devRef .tc main_v177) = (extractStridedSlice S4x8192x256 ![0, 0, 2336] (columns (S (Proc.devRef .tc main_v167))) slices_S4x8192x6688_S4x8192x256_0_0_2336 : FVec Ideal S4x8192x256 .f32)
    ∧ after hostOps8 S (Proc.devRef .tc main_v178) = (extractStridedSlice S4x8192x4096 ![0, 0, 2592] (columns (S (Proc.devRef .tc main_v167))) slices_S4x8192x6688_S4x8192x4096_0_0_2592 : FVec Ideal S4x8192x4096 .f32) := by
  refine ⟨?_, ?_, ?_, ?_, ?_, ?_, ?_, ?_, ?_, ?_⟩
  all_goals
    after_results
    try rfl

end Cert.BetweenIdeal.Parts

end
-- ==== Proof.BetweenSteps.lean ====
module

public import proofs.«01_k».proof.Proof.BetweenTiles
public import proofs.«01_k».proof.Proof.BetweenLines

/-!
From the branches of the first layer to the inputs of the second, product by product.

Each call leaves the product of what the lines before it took; split into batches again this is the product of the rows with the exact
matrix. `merged`, `mixed` and `projected` are the three values the stretch is about: the layer's input with the merged branches, the same
with the channel mixing added, and the projection for the second layer.
-/

@[expose] public section

set_option maxRecDepth 16384

noncomputable section

namespace Cert.BetweenIdeal.Parts

open Idealize.ShloMosaic Idealize.ShloMosaic.TcCoe Cert.BetweenIdeal.Gen Cert.Products
open Idealize.ShloMosaic.StableHlo

/-- A branch's rows times its matrix. -/
abbrev branched (b : FVec Ideal S4x8192x256 .f32) (w : FVec Ideal S256x1024 .f32) : FVec Ideal S4x8192x1024 .f32 :=
  Host.dotGeneral BetweenRefIdeal.dot_S4x8192x256_S256x1024_S4x8192x1024_2_0_01_1_n_n none b w

/-- The down product of gated rows. -/
abbrev lowered (g : FVec Ideal S4x8192x2816 .f32) (d : FVec Ideal S2816x1024 .f32) : FVec Ideal S4x8192x1024 .f32 :=
  Host.dotGeneral BetweenRefIdeal.dot_S4x8192x2816_S2816x1024_S4x8192x1024_2_0_01_1_n_n none g d

/-- The gate and up weights as one matrix. -/
abbrev ups (u : FVec Ideal S1x1024x5632 .f32) : FVec Ideal S1024x5632 .f32 := shapeCast S1024x5632 u shapeCasts_S1x1024x5632_S1024x5632

/-- The down weights as one matrix. -/
abbrev downs (d : FVec Ideal S1x2816x1024 .f32) : FVec Ideal S2816x1024 .f32 := shapeCast S2816x1024 d shapeCasts_S1x2816x1024_S2816x1024

/-- A branch's part of the sum: its rows times its matrix, at its opened gate. -/
abbrev part (k : Fin 4) (G : FVec Ideal S4x8192x4096 .f32) (W : FVec Ideal S4x256x1024 .f32) (b : FVec Ideal S4x8192x256 .f32) :
    FVec Ideal S4x8192x1024 .f32 :=
  mulf (logistic (gate k G)) (branched b (matrix k W))

/-- The layer's input with the sum of the branches, times the output matrix, added at a modulation. -/
abbrev merged (x : FVec Ideal S4x8192x1024 .f32) (a : FVec Ideal S4x1x1024 .f32) (y : FVec Ideal S4x8192x1024 .f32)
    (o : FVec Ideal S1024x1024 .f32) : FVec Ideal S4x8192x1024 .f32 :=
  addf x (mulf (spread a) (Host.dotGeneral BetweenRefIdeal.dot_S4x8192x1024_S1024x1024_S4x8192x1024_2_0_01_1_n_n none y o))

/-- The gate and up product of normed rows. -/
abbrev widened (h : FVec Ideal S4x8192x1024 .f32) (u : FVec Ideal S1024x5632 .f32) : FVec Ideal S4x8192x5632 .f32 :=
  Host.dotGeneral BetweenRefIdeal.dot_S4x8192x1024_S1024x5632_S4x8192x5632_2_0_01_1_n_n none h u

/-- The rows with the channel mixing of the product `p` added at a modulation. -/
abbrev mixed (x : FVec Ideal S4x8192x1024 .f32) (a : FVec Ideal S4x1x1024 .f32) (p : FVec Ideal S4x8192x5632 .f32)
    (d : FVec Ideal S2816x1024 .f32) : FVec Ideal S4x8192x1024 .f32 :=
  addf x (mulf (spread a) (lowered (gated p) d))

/-- The second layer's projection of normed rows. -/
abbrev projected (h : FVec Ideal S4x8192x1024 .f32) (w : FVec Ideal S1024x6688 .f32) : FVec Ideal S4x8192x6688 .f32 :=
  Host.dotGeneral BetweenRefIdeal.dot_S4x8192x1024_S1024x6688_S4x8192x6688_2_0_01_1_n_n none h w

variable (m : (ℓ : Loc nD τ sig) → Buf (Elt Ideal) ℓ) (ρ : Dev nD → PrngReg) (c : Dev nD)

/-- What the lines before the first product take once and the later lines read. -/
abbrev kept : List (Ref sig .tc) := [main_v12, main_v13, main_v14, main_v15, main_v17, main_v19, main_v21, main_v22, main_v23, main_v29]

/-- Up to point 4 of the run they are as taken. -/
theorem keep4 : ∀ r ∈ kept, W4 m ρ c (Proc.devRef .tc r) = W3 m ρ c (Proc.devRef .tc r) := by
  have hh : ∀ r ∈ kept, (∀ w : Fin cfg0.W, Pipeline.arrRef spec0 w = r → (cfg0.win w).isOut = false) := by decide +kernel
  intro r hr
  have h4 := hh r hr
  exact (W4_of m ρ c r h4)

/-- Up to point 6 of the run they are as taken. -/
theorem keep6 : ∀ r ∈ kept, W6 m ρ c (Proc.devRef .tc r) = W3 m ρ c (Proc.devRef .tc r) := by
  have hh : ∀ r ∈ kept, (∀ w : Fin cfg1.W, Pipeline.arrRef spec1 w = r → (cfg1.win w).isOut = false) ∧ r ∉ hostOps1_W := by decide +kernel
  intro r hr
  obtain ⟨h6, h5⟩ := hh r hr
  exact ((W6_of m ρ c r h6).trans ((W5_of m ρ c r h5).trans (keep4 m ρ c r hr)))

/-- Up to point 8 of the run they are as taken. -/
theorem keep8 : ∀ r ∈ kept, W8 m ρ c (Proc.devRef .tc r) = W3 m ρ c (Proc.devRef .tc r) := by
  have hh : ∀ r ∈ kept, (∀ w : Fin cfg2.W, Pipeline.arrRef spec2 w = r → (cfg2.win w).isOut = false) ∧ r ∉ hostOps2_W := by decide +kernel
  intro r hr
  obtain ⟨h8, h7⟩ := hh r hr
  exact ((W8_of m ρ c r h8).trans ((W7_of m ρ c r h7).trans (keep6 m ρ c r hr)))

/-- Up to point 10 of the run they are as taken. -/
theorem keep10 : ∀ r ∈ kept, W10 m ρ c (Proc.devRef .tc r) = W3 m ρ c (Proc.devRef .tc r) := by
  have hh : ∀ r ∈ kept, (∀ w : Fin cfg3.W, Pipeline.arrRef spec3 w = r → (cfg3.win w).isOut = false) ∧ r ∉ hostOps3_W := by decide +kernel
  intro r hr
  obtain ⟨h10, h9⟩ := hh r hr
  exact ((W10_of m ρ c r h10).trans ((W9_of m ρ c r h9).trans (keep8 m ρ c r hr)))

/-- Up to point 12 of the run they are as taken. -/
theorem keep12 : ∀ r ∈ kept, W12 m ρ c (Proc.devRef .tc r) = W3 m ρ c (Proc.devRef .tc r) := by
  have hh : ∀ r ∈ kept, (∀ w : Fin cfg4.W, Pipeline.arrRef spec4 w = r → (cfg4.win w).isOut = false) ∧ r ∉ hostOps4_W := by decide +kernel
  intro r hr
  obtain ⟨h12, h11⟩ := hh r hr
  exact ((W12_of m ρ c r h12).trans ((W11_of m ρ c r h11).trans (keep10 m ρ c r hr)))

/-- Up to point 18 of the run they are as taken. -/
theorem keep18 : ∀ r ∈ kept, W18 m ρ c (Proc.devRef .tc r) = W3 m ρ c (Proc.devRef .tc r) := by
  have hh : ∀ r ∈ kept, (∀ w : Fin cfg6.W, Pipeline.arrRef spec6 w = r → (cfg6.win w).isOut = false) ∧ r ∉ hostOps6_2_W ∧ r ∉ hostOps6_1_W ∧ r ∉ hostOps6_W ∧ (∀ w : Fin cfg5.W, Pipeline.arrRef spec5 w = r → (cfg5.win w).isOut = false) ∧ r ∉ hostOps5_W := by decide +kernel
  intro r hr
  obtain ⟨h18, h17, h16, h15, h14, h13⟩ := hh r hr
  exact ((W18_of m ρ c r h18).trans ((W17_of m ρ c r h17).trans ((W16_of m ρ c r h16).trans ((W15_of m ρ c r h15).trans ((W14_of m ρ c r h14).trans ((W13_of m ρ c r h13).trans (keep12 m ρ c r hr)))))))

/-- Call 0 leaves branch 0's rows times its matrix. -/
theorem branch0 : split (W4 m ρ c (Proc.devRef .tc main_v34))
    = branched (m ((c.tc : Thread nD τ).loc main_arg7)) (matrix 0 (matrices (m ((c.tc : Thread nD τ).loc main_arg12)))) :=
  (congrArg split ((W4_arr m ρ c 2).trans ((product0 _ c).trans (congrArg₂ (prod (M := 32768) (K := 256) (N := 1024) (φ₁ := .f32) (φ₂ := .bf16)) (opened_branch (W0 m ρ c)).1
    (opened_branch (W0 m ρ c)).2)))).trans (times_branch _ _)

/-- Branch 0's opened gate. -/
theorem gate0 : W4 m ρ c (Proc.devRef .tc main_v29) = logistic (gate 0 (m ((c.tc : Thread nD τ).loc main_arg11))) :=
  ((keep4 m ρ c main_v29 (by decide)).trans (opened_gates (W0 m ρ c)).1)

/-- The sum of the branches after branch 0. -/
theorem sum1 : W5 m ρ c (Proc.devRef .tc main_v38) = (addf none_yet (part 0 (m ((c.tc : Thread nD τ).loc main_arg11)) (matrices (m ((c.tc : Thread nD τ).loc main_arg12))) (m ((c.tc : Thread nD τ).loc main_arg7)))) := by
  refine (adds0 (W4 m ρ c)).1.trans ?_
  rw [gate0 m ρ c, branch0 m ρ c]

/-- Call 1 leaves branch 1's rows times its matrix. -/
theorem branch1 : split (W6 m ρ c (Proc.devRef .tc main_v49))
    = branched (m ((c.tc : Thread nD τ).loc main_arg8)) (matrix 1 (matrices (m ((c.tc : Thread nD τ).loc main_arg12)))) :=
  (congrArg split ((W6_arr m ρ c 2).trans ((product1 _ c).trans (congrArg₂ (prod (M := 32768) (K := 256) (N := 1024) (φ₁ := .f32) (φ₂ := .bf16)) ((adds0 (W4 m ρ c)).2.2.1.trans (congrArg flat (W4_args m ρ c main_arg8 (by decide))))
    ((adds0 (W4 m ρ c)).2.2.2.trans (congrArg (fun W => narrow (matrix 1 W)) ((keep4 m ρ c main_v17 (by decide)).trans (opened_gates (W0 m ρ c)).2.2.2.2.1))))))).trans (times_branch _ _)

/-- Branch 1's opened gate. -/
theorem gate1 : W6 m ρ c (Proc.devRef .tc main_v44) = logistic (gate 1 (m ((c.tc : Thread nD τ).loc main_arg11))) :=
  ((W6_of m ρ c main_v44 (by decide)).trans ((adds0 (W4 m ρ c)).2.1.trans (congrArg logistic ((keep4 m ρ c main_v21 (by decide)).trans (opened_gates (W0 m ρ c)).2.1))))

/-- The sum of the branches after branch 1. -/
theorem sum2 : W7 m ρ c (Proc.devRef .tc main_v52) = (addf (addf none_yet (part 0 (m ((c.tc : Thread nD τ).loc main_arg11)) (matrices (m ((c.tc : Thread nD τ).loc main_arg12))) (m ((c.tc : Thread nD τ).loc main_arg7)))) (part 1 (m ((c.tc : Thread nD τ).loc main_arg11)) (matrices (m ((c.tc : Thread nD τ).loc main_arg12))) (m ((c.tc : Thread nD τ).loc main_arg8)))) := by
  refine (adds1 (W6 m ρ c)).1.trans ?_
  rw [W6_of m ρ c main_v38 (by decide), sum1 m ρ c, gate1 m ρ c, branch1 m ρ c]

/-- Call 2 leaves branch 2's rows times its matrix. -/
theorem branch2 : split (W8 m ρ c (Proc.devRef .tc main_v63))
    = branched (m ((c.tc : Thread nD τ).loc main_arg9)) (matrix 2 (matrices (m ((c.tc : Thread nD τ).loc main_arg12)))) :=
  (congrArg split ((W8_arr m ρ c 2).trans ((product2 _ c).trans (congrArg₂ (prod (M := 32768) (K := 256) (N := 1024) (φ₁ := .f32) (φ₂ := .bf16)) ((adds1 (W6 m ρ c)).2.2.1.trans (congrArg flat (W6_args m ρ c main_arg9 (by decide))))
    ((adds1 (W6 m ρ c)).2.2.2.trans (congrArg (fun W => narrow (matrix 2 W)) ((keep6 m ρ c main_v17 (by decide)).trans (opened_gates (W0 m ρ c)).2.2.2.2.1))))))).trans (times_branch _ _)

/-- Branch 2's opened gate. -/
theorem gate2 : W8 m ρ c (Proc.devRef .tc main_v58) = logistic (gate 2 (m ((c.tc : Thread nD τ).loc main_arg11))) :=
  ((W8_of m ρ c main_v58 (by decide)).trans ((adds1 (W6 m ρ c)).2.1.trans (congrArg logistic ((keep6 m ρ c main_v22 (by decide)).trans (opened_gates (W0 m ρ c)).2.2.1))))

/-- The sum of the branches after branch 2. -/
theorem sum3 : W9 m ρ c (Proc.devRef .tc main_v66) = (addf (addf (addf none_yet (part 0 (m ((c.tc : Thread nD τ).loc main_arg11)) (matrices (m ((c.tc : Thread nD τ).loc main_arg12))) (m ((c.tc : Thread nD τ).loc main_arg7)))) (part 1 (m ((c.tc : Thread nD τ).loc main_arg11)) (matrices (m ((c.tc : Thread nD τ).loc main_arg12))) (m ((c.tc : Thread nD τ).loc main_arg8)))) (part 2 (m ((c.tc : Thread nD τ).loc main_arg11)) (matrices (m ((c.tc : Thread nD τ).loc main_arg12))) (m ((c.tc : Thread nD τ).loc main_arg9)))) := by
  refine (adds2 (W8 m ρ c)).1.trans ?_
  rw [W8_of m ρ c main_v52 (by decide), sum2 m ρ c, gate2 m ρ c, branch2 m ρ c]

/-- Call 3 leaves branch 3's rows times its matrix. -/
theorem branch3 : split (W10 m ρ c (Proc.devRef .tc main_v77))
    = branched (m ((c.tc : Thread nD τ).loc main_arg10)) (matrix 3 (matrices (m ((c.tc : Thread nD τ).loc main_arg12)))) :=
  (congrArg split ((W10_arr m ρ c 2).trans ((product3 _ c).trans (congrArg₂ (prod (M := 32768) (K := 256) (N := 1024) (φ₁ := .f32) (φ₂ := .bf16)) ((adds2 (W8 m ρ c)).2.2.1.trans (congrArg flat (W8_args m ρ c main_arg10 (by decide))))
    ((adds2 (W8 m ρ c)).2.2.2.trans (congrArg (fun W => narrow (matrix 3 W)) ((keep8 m ρ c main_v17 (by decide)).trans (opened_gates (W0 m ρ c)).2.2.2.2.1))))))).trans (times_branch _ _)

/-- Branch 3's opened gate. -/
theorem gate3 : W10 m ρ c (Proc.devRef .tc main_v72) = logistic (gate 3 (m ((c.tc : Thread nD τ).loc main_arg11))) :=
  ((W10_of m ρ c main_v72 (by decide)).trans ((adds2 (W8 m ρ c)).2.1.trans (congrArg logistic ((keep8 m ρ c main_v23 (by decide)).trans (opened_gates (W0 m ρ c)).2.2.2.1))))

/-- The rows of the sum of the four branches. -/
theorem sum4 : W11 m ρ c (Proc.devRef .tc main_v81) = list (addf (addf (addf (addf none_yet (part 0 (m ((c.tc : Thread nD τ).loc main_arg11)) (matrices (m ((c.tc : Thread nD τ).loc main_arg12))) (m ((c.tc : Thread nD τ).loc main_arg7)))) (part 1 (m ((c.tc : Thread nD τ).loc main_arg11)) (matrices (m ((c.tc : Thread nD τ).loc main_arg12))) (m ((c.tc : Thread nD τ).loc main_arg8)))) (part 2 (m ((c.tc : Thread nD τ).loc main_arg11)) (matrices (m ((c.tc : Thread nD τ).loc main_arg12))) (m ((c.tc : Thread nD τ).loc main_arg9)))) (part 3 (m ((c.tc : Thread nD τ).loc main_arg11)) (matrices (m ((c.tc : Thread nD τ).loc main_arg12))) (m ((c.tc : Thread nD τ).loc main_arg10)))) := by
  refine (adds3 (W10 m ρ c)).1.trans ?_
  rw [W10_of m ρ c main_v66 (by decide), sum3 m ρ c, gate3 m ρ c, branch3 m ρ c]

/-- The sum of the four branches, each at its gate. -/
abbrev branches : FVec Ideal S4x8192x1024 .f32 := (addf (addf (addf (addf none_yet (part 0 (m ((c.tc : Thread nD τ).loc main_arg11)) (matrices (m ((c.tc : Thread nD τ).loc main_arg12))) (m ((c.tc : Thread nD τ).loc main_arg7)))) (part 1 (m ((c.tc : Thread nD τ).loc main_arg11)) (matrices (m ((c.tc : Thread nD τ).loc main_arg12))) (m ((c.tc : Thread nD τ).loc main_arg8)))) (part 2 (m ((c.tc : Thread nD τ).loc main_arg11)) (matrices (m ((c.tc : Thread nD τ).loc main_arg12))) (m ((c.tc : Thread nD τ).loc main_arg9)))) (part 3 (m ((c.tc : Thread nD τ).loc main_arg11)) (matrices (m ((c.tc : Thread nD τ).loc main_arg12))) (m ((c.tc : Thread nD τ).loc main_arg10))))

/-- The layer's input with the merged branches. -/
abbrev rows1 : FVec Ideal S4x8192x1024 .f32 := merged (m ((c.tc : Thread nD τ).loc main_arg0)) (sixth 2 (first (m ((c.tc : Thread nD τ).loc main_arg1)) (m ((c.tc : Thread nD τ).loc main_arg2)) (m ((c.tc : Thread nD τ).loc main_arg3)))) (branches m c) (output (m ((c.tc : Thread nD τ).loc main_arg13)))

/-- The gate and up product of those rows, normed. -/
abbrev widened1 : FVec Ideal S4x8192x5632 .f32 :=
  widened (normed (rows1 m c) (weight0 (m ((c.tc : Thread nD τ).loc main_arg5))) (sixth 3 (first (m ((c.tc : Thread nD τ).loc main_arg1)) (m ((c.tc : Thread nD τ).loc main_arg2)) (m ((c.tc : Thread nD τ).loc main_arg3)))) (sixth 4 (first (m ((c.tc : Thread nD τ).loc main_arg1)) (m ((c.tc : Thread nD τ).loc main_arg2)) (m ((c.tc : Thread nD τ).loc main_arg3)))))
    (ups (m ((c.tc : Thread nD τ).loc main_arg14)))

/-- The rows with the channel mixing added. -/
abbrev rows2 : FVec Ideal S4x8192x1024 .f32 :=
  mixed (rows1 m c) (sixth 5 (first (m ((c.tc : Thread nD τ).loc main_arg1)) (m ((c.tc : Thread nD τ).loc main_arg2)) (m ((c.tc : Thread nD τ).loc main_arg3)))) (widened1 m c) (downs (m ((c.tc : Thread nD τ).loc main_arg15)))

/-- The second layer's projection of those rows, normed. -/
abbrev inputs2 : FVec Ideal S4x8192x6688 .f32 :=
  projected (normed (rows2 m c) (weight1 (m ((c.tc : Thread nD τ).loc main_arg4))) (sixth 0 (second (m ((c.tc : Thread nD τ).loc main_arg1)) (m ((c.tc : Thread nD τ).loc main_arg2)) (m ((c.tc : Thread nD τ).loc main_arg3)))) (sixth 1 (second (m ((c.tc : Thread nD τ).loc main_arg1)) (m ((c.tc : Thread nD τ).loc main_arg2)) (m ((c.tc : Thread nD τ).loc main_arg3))))) (projection (m ((c.tc : Thread nD τ).loc main_arg6)))

/-- Call 4 leaves the sum of the branches times the output matrix. -/
theorem out_product : split (W12 m ρ c (Proc.devRef .tc main_v83))
    = Host.dotGeneral BetweenRefIdeal.dot_S4x8192x1024_S1024x1024_S4x8192x1024_2_0_01_1_n_n none (branches m c) (output (m ((c.tc : Thread nD τ).loc main_arg13))) :=
  (congrArg split ((W12_arr m ρ c 2).trans ((product4 _ c).trans (congrArg₂ (prod (M := 32768) (K := 1024) (N := 1024) (φ₁ := .f32) (φ₂ := .bf16)) (sum4 m ρ c)
    ((adds3 (W10 m ρ c)).2.trans (congrArg (fun W => narrow (s := S1024x1024) W) ((keep10 m ρ c main_v19 (by decide)).trans (opened_gates (W0 m ρ c)).2.2.2.2.2))))))).trans (times_output _ _)

/-- The merged rows, from what call 4 leaves. -/
theorem merged_rows : addf (W12 m ρ c (Proc.devRef .tc main_arg0)) (mulf (spread (W12 m ρ c (Proc.devRef .tc main_v12))) (split (W12 m ρ c (Proc.devRef .tc main_v83)))) = rows1 m c := by
  rw [out_product m ρ c, ((keep12 m ρ c main_v12 (by decide)).trans (opened_modulations (W0 m ρ c)).1), W12_args m ρ c main_arg0 (by decide)]

/-- The layer's rows after the merge. -/
theorem at_merge : W13 m ρ c (Proc.devRef .tc main_v87) = rows1 m c := (merges (W12 m ρ c)).trans (merged_rows m ρ c)

/-- Call 5 leaves the gate and up product. -/
theorem gate_product : shapeCast S4x8192x5632 (W14 m ρ c (Proc.devRef .tc main_v113)) shapeCasts_S32768x5632_S4x8192x5632 = widened1 m c := by
  refine (congrArg (fun p : FVec Ideal S32768x5632 .f32 => shapeCast S4x8192x5632 p shapeCasts_S32768x5632_S4x8192x5632)
    ((W14_arr m ρ c 2).trans ((product5 _ c).trans (congrArg₂ (prod (M := 32768) (K := 1024) (N := 5632) (φ₁ := .f32) (φ₂ := .bf16)) ((takes_up (W12 m ρ c)).1.trans ?_)
      ((takes_up (W12 m ρ c)).2.1.trans (congrArg (fun W : FVec Ideal S1x1024x5632 .f32 => narrow (shapeCast S1024x5632 W shapeCasts_S1x1024x5632_S1024x5632))
        (W12_args m ρ c main_arg14 (by decide)))))))).trans (times_gate _ _)
  rw [merged_rows m ρ c, ((keep12 m ρ c main_v13 (by decide)).trans (opened_modulations (W0 m ρ c)).2.1), ((keep12 m ρ c main_v14 (by decide)).trans (opened_modulations (W0 m ρ c)).2.2.1), W12_args m ρ c main_arg5 (by decide)]

/-- The down weights the lines before call 5 took. -/
theorem down_weights : W14 m ρ c (Proc.devRef .tc main_v110) = downs (m ((c.tc : Thread nD τ).loc main_arg15)) :=
  (W14_of m ρ c main_v110 (by decide)).trans ((takes_up (W12 m ρ c)).2.2.trans
    (congrArg (fun W : FVec Ideal S1x2816x1024 .f32 => shapeCast S2816x1024 W shapeCasts_S1x2816x1024_S2816x1024)
      (W12_args m ρ c main_arg15 (by decide))))

/-- Call 6 leaves the down product of the gated rows. -/
theorem down_product : split (W18 m ρ c (Proc.devRef .tc main_v121))
    = lowered (gated (widened1 m c))
      (downs (m ((c.tc : Thread nD τ).loc main_arg15))) :=
  (congrArg split ((W18_arr m ρ c 2).trans ((product6 _ c).trans (congrArg₂ (prod (M := 32768) (K := 2816) (N := 1024) (φ₁ := .f32) (φ₂ := .bf16))
    ((takes_down (W14 m ρ c)).1.trans (congrArg (fun p => shapeCast S32768x2816 (gated p) shapeCasts_S4x8192x2816_S32768x2816) (gate_product m ρ c)))
    ((takes_down (W14 m ρ c)).2.trans (congrArg (fun W => narrow (s := S2816x1024) W) (down_weights m ρ c))))))).trans (times_down _ _)

/-- The layer's rows are as after the merge when the channel mixing is added to them. -/
theorem rows_kept : W18 m ρ c (Proc.devRef .tc main_v87) = rows1 m c :=
  (W18_of m ρ c main_v87 (by decide)).trans ((W17_of m ρ c main_v87 (by decide)).trans ((W16_of m ρ c main_v87 (by decide)).trans
    ((W15_of m ρ c main_v87 (by decide)).trans ((W14_of m ρ c main_v87 (by decide)).trans (at_merge m ρ c)))))

/-- The mixed rows, from what call 6 leaves. -/
theorem mixed_rows : addf (W18 m ρ c (Proc.devRef .tc main_v87)) (mulf (spread (W18 m ρ c (Proc.devRef .tc main_v15))) (split (W18 m ρ c (Proc.devRef .tc main_v121)))) = rows2 m c := by
  rw [down_product m ρ c, ((keep18 m ρ c main_v15 (by decide)).trans (opened_modulations (W0 m ρ c)).2.2.2), rows_kept m ρ c]

/-- Call 7 leaves the projection. -/
theorem cols_product : columns (W22 m ρ c (Proc.devRef .tc main_v167)) = inputs2 m c := by
  refine (congrArg columns ((W22_arr m ρ c 2).trans ((product7 _ c).trans (congrArg₂ (prod (M := 32768) (K := 1024) (N := 6688) (φ₁ := .f32) (φ₂ := .bf16)) ((takes_cols (W18 m ρ c)).1.trans ?_)
    ((takes_cols (W18 m ρ c)).2.trans (congrArg (fun W => narrow (projection W)) (W18_args m ρ c main_arg6 (by decide)))))))).trans (times_cols _ _)
  rw [mixed_rows m ρ c, W18_args m ρ c main_arg1 (by decide), W18_args m ρ c main_arg2 (by decide), W18_args m ρ c main_arg3 (by decide),
    W18_args m ρ c main_arg4 (by decide)]

/-- The first result at the end of the run. -/
theorem rows_end : W23 m ρ c (Proc.devRef .tc main_v125) = rows2 m c :=
  (W23_of m ρ c main_v125 (by decide)).trans ((W22_of m ρ c main_v125 (by decide)).trans ((leaves (W18 m ρ c)).trans (mixed_rows m ρ c)))

end Cert.BetweenIdeal.Parts

end
-- ==== Proof.BetweenRun.lean ====
module

public import proofs.«01_k».proof.Proof.Gen.BetweenIdeal.Frame

@[expose] public section

set_option maxRecDepth 16384

noncomputable section

namespace Cert.BetweenIdeal.Parts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BetweenIdeal.Gen

/-! # The run of the program between the branches of the first layer and those of the second -/

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends, and then every buffer it was launched with holds the contents `W23` gives: what the host
operations and the calls leave, one after the other. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W23 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun _ h _ => h)

end Cert.BetweenIdeal.Parts

end
-- ==== Proof.BetweenValue.lean ====
module

public import proofs.«01_k».proof.Defs
public import proofs.«01_k».proof.Proof.BetweenSteps
public import proofs.«01_k».proof.Proof.BetweenRun
public import proofs.«01_k».proof.Proof.Gen.BetweenRefIdeal.Run
public import Idealize.ShloMosaic.Lib.Claim

/-!
From the branches of the first layer to the inputs of the second, at exact values: the program with tiled products computes what the
plain one computes.
-/

@[expose] public section

set_option maxRecDepth 16384

noncomputable section

namespace Cert.BetweenIdeal.Parts

open Idealize.ShloMosaic Idealize.ShloMosaic.TcCoe Idealize.SL.Sem Cert.BetweenIdeal.Gen Cert.Products
open Idealize.ShloMosaic.StableHlo
open BetweenRefIdeal.Value (res_main_v9 res_main_v17 res_main_v72 res_main_v96 res_main_v97 res_main_v104 res_main_v114 res_main_v144)

/-- Columns `b` to `b + n` of the projection. -/
abbrev cut (n b : ℕ) (h : S4x8192x6688.Slices ![0, 0, b] ⟨3, ![4, 8192, n]⟩) (p : FVec Ideal S4x8192x6688 .f32) :
    FVec Ideal ⟨3, ![4, 8192, n]⟩ .f32 := extractStridedSlice ⟨3, ![4, 8192, n]⟩ ![0, 0, b] p h

/-- Two arrays of one shape that are equal. -/
abbrev same (s : Shape) (a b : FVec Ideal s .f32) : Prop := a = b

/-- An array equal to one that is equal to a third is equal to the third. -/
theorem both (s : Shape) {a b c : FVec Ideal s .f32} (h : same s a b) (h' : same s b c) : same s a c := h.trans h'

variable (m : (ℓ : Loc nD τ sig) → Buf (Elt Ideal) ℓ) (ρ : Dev nD → PrngReg) (c : Dev nD)
  (R : Valuation BetweenRefIdeal.τ BetweenRefIdeal.sig (Elt Ideal))

/-- The reference's arguments in `R` are the program's in `m`, on device `c`. -/
abbrev Agree : Prop :=
  same S4x8192x1024 (R (Proc.devRef .tc BetweenRefIdeal.main_arg0)) (m ((c.tc : Thread nD τ).loc main_arg0))
  ∧ same S4x1024 (R (Proc.devRef .tc BetweenRefIdeal.main_arg1)) (m ((c.tc : Thread nD τ).loc main_arg1))
  ∧ same S2x1024x6144 (R (Proc.devRef .tc BetweenRefIdeal.main_arg2)) (m ((c.tc : Thread nD τ).loc main_arg2))
  ∧ same S2x6144 (R (Proc.devRef .tc BetweenRefIdeal.main_arg3)) (m ((c.tc : Thread nD τ).loc main_arg3))
  ∧ same S2x1024 (R (Proc.devRef .tc BetweenRefIdeal.main_arg4)) (m ((c.tc : Thread nD τ).loc main_arg4))
  ∧ same S2x1024 (R (Proc.devRef .tc BetweenRefIdeal.main_arg5)) (m ((c.tc : Thread nD τ).loc main_arg5))
  ∧ same S2x1024x6688 (R (Proc.devRef .tc BetweenRefIdeal.main_arg6)) (m ((c.tc : Thread nD τ).loc main_arg6))
  ∧ same S4x8192x256 (R (Proc.devRef .tc BetweenRefIdeal.main_arg7)) (m ((c.tc : Thread nD τ).loc main_arg7))
  ∧ same S4x8192x256 (R (Proc.devRef .tc BetweenRefIdeal.main_arg8)) (m ((c.tc : Thread nD τ).loc main_arg8))
  ∧ same S4x8192x256 (R (Proc.devRef .tc BetweenRefIdeal.main_arg9)) (m ((c.tc : Thread nD τ).loc main_arg9))
  ∧ same S4x8192x256 (R (Proc.devRef .tc BetweenRefIdeal.main_arg10)) (m ((c.tc : Thread nD τ).loc main_arg10))
  ∧ same S4x8192x4096 (R (Proc.devRef .tc BetweenRefIdeal.main_arg11)) (m ((c.tc : Thread nD τ).loc main_arg11))
  ∧ same S2x4x256x1024 (R (Proc.devRef .tc BetweenRefIdeal.main_arg12)) (m ((c.tc : Thread nD τ).loc main_arg12))
  ∧ same S2x1024x1024 (R (Proc.devRef .tc BetweenRefIdeal.main_arg13)) (m ((c.tc : Thread nD τ).loc main_arg13))
  ∧ same S1x1024x5632 (R (Proc.devRef .tc BetweenRefIdeal.main_arg14)) (m ((c.tc : Thread nD τ).loc main_arg14))
  ∧ same S1x2816x1024 (R (Proc.devRef .tc BetweenRefIdeal.main_arg15)) (m ((c.tc : Thread nD τ).loc main_arg15))

variable (h : Agree m c R)
include h

/-- The reference's modulations of the first layer. -/
theorem ref_first : res_main_v9 R = first (m ((c.tc : Thread nD τ).loc main_arg1)) (m ((c.tc : Thread nD τ).loc main_arg2))
    (m ((c.tc : Thread nD τ).loc main_arg3)) := by
  obtain ⟨h0, h1, h2, h3, h4, h5, h6, h7, h8, h9, h10, h11, h12, h13, h14, h15⟩ := h
  unfold res_main_v9
  rw [h1, h2, h3]
  rfl

/-- The reference's modulations of the second layer. -/
theorem ref_second : res_main_v114 R = second (m ((c.tc : Thread nD τ).loc main_arg1)) (m ((c.tc : Thread nD τ).loc main_arg2))
    (m ((c.tc : Thread nD τ).loc main_arg3)) := by
  obtain ⟨h0, h1, h2, h3, h4, h5, h6, h7, h8, h9, h10, h11, h12, h13, h14, h15⟩ := h
  unfold res_main_v114
  rw [h1, h2, h3]
  rfl

/-- The reference's rows after the merge. -/
theorem ref_merged : res_main_v72 R = rows1 m c := by
  have hm := ref_first m c R h
  obtain ⟨h0, h1, h2, h3, h4, h5, h6, h7, h8, h9, h10, h11, h12, h13, h14, h15⟩ := h
  unfold res_main_v72 res_main_v17
  rw [hm, h0, h7, h8, h9, h10, h11, h12, h13]
  rfl

/-- The reference's gate and up product. -/
theorem ref_widened : res_main_v96 R = widened1 m c := by
  have hm := ref_first m c R h
  have hx := ref_merged m c R h
  obtain ⟨h0, h1, h2, h3, h4, h5, h6, h7, h8, h9, h10, h11, h12, h13, h14, h15⟩ := h
  unfold res_main_v96
  rw [hm, hx, h5, h14]
  rfl

/-- The reference's rows after the channel mixing. -/
theorem ref_mixed : res_main_v104 R = rows2 m c := by
  have hm := ref_first m c R h
  have hx := ref_merged m c R h
  have hp := ref_widened m c R h
  obtain ⟨h0, h1, h2, h3, h4, h5, h6, h7, h8, h9, h10, h11, h12, h13, h14, h15⟩ := h
  unfold res_main_v104 res_main_v97
  rw [hm, hx, hp, h15]
  rfl

/-- The reference's projection for the second layer. -/
theorem ref_inputs : res_main_v144 R = inputs2 m c := by
  have hm := ref_second m c R h
  have hx := ref_mixed m c R h
  obtain ⟨h0, h1, h2, h3, h4, h5, h6, h7, h8, h9, h10, h11, h12, h13, h14, h15⟩ := h
  unfold res_main_v144
  rw [hm, hx, h4, h6]
  rfl

end Cert.BetweenIdeal.Parts

namespace Cert.Proof

open Idealize.ShloMosaic Idealize.ShloMosaic.TcCoe Idealize.SL.Sem

/-- From arguments that agree, the stretch with tiled products and the plain one end with the same results, at exact values. -/
theorem between_agrees : Cert.algebraic_BetweenIdeal_BetweenRefIdeal := by
  intro m ρ m' ρ' _ hagree
  have ha : ∀ c, BetweenIdeal.Parts.Agree m c (StableHlo.launchContents m' c) := fun c => by
    obtain ⟨h0, h1, h2, h3, h4, h5, h6, h7, h8, h9, h10, h11, h12, h13, h14, h15⟩ := hagree c
    exact ⟨h0, h1, h2, h3, h4, h5, h6, h7, h8, h9, h10, h11, h12, h13, h14, h15⟩
  refine ⟨fun c => BetweenIdeal.Parts.rows2 m c,
    fun c => BetweenIdeal.Parts.cut 256 0 BetweenIdeal.Gen.slices_S4x8192x6688_S4x8192x256_0_0_0 (BetweenIdeal.Parts.inputs2 m c),
    fun c => BetweenIdeal.Parts.cut 256 256 BetweenIdeal.Gen.slices_S4x8192x6688_S4x8192x256_0_0_256 (BetweenIdeal.Parts.inputs2 m c),
    fun c => BetweenIdeal.Parts.cut 256 512 BetweenIdeal.Gen.slices_S4x8192x6688_S4x8192x256_0_0_512 (BetweenIdeal.Parts.inputs2 m c),
    fun c => BetweenIdeal.Parts.cut 256 768 BetweenIdeal.Gen.slices_S4x8192x6688_S4x8192x256_0_0_768 (BetweenIdeal.Parts.inputs2 m c),
    fun c => BetweenIdeal.Parts.cut 32 1024 BetweenIdeal.Gen.slices_S4x8192x6688_S4x8192x32_0_0_1024 (BetweenIdeal.Parts.inputs2 m c),
    fun c => BetweenIdeal.Parts.cut 256 1056 BetweenIdeal.Gen.slices_S4x8192x6688_S4x8192x256_0_0_1056 (BetweenIdeal.Parts.inputs2 m c),
    fun c => BetweenIdeal.Parts.cut 768 1312 BetweenIdeal.Gen.slices_S4x8192x6688_S4x8192x768_0_0_1312 (BetweenIdeal.Parts.inputs2 m c),
    fun c => BetweenIdeal.Parts.cut 256 2080 BetweenIdeal.Gen.slices_S4x8192x6688_S4x8192x256_0_0_2080 (BetweenIdeal.Parts.inputs2 m c),
    fun c => BetweenIdeal.Parts.cut 256 2336 BetweenIdeal.Gen.slices_S4x8192x6688_S4x8192x256_0_0_2336 (BetweenIdeal.Parts.inputs2 m c),
    fun c => BetweenIdeal.Parts.cut 4096 2592 BetweenIdeal.Gen.slices_S4x8192x6688_S4x8192x4096_0_0_2592 (BetweenIdeal.Parts.inputs2 m c), ?_, ?_⟩
  · refine (θ_run _ _ _).mono (fun _ h c => ?_)
      (θ_run_and (BetweenIdeal.Parts.run_all (F := Ideal) m ρ) (BetweenIdeal.Gen.frame (F := Ideal) m ρ))
    exact ⟨BetweenIdeal.Parts.both BetweenIdeal.S4x8192x1024 (h.1 c _ (BetweenIdeal.Gen.mem_uc BetweenIdeal.main_v125 (by decide))) (BetweenIdeal.Parts.rows_end m ρ c),
      BetweenIdeal.Parts.both BetweenIdeal.S4x8192x256 (h.1 c _ (BetweenIdeal.Gen.mem_uc BetweenIdeal.main_v169 (by decide)))
        (BetweenIdeal.Parts.both BetweenIdeal.S4x8192x256 (BetweenIdeal.Parts.columns_of (BetweenIdeal.Gen.W22 m ρ c)).1 (congrArg (BetweenIdeal.Parts.cut 256 0 BetweenIdeal.Gen.slices_S4x8192x6688_S4x8192x256_0_0_0) (BetweenIdeal.Parts.cols_product m ρ c))),
      BetweenIdeal.Parts.both BetweenIdeal.S4x8192x256 (h.1 c _ (BetweenIdeal.Gen.mem_uc BetweenIdeal.main_v170 (by decide)))
        (BetweenIdeal.Parts.both BetweenIdeal.S4x8192x256 (BetweenIdeal.Parts.columns_of (BetweenIdeal.Gen.W22 m ρ c)).2.1 (congrArg (BetweenIdeal.Parts.cut 256 256 BetweenIdeal.Gen.slices_S4x8192x6688_S4x8192x256_0_0_256) (BetweenIdeal.Parts.cols_product m ρ c))),
      BetweenIdeal.Parts.both BetweenIdeal.S4x8192x256 (h.1 c _ (BetweenIdeal.Gen.mem_uc BetweenIdeal.main_v171 (by decide)))
        (BetweenIdeal.Parts.both BetweenIdeal.S4x8192x256 (BetweenIdeal.Parts.columns_of (BetweenIdeal.Gen.W22 m ρ c)).2.2.1 (congrArg (BetweenIdeal.Parts.cut 256 512 BetweenIdeal.Gen.slices_S4x8192x6688_S4x8192x256_0_0_512) (BetweenIdeal.Parts.cols_product m ρ c))),
      BetweenIdeal.Parts.both BetweenIdeal.S4x8192x256 (h.1 c _ (BetweenIdeal.Gen.mem_uc BetweenIdeal.main_v172 (by decide)))
        (BetweenIdeal.Parts.both BetweenIdeal.S4x8192x256 (BetweenIdeal.Parts.columns_of (BetweenIdeal.Gen.W22 m ρ c)).2.2.2.1 (congrArg (BetweenIdeal.Parts.cut 256 768 BetweenIdeal.Gen.slices_S4x8192x6688_S4x8192x256_0_0_768) (BetweenIdeal.Parts.cols_product m ρ c))),
      BetweenIdeal.Parts.both BetweenIdeal.S4x8192x32 (h.1 c _ (BetweenIdeal.Gen.mem_uc BetweenIdeal.main_v173 (by decide)))
        (BetweenIdeal.Parts.both BetweenIdeal.S4x8192x32 (BetweenIdeal.Parts.columns_of (BetweenIdeal.Gen.W22 m ρ c)).2.2.2.2.1 (congrArg (BetweenIdeal.Parts.cut 32 1024 BetweenIdeal.Gen.slices_S4x8192x6688_S4x8192x32_0_0_1024) (BetweenIdeal.Parts.cols_product m ρ c))),
      BetweenIdeal.Parts.both BetweenIdeal.S4x8192x256 (h.1 c _ (BetweenIdeal.Gen.mem_uc BetweenIdeal.main_v174 (by decide)))
        (BetweenIdeal.Parts.both BetweenIdeal.S4x8192x256 (BetweenIdeal.Parts.columns_of (BetweenIdeal.Gen.W22 m ρ c)).2.2.2.2.2.1 (congrArg (BetweenIdeal.Parts.cut 256 1056 BetweenIdeal.Gen.slices_S4x8192x6688_S4x8192x256_0_0_1056) (BetweenIdeal.Parts.cols_product m ρ c))),
      BetweenIdeal.Parts.both BetweenIdeal.S4x8192x768 (h.1 c _ (BetweenIdeal.Gen.mem_uc BetweenIdeal.main_v175 (by decide)))
        (BetweenIdeal.Parts.both BetweenIdeal.S4x8192x768 (BetweenIdeal.Parts.columns_of (BetweenIdeal.Gen.W22 m ρ c)).2.2.2.2.2.2.1 (congrArg (BetweenIdeal.Parts.cut 768 1312 BetweenIdeal.Gen.slices_S4x8192x6688_S4x8192x768_0_0_1312) (BetweenIdeal.Parts.cols_product m ρ c))),
      BetweenIdeal.Parts.both BetweenIdeal.S4x8192x256 (h.1 c _ (BetweenIdeal.Gen.mem_uc BetweenIdeal.main_v176 (by decide)))
        (BetweenIdeal.Parts.both BetweenIdeal.S4x8192x256 (BetweenIdeal.Parts.columns_of (BetweenIdeal.Gen.W22 m ρ c)).2.2.2.2.2.2.2.1 (congrArg (BetweenIdeal.Parts.cut 256 2080 BetweenIdeal.Gen.slices_S4x8192x6688_S4x8192x256_0_0_2080) (BetweenIdeal.Parts.cols_product m ρ c))),
      BetweenIdeal.Parts.both BetweenIdeal.S4x8192x256 (h.1 c _ (BetweenIdeal.Gen.mem_uc BetweenIdeal.main_v177 (by decide)))
        (BetweenIdeal.Parts.both BetweenIdeal.S4x8192x256 (BetweenIdeal.Parts.columns_of (BetweenIdeal.Gen.W22 m ρ c)).2.2.2.2.2.2.2.2.1 (congrArg (BetweenIdeal.Parts.cut 256 2336 BetweenIdeal.Gen.slices_S4x8192x6688_S4x8192x256_0_0_2336) (BetweenIdeal.Parts.cols_product m ρ c))),
      BetweenIdeal.Parts.both BetweenIdeal.S4x8192x4096 (h.1 c _ (BetweenIdeal.Gen.mem_uc BetweenIdeal.main_v178 (by decide)))
        (BetweenIdeal.Parts.both BetweenIdeal.S4x8192x4096 (BetweenIdeal.Parts.columns_of (BetweenIdeal.Gen.W22 m ρ c)).2.2.2.2.2.2.2.2.2 (congrArg (BetweenIdeal.Parts.cut 4096 2592 BetweenIdeal.Gen.slices_S4x8192x6688_S4x8192x4096_0_0_2592) (BetweenIdeal.Parts.cols_product m ρ c))),
      h.2.1 c⟩
  · refine (θ_run _ _ _).mono (fun _ h c => ?_) (BetweenRefIdeal.Value.run (F := Ideal) m' ρ')
    exact ⟨BetweenIdeal.Parts.both BetweenIdeal.S4x8192x1024 (h c).1 (BetweenIdeal.Parts.ref_mixed m c _ (ha c)),
      BetweenIdeal.Parts.both BetweenIdeal.S4x8192x256 (h c).2.1 (congrArg (BetweenIdeal.Parts.cut 256 0 BetweenIdeal.Gen.slices_S4x8192x6688_S4x8192x256_0_0_0) (BetweenIdeal.Parts.ref_inputs m c _ (ha c))),
      BetweenIdeal.Parts.both BetweenIdeal.S4x8192x256 (h c).2.2.1 (congrArg (BetweenIdeal.Parts.cut 256 256 BetweenIdeal.Gen.slices_S4x8192x6688_S4x8192x256_0_0_256) (BetweenIdeal.Parts.ref_inputs m c _ (ha c))),
      BetweenIdeal.Parts.both BetweenIdeal.S4x8192x256 (h c).2.2.2.1 (congrArg (BetweenIdeal.Parts.cut 256 512 BetweenIdeal.Gen.slices_S4x8192x6688_S4x8192x256_0_0_512) (BetweenIdeal.Parts.ref_inputs m c _ (ha c))),
      BetweenIdeal.Parts.both BetweenIdeal.S4x8192x256 (h c).2.2.2.2.1 (congrArg (BetweenIdeal.Parts.cut 256 768 BetweenIdeal.Gen.slices_S4x8192x6688_S4x8192x256_0_0_768) (BetweenIdeal.Parts.ref_inputs m c _ (ha c))),
      BetweenIdeal.Parts.both BetweenIdeal.S4x8192x32 (h c).2.2.2.2.2.1 (congrArg (BetweenIdeal.Parts.cut 32 1024 BetweenIdeal.Gen.slices_S4x8192x6688_S4x8192x32_0_0_1024) (BetweenIdeal.Parts.ref_inputs m c _ (ha c))),
      BetweenIdeal.Parts.both BetweenIdeal.S4x8192x256 (h c).2.2.2.2.2.2.1 (congrArg (BetweenIdeal.Parts.cut 256 1056 BetweenIdeal.Gen.slices_S4x8192x6688_S4x8192x256_0_0_1056) (BetweenIdeal.Parts.ref_inputs m c _ (ha c))),
      BetweenIdeal.Parts.both BetweenIdeal.S4x8192x768 (h c).2.2.2.2.2.2.2.1 (congrArg (BetweenIdeal.Parts.cut 768 1312 BetweenIdeal.Gen.slices_S4x8192x6688_S4x8192x768_0_0_1312) (BetweenIdeal.Parts.ref_inputs m c _ (ha c))),
      BetweenIdeal.Parts.both BetweenIdeal.S4x8192x256 (h c).2.2.2.2.2.2.2.2.1 (congrArg (BetweenIdeal.Parts.cut 256 2080 BetweenIdeal.Gen.slices_S4x8192x6688_S4x8192x256_0_0_2080) (BetweenIdeal.Parts.ref_inputs m c _ (ha c))),
      BetweenIdeal.Parts.both BetweenIdeal.S4x8192x256 (h c).2.2.2.2.2.2.2.2.2.1 (congrArg (BetweenIdeal.Parts.cut 256 2336 BetweenIdeal.Gen.slices_S4x8192x6688_S4x8192x256_0_0_2336) (BetweenIdeal.Parts.ref_inputs m c _ (ha c))),
      BetweenIdeal.Parts.both BetweenIdeal.S4x8192x4096 (h c).2.2.2.2.2.2.2.2.2.2.1 (congrArg (BetweenIdeal.Parts.cut 4096 2592 BetweenIdeal.Gen.slices_S4x8192x6688_S4x8192x4096_0_0_2592) (BetweenIdeal.Parts.ref_inputs m c _ (ha c))),
      (h c).2.2.2.2.2.2.2.2.2.2.2⟩

end Cert.Proof

end
-- ==== Proof.StartRun.lean ====
module

public import proofs.«01_k».proof.Proof.Gen.StartIdeal.Frame

@[expose] public section

set_option maxRecDepth 16384

noncomputable section

namespace Cert.StartIdeal.Parts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.StartIdeal.Gen

/-! # The run of the program from the arguments to the projections of the first layer -/

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends, and then every buffer it was launched with holds the contents `W9` gives: what the host
operations and the calls leave, one after the other. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

end Cert.StartIdeal.Parts

end
-- ==== Proof.StartTiles.lean ====
module

public import proofs.«01_k».proof.Proof.Gen.StartIdeal.Frame
public import proofs.«01_k».proof.Proof.Products
public import Idealize.ShloMosaic.Lib.Pipeline.ValueKit

/-!
What the two projections of the first layer leave: one for the 32768 latent tokens, one for the 1024 context tokens.

Both go block by block over rows of the same size and have the same body.
-/

@[expose] public section

set_option maxRecDepth 16384

noncomputable section

namespace Cert.StartIdeal.Parts

open Idealize.ShloMosaic Idealize.ShloMosaic.TcCoe Cert.StartIdeal.Gen Cert.Products
open Idealize.ShloMosaic.Pipeline (Dat Cfg Window)

/-- What the body of either projection stores: one tile. -/
theorem start_out (x : Vec Ideal S512x1024 .f32) (w : Vec Ideal S1024x6688 .bf16) :
    out0_2 x w = tile (m := 512) (K := 1024) (n := 6688) x w := by
  unfold out0_2 k0_pay1
  rw [View.canon_cons_unit_lit _ _ _ (by decide), View.ld_unit_lit _ _ (by decide), View.ld_unit_lit _ _ (by decide), shapeCast_self,
    shapeCast_self]
  rfl

/-- The blocks of the latent projection: which rows and columns point `t` takes. -/
theorem latent_blocks : ∀ t : Fin cfg0.N, win0_0.index t = ![t.val, 0] ∧ win0_1.index t = ![0, 0]
    ∧ win0_2.index t = ![t.val, 0] := by decide +kernel

/-- The blocks of the context projection: which rows and columns point `t` takes. -/
theorem context_blocks : ∀ t : Fin cfg1.N, win1_0.index t = ![t.val, 0] ∧ win1_1.index t = ![0, 0]
    ∧ win1_2.index t = ![t.val, 0] := by decide +kernel

/-- A tile of the latent projection is the block of the whole product at its place. -/
theorem latent_tile (X : FVec Ideal ⟨2, ![32768, 1024]⟩ .f32) (W : FVec Ideal ⟨2, ![1024, 6688]⟩ .bf16) (t : Fin cfg0.N)
    (y : (⟨2, ![512, 6688]⟩ : Shape).Idx) :
    out0_2 (F := Ideal) (fun a => X (((cfg0.win 0).blk t).view.emb a)) (fun a => W (((cfg0.win 1).blk t).view.emb a)) y
      = prod X W (((cfg0.win 2).blk t).view.emb y) := by
  obtain ⟨e0, e1, e2⟩ := latent_blocks t
  refine (congrFun (start_out _ _) y).trans ?_
  refine tile_prod none X W _ _ ((cfg0.win 0).blk t).view.emb ((cfg0.win 1).blk t).view.emb
    ((cfg0.win 2).blk t).view.emb (t.val * 512) 0 (fun _ => rfl) (fun _ => rfl) ?_ ?_ ?_ ?_ ?_ ?_ y
  all_goals
    intro a
    blk_simp [e0, e1, e2]

/-- A tile of the context projection is the block of the whole product at its place. -/
theorem context_tile (X : FVec Ideal ⟨2, ![1024, 1024]⟩ .f32) (W : FVec Ideal ⟨2, ![1024, 6688]⟩ .bf16) (t : Fin cfg1.N)
    (y : (⟨2, ![512, 6688]⟩ : Shape).Idx) :
    out1_2 (F := Ideal) (fun a => X (((cfg1.win 0).blk t).view.emb a)) (fun a => W (((cfg1.win 1).blk t).view.emb a)) y
      = prod X W (((cfg1.win 2).blk t).view.emb y) := by
  obtain ⟨e0, e1, e2⟩ := context_blocks t
  refine (congrFun (start_out _ _) y).trans ?_
  refine tile_prod none X W _ _ ((cfg1.win 0).blk t).view.emb ((cfg1.win 1).blk t).view.emb
    ((cfg1.win 2).blk t).view.emb (t.val * 512) 0 (fun _ => rfl) (fun _ => rfl) ?_ ?_ ?_ ?_ ?_ ?_ y
  all_goals
    intro a
    blk_simp [e0, e1, e2]

variable (V : (c : Dev nD) → (b : Ref sig .tc) → Buf (Elt Ideal) ((c : Thread nD τ).loc b)) (c : Dev nD)

/-- Call 0 leaves the product of the latent tokens' rows with the projection matrix. -/
theorem product0 : (dat0 V c).arrAt 2 cfg0.N = prod (φ₁ := .f32) (φ₂ := .bf16) (V c main_v108) (V c main_v109) :=
  (dat0 V c).arrAt_eq_of_covers 2 _ (by decide +kernel) fun t _ y =>
    (congrFun (after0_2 V c t) y).trans (latent_tile (V c main_v108) (V c main_v109) t y)

/-- Call 1 leaves the product of the context tokens' rows with the projection matrix. -/
theorem product1 : (dat1 V c).arrAt 2 cfg1.N = prod (φ₁ := .f32) (φ₂ := .bf16) (V c main_v114) (V c main_v115) :=
  (dat1 V c).arrAt_eq_of_covers 2 _ (by decide +kernel) fun t _ y =>
    (congrFun (after1_2 V c t) y).trans (context_tile (V c main_v114) (V c main_v115) t y)

end Cert.StartIdeal.Parts

end
-- ==== Proof.StartTerms.lean ====
module

public import proofs.«01_k».proof.Proof.BetweenTerms
public import proofs.«01_k».proof.Proof.Gen.StartIdeal.Frame
public import proofs.«01_k».proof.Proof.Gen.StartRefIdeal

/-!
The results of the start of the model, as functions of its arguments: the latent tokens with their position embedding, and the
projections of the normed latent and context tokens for the first layer.

The modulations, the norm and the products of the latent tokens are those of the stretch between the layers.
-/

@[expose] public section

set_option maxRecDepth 16384

noncomputable section

namespace Cert.StartIdeal.Parts

open Idealize.ShloMosaic Idealize.ShloMosaic.TcCoe Cert.StartIdeal.Gen Cert.Products
open Cert.BetweenIdeal.Parts (first sixth normed weight0 narrow list times_cols)

/-- The 256 frequencies of the position embedding. -/
abbrev frequencies : FVec Ideal S256 .f32 :=
  Host.divf (broadcastInDim S256 ![] bcast_S_S256 (constant S_ .f32 0x3F800000#32))
    (Host.powf (broadcastInDim S256 ![] bcast_S_S256 (constant S_ .f32 0x461C4000#32))
      (Host.divf (sitofp .f32 (iotaInDim S256 32 0)) (broadcastInDim S256 ![] bcast_S_S256 (constant S_ .f32 0x43800000#32))))

/-- The angles of the 128 rows of the grid of tokens. -/
abbrev down_angles : FVec Ideal S128x256 .f32 :=
  mulf (broadcastInDim S128x256 ![0, 1] bcast_S128x1_S128x256_0_1 (broadcastInDim S128x1 ![0] bcast_S128_S128x1_0 (sitofp .f32 (iotaInDim S128 32 0))))
    (broadcastInDim S128x256 ![0, 1] bcast_S1x256_S128x256_0_1 (broadcastInDim S1x256 ![1] bcast_S256_S1x256_1 frequencies))

/-- The angles of the 64 columns of the grid of tokens. -/
abbrev across_angles : FVec Ideal S64x256 .f32 :=
  mulf (broadcastInDim S64x256 ![0, 1] bcast_S64x1_S64x256_0_1 (broadcastInDim S64x1 ![0] bcast_S64_S64x1_0 (sitofp .f32 (iotaInDim S64 32 0))))
    (broadcastInDim S64x256 ![0, 1] bcast_S1x256_S64x256_0_1 (broadcastInDim S1x256 ![1] bcast_S256_S1x256_1 frequencies))

/-- The half of the embedding that tells the row of a token: sines, then cosines. -/
abbrev down_half : FVec Ideal S128x64x512 .f32 :=
  broadcastInDim S128x64x512 ![0, 1, 2] bcast_S128x1x512_S128x64x512_0_1_2 (broadcastInDim S128x1x512 ![0, 2] bcast_S128x512_S128x1x512_0_2
    (concatenate S128x512 1 [⟨S128x256, Host.sin down_angles⟩, ⟨S128x256, Host.cos down_angles⟩] concatenates_S128x256_S128x256_S128x512_d1))

/-- The half of the embedding that tells the column of a token: sines, then cosines. -/
abbrev across_half : FVec Ideal S128x64x512 .f32 :=
  broadcastInDim S128x64x512 ![0, 1, 2] bcast_S1x64x512_S128x64x512_0_1_2 (broadcastInDim S1x64x512 ![1, 2] bcast_S64x512_S1x64x512_1_2
    (concatenate S64x512 1 [⟨S64x256, Host.sin across_angles⟩, ⟨S64x256, Host.cos across_angles⟩] concatenates_S64x256_S64x256_S64x512_d1))

/-- The position embedding of the 8192 latent tokens, the same for each of the four batches. -/
abbrev positions : FVec Ideal S4x8192x1024 .f32 :=
  broadcastInDim S4x8192x1024 ![0, 1, 2] bcast_S1x8192x1024_S4x8192x1024_0_1_2 (broadcastInDim S1x8192x1024 ![1, 2] bcast_S8192x1024_S1x8192x1024_1_2
    (shapeCast S8192x1024 (concatenate S128x64x1024 2 [⟨S128x64x512, down_half⟩, ⟨S128x64x512, across_half⟩]
      concatenates_S128x64x512_S128x64x512_S128x64x1024_d2) shapeCasts_S128x64x1024_S8192x1024))

/-- The latent tokens with their position embedding. -/
def placed (x : FVec Ideal S4x8192x1024 .f32) : FVec Ideal S4x8192x1024 .f32 := addf x positions

/-- The first layer's projection matrix. -/
abbrev projection0 (W : FVec Ideal S2x1024x6688 .f32) : FVec Ideal S1024x6688 .f32 :=
  shapeCast S1024x6688 (extractStridedSlice S1x1024x6688 ![0, 0, 0] W slices_S2x1024x6688_S1x1024x6688_0_0_0)
    shapeCasts_S1x1024x6688_S1024x6688

/-- The first layer's matrix of modulations. -/
abbrev shifts (W : FVec Ideal S2x1024x6144 .f32) : FVec Ideal S1024x6144 .f32 :=
  shapeCast S1024x6144 (extractStridedSlice S1x1024x6144 ![0, 0, 0] W slices_S2x1024x6144_S1x1024x6144_0_0_0)
    shapeCasts_S1x1024x6144_S1024x6144

/-- The first layer's bias of modulations. -/
abbrev biases (b : FVec Ideal S2x6144 .f32) : FVec Ideal S6144 .f32 :=
  shapeCast S6144 (extractStridedSlice S1x6144 ![0, 0] b slices_S2x6144_S1x6144_0_0) shapeCasts_S1x6144_S6144

/-- The context tokens' modulations from their condition `c`, one vector for all batches. -/
abbrev common (c : FVec Ideal S1024 .f32) (W : FVec Ideal S1024x6144 .f32) (b : FVec Ideal S6144 .f32) : FVec Ideal S1x1x6144 .f32 :=
  broadcastInDim S1x1x6144 ![2] bcast_S6144_S1x1x6144_2 (addf
    (Host.dotGeneral dot_S1024_S1024x6144_S6144_0_0_n_1_n_n none
      (mulf c (Host.divf (broadcastInDim S1024 ![] bcast_S_S1024 (constant S_ .f32 0x3F800000#32))
        (addf (broadcastInDim S1024 ![] bcast_S_S1024 (constant S_ .f32 0x3F800000#32)) (Host.exp (Host.negf c))))) W) b)

/-- A vector of 1024 columns, the same for all context tokens. -/
abbrev each (a : FVec Ideal S1x1x1024 .f32) : FVec Ideal S4x256x1024 .f32 :=
  broadcastInDim S4x256x1024 ![0, 1, 2] bcast_S1x1x1024_S4x256x1024_0_1_2 a

/-- Context tokens normed to mean square one, scaled by `g`, then scaled and shifted by their modulations `a`. -/
abbrev context_normed (x : FVec Ideal S4x256x1024 .f32) (g : FVec Ideal S1024 .f32) (a : FVec Ideal S1x1x6144 .f32) :
    FVec Ideal S4x256x1024 .f32 :=
  addf (mulf (mulf (mulf x (broadcastInDim S4x256x1024 ![0, 1, 2] bcast_S4x256x1_S4x256x1024_0_1_2
      (Host.rsqrt (addf (Host.divf (broadcastInDim S4x256x1 ![0, 1] bcast_S4x256_S4x256x1_0_1
          (Host.reduceAdd (mulf x x) (constant S_ .f32 0x00000000#32) reducesTo_S4x256x1024_S4x256_d2 h_S_))
        (broadcastInDim S4x256x1 ![] bcast_S_S4x256x1 (constant S_ .f32 0x44800000#32)))
        (broadcastInDim S4x256x1 ![] bcast_S_S4x256x1 (constant S_ .f32 0x358637BD#32))))))
    (each (broadcastInDim S1x1x1024 ![2] bcast_S1024_S1x1x1024_2 g)))
    (each (addf (broadcastInDim S1x1x1024 ![] bcast_S_S1x1x1024 (constant S_ .f32 0x3F800000#32))
      (extractStridedSlice S1x1x1024 ![0, 0, 1024] a slices_S1x1x6144_S1x1x1024_0_0_1024))))
    (each (extractStridedSlice S1x1x1024 ![0, 0, 0] a slices_S1x1x6144_S1x1x1024_0_0_0))

/-- The rows of the latent tokens the first layer projects. -/
abbrev latent_rows (x : FVec Ideal S4x8192x1024 .f32) (c : FVec Ideal S4x1024 .f32) (W : FVec Ideal S2x1024x6144 .f32)
    (b : FVec Ideal S2x6144 .f32) (g : FVec Ideal S2x1024 .f32) : FVec Ideal S4x8192x1024 .f32 :=
  normed x (weight0 g) (sixth 0 (first c W b)) (sixth 1 (first c W b))

/-- The rows of the context tokens the first layer projects. -/
abbrev context_rows (x : FVec Ideal S4x256x1024 .f32) (c : FVec Ideal S1024 .f32) (W : FVec Ideal S2x1024x6144 .f32)
    (b : FVec Ideal S2x6144 .f32) (g : FVec Ideal S2x1024 .f32) : FVec Ideal S4x256x1024 .f32 :=
  context_normed x (weight0 g) (common c (shifts W) (biases b))

/-- The latent tokens' projection for the first layer. -/
def latent (x : FVec Ideal S4x8192x1024 .f32) (c : FVec Ideal S4x1024 .f32) (W : FVec Ideal S2x1024x6144 .f32)
    (b : FVec Ideal S2x6144 .f32) (g : FVec Ideal S2x1024 .f32) (w : FVec Ideal S2x1024x6688 .f32) : FVec Ideal S4x8192x6688 .f32 :=
  Host.dotGeneral StartRefIdeal.dot_S4x8192x1024_S1024x6688_S4x8192x6688_2_0_01_1_n_n none (latent_rows (placed x) c W b g) (projection0 w)

/-- The context tokens' projection for the first layer. -/
def context (x : FVec Ideal S4x256x1024 .f32) (c : FVec Ideal S1024 .f32) (W : FVec Ideal S2x1024x6144 .f32)
    (b : FVec Ideal S2x6144 .f32) (g : FVec Ideal S2x1024 .f32) (w : FVec Ideal S2x1024x6688 .f32) : FVec Ideal S4x256x6688 .f32 :=
  Host.dotGeneral StartRefIdeal.dot_S4x256x1024_S1024x6688_S4x256x6688_2_0_01_1_n_n none (context_rows x c W b g) (projection0 w)

/-- The latent rows multiplied as one list and split again are their product with the matrix. -/
theorem times_latent (x : FVec Ideal S4x8192x1024 .f32) (w : FVec Ideal S1024x6688 .f32) :
    shapeCast S4x8192x6688 (prod (M := 32768) (K := 1024) (N := 6688) (φ₁ := .f32) (φ₂ := .bf16) (list x) (narrow w))
        shapeCasts_S32768x6688_S4x8192x6688
      = Host.dotGeneral StartRefIdeal.dot_S4x8192x1024_S1024x6688_S4x8192x6688_2_0_01_1_n_n none x w :=
  times_cols x w

/-- The context rows multiplied as one list and split again are their product with the matrix. -/
theorem times_context (x : FVec Ideal S4x256x1024 .f32) (w : FVec Ideal S1024x6688 .f32) :
    shapeCast S4x256x6688 (prod (M := 1024) (K := 1024) (N := 6688) (φ₁ := .f32) (φ₂ := .bf16)
        (shapeCast S1024x1024 x shapeCasts_S4x256x1024_S1024x1024) (narrow w)) shapeCasts_S1024x6688_S4x256x6688
      = Host.dotGeneral StartRefIdeal.dot_S4x256x1024_S1024x6688_S4x256x6688_2_0_01_1_n_n none x w :=
  rows_dot (A := 4) (B := 256) (M := 1024) (K := 1024) (N := 6688) rfl
    StartRefIdeal.Facts₀.dot_S4x256x1024_S1024x6688_S4x256x6688_2_0_01_1_n_n_wf x w _ _ _

end Cert.StartIdeal.Parts

end
-- ==== Proof.StartLines.lean ====
module

public import proofs.«01_k».proof.Proof.StartTerms

/-!
What the host lines around the two projections make of the buffers they start from.

`S` is what the buffers hold when the lines start; each theorem gives buffers after them.
-/

@[expose] public section

set_option maxRecDepth 16384

noncomputable section

namespace Cert.StartIdeal.Parts

open Idealize.ShloMosaic Idealize.ShloMosaic.TcCoe Cert.StartIdeal.Gen Cert.Products
open Idealize.ShloMosaic.StableHlo
open Cert.BetweenIdeal.Parts (first sixth normed weight0 narrow list)

variable (S : Valuation τ sig (Elt Ideal))

/-- The buffers after the lines from the embedded tokens to the first projection. -/
abbrev opened : Valuation τ sig (Elt Ideal) := after hostOps0_4 (after hostOps0_3 (after hostOps0_2 (after hostOps0_1 S)))

/-- The first lines add the position embedding. -/
theorem placed_of : after hostOps0 S (Proc.devRef .tc main_v33) = placed (S (Proc.devRef .tc main_arg0)) := by
  after_results
  try rfl

/-- The first lines take the first layer's modulation matrix and bias. -/
theorem shifts_of : after hostOps0 S (Proc.devRef .tc main_v35) = shifts (S (Proc.devRef .tc main_arg4))
    ∧ after hostOps0 S (Proc.devRef .tc main_v37) = biases (S (Proc.devRef .tc main_arg5)) := by
  refine ⟨?_, ?_⟩
  all_goals
    after_results
    try rfl

/-- What the latent projection takes. -/
theorem opened_latent : opened S (Proc.devRef .tc main_v108) = list (normed (S (Proc.devRef .tc main_v33)) (weight0 (S (Proc.devRef .tc main_arg6)))
      (sixth 0 (BetweenIdeal.Parts.modulations (S (Proc.devRef .tc main_arg1)) (S (Proc.devRef .tc main_v35)) (S (Proc.devRef .tc main_v37))))
      (sixth 1 (BetweenIdeal.Parts.modulations (S (Proc.devRef .tc main_arg1)) (S (Proc.devRef .tc main_v35)) (S (Proc.devRef .tc main_v37)))))
    ∧ opened S (Proc.devRef .tc main_v109) = narrow (projection0 (S (Proc.devRef .tc main_arg7))) := by
  refine ⟨?_, ?_⟩
  all_goals
    simp only [opened, hostOps0_1, hostOps0_3, TRef.binary, TRef.nullary, TRef.unary, TRef.toBuf, TRef.ofBuf, cast_eq]
    after_results
    try rfl

/-- The context tokens' rows, ready for their projection. -/
theorem opened_context : opened S (Proc.devRef .tc main_v105) = context_rows (S (Proc.devRef .tc main_arg2)) (S (Proc.devRef .tc main_arg3))
      (S (Proc.devRef .tc main_arg4)) (S (Proc.devRef .tc main_arg5)) (S (Proc.devRef .tc main_arg6)) := by
  simp only [opened, hostOps0_1, hostOps0_3, TRef.binary, TRef.nullary, TRef.unary, TRef.toBuf, TRef.ofBuf, cast_eq]
  after_results
  try rfl

/-- The latent projection is split into batches; the context projection's rows and matrix are taken. -/
theorem columns_of : after hostOps1 S (Proc.devRef .tc main_v111) = (shapeCast S4x8192x6688 (S (Proc.devRef .tc main_v110)) shapeCasts_S32768x6688_S4x8192x6688 : FVec Ideal S4x8192x6688 .f32)
    ∧ after hostOps1 S (Proc.devRef .tc main_v114)
      = (shapeCast S1024x1024 (S (Proc.devRef .tc main_v105)) shapeCasts_S4x256x1024_S1024x1024 : FVec Ideal S1024x1024 .f32)
    ∧ after hostOps1 S (Proc.devRef .tc main_v115) = narrow (projection0 (S (Proc.devRef .tc main_arg7))) := by
  refine ⟨?_, ?_, ?_⟩
  all_goals
    after_results
    try rfl

/-- The context projection is split into batches. -/
theorem context_columns_of : after hostOps2 S (Proc.devRef .tc main_v117)
    = (shapeCast S4x256x6688 (S (Proc.devRef .tc main_v116)) shapeCasts_S1024x6688_S4x256x6688 : FVec Ideal S4x256x6688 .f32) := by
  after_results
  try rfl

end Cert.StartIdeal.Parts

end
-- ==== Proof.StartSteps.lean ====
module

public import proofs.«01_k».proof.Proof.StartTiles
public import proofs.«01_k».proof.Proof.StartLines

/-!
From the arguments of the model to the projections of the first layer: what the three results hold at the end of the run.
-/

@[expose] public section

set_option maxRecDepth 16384

noncomputable section

namespace Cert.StartIdeal.Parts

open Idealize.ShloMosaic Idealize.ShloMosaic.TcCoe Cert.StartIdeal.Gen Cert.Products
open Idealize.ShloMosaic.StableHlo
open Cert.BetweenIdeal.Parts (narrow list)

variable (m : (ℓ : Loc nD τ sig) → Buf (Elt Ideal) ℓ) (ρ : Dev nD → PrngReg) (c : Dev nD)

/-- The latent tokens with their position embedding, from the launch's arguments. -/
abbrev placed_at : FVec Ideal S4x8192x1024 .f32 := placed (m ((c.tc : Thread nD τ).loc main_arg0))

/-- The latent tokens' rows for their projection, from the launch's arguments. -/
abbrev latent_rows_at : FVec Ideal S4x8192x1024 .f32 :=
  latent_rows (placed_at m c) (m ((c.tc : Thread nD τ).loc main_arg1)) (m ((c.tc : Thread nD τ).loc main_arg4))
    (m ((c.tc : Thread nD τ).loc main_arg5)) (m ((c.tc : Thread nD τ).loc main_arg6))

/-- The context tokens' rows for their projection, from the launch's arguments. -/
abbrev context_rows_at : FVec Ideal S4x256x1024 .f32 :=
  context_rows (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The latent tokens' projection, from the launch's arguments. -/
abbrev latent_at : FVec Ideal S4x8192x6688 .f32 :=
  latent (m ((c.tc : Thread nD τ).loc main_arg0)) (m ((c.tc : Thread nD τ).loc main_arg1)) (m ((c.tc : Thread nD τ).loc main_arg4))
    (m ((c.tc : Thread nD τ).loc main_arg5)) (m ((c.tc : Thread nD τ).loc main_arg6)) (m ((c.tc : Thread nD τ).loc main_arg7))

/-- The context tokens' projection, from the launch's arguments. -/
abbrev context_at : FVec Ideal S4x256x6688 .f32 :=
  context (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The embedded tokens stay as they are to the end of the run. -/
theorem placed_end : W9 m ρ c (Proc.devRef .tc main_v33) = placed_at m c :=
  (W9_of m ρ c main_v33 (by decide)).trans ((W8_of m ρ c main_v33 (by decide)).trans ((W7_of m ρ c main_v33 (by decide)).trans
    ((W6_of m ρ c main_v33 (by decide)).trans ((W5_of m ρ c main_v33 (by decide)).trans ((W4_of m ρ c main_v33 (by decide)).trans
      ((W3_of m ρ c main_v33 (by decide)).trans ((W2_of m ρ c main_v33 (by decide)).trans (placed_of (W0 m ρ c)))))))))

/-- The rows the latent projection takes. -/
theorem latent_taken : W5 m ρ c (Proc.devRef .tc main_v108) = list (latent_rows_at m c) := by
  have hx : W1 m ρ c (Proc.devRef .tc main_v33) = placed_at m c := placed_of (W0 m ρ c)
  have hW : W1 m ρ c (Proc.devRef .tc main_v35) = shifts (m ((c.tc : Thread nD τ).loc main_arg4)) := (shifts_of (W0 m ρ c)).1
  have hb : W1 m ρ c (Proc.devRef .tc main_v37) = biases (m ((c.tc : Thread nD τ).loc main_arg5)) := (shifts_of (W0 m ρ c)).2
  have hc := W1_args m ρ c main_arg1 (by decide)
  have hg := W1_args m ρ c main_arg6 (by decide)
  refine (opened_latent (W1 m ρ c)).1.trans ?_
  rw [hx, hW, hb, hc, hg]

/-- The matrix the latent projection takes. -/
theorem matrix_taken : W5 m ρ c (Proc.devRef .tc main_v109) = narrow (projection0 (m ((c.tc : Thread nD τ).loc main_arg7))) := by
  refine (opened_latent (W1 m ρ c)).2.trans ?_
  rw [W1_args m ρ c main_arg7 (by decide)]

/-- The context tokens' rows before their projection. -/
theorem context_taken : W6 m ρ c (Proc.devRef .tc main_v105) = context_rows_at m c := by
  refine (W6_of m ρ c main_v105 (by decide)).trans ((opened_context (W1 m ρ c)).trans ?_)
  rw [W1_args m ρ c main_arg2 (by decide), W1_args m ρ c main_arg3 (by decide), W1_args m ρ c main_arg4 (by decide),
    W1_args m ρ c main_arg5 (by decide), W1_args m ρ c main_arg6 (by decide)]

/-- The first call leaves the product of the latent tokens' rows with the first layer's matrix. -/
theorem latent_product : W6 m ρ c (Proc.devRef .tc main_v110)
    = prod (M := 32768) (K := 1024) (N := 6688) (φ₁ := .f32) (φ₂ := .bf16) (list (latent_rows_at m c))
      (narrow (projection0 (m ((c.tc : Thread nD τ).loc main_arg7)))) :=
  (W6_arr m ρ c 2).trans ((product0 _ c).trans
    (congrArg₂ (prod (M := 32768) (K := 1024) (N := 6688) (φ₁ := .f32) (φ₂ := .bf16)) (latent_taken m ρ c) (matrix_taken m ρ c)))

/-- The second result at the end of the run is the latent tokens' projection. -/
theorem latent_end : W9 m ρ c (Proc.devRef .tc main_v111) = latent_at m c :=
  (W9_of m ρ c main_v111 (by decide)).trans ((W8_of m ρ c main_v111 (by decide)).trans ((columns_of (W6 m ρ c)).1.trans
    ((congrArg (fun p : FVec Ideal S32768x6688 .f32 => shapeCast S4x8192x6688 p shapeCasts_S32768x6688_S4x8192x6688) (latent_product m ρ c)).trans
      (times_latent _ _))))

/-- The second call leaves the product of the context tokens' rows with the first layer's matrix. -/
theorem context_product : W8 m ρ c (Proc.devRef .tc main_v116)
    = prod (M := 1024) (K := 1024) (N := 6688) (φ₁ := .f32) (φ₂ := .bf16)
      (shapeCast S1024x1024 (context_rows_at m c) shapeCasts_S4x256x1024_S1024x1024)
      (narrow (projection0 (m ((c.tc : Thread nD τ).loc main_arg7)))) :=
  (W8_arr m ρ c 2).trans ((product1 _ c).trans
    (congrArg₂ (prod (M := 1024) (K := 1024) (N := 6688) (φ₁ := .f32) (φ₂ := .bf16))
      ((columns_of (W6 m ρ c)).2.1.trans
        (congrArg (fun x : FVec Ideal S4x256x1024 .f32 => shapeCast S1024x1024 x shapeCasts_S4x256x1024_S1024x1024) (context_taken m ρ c)))
      ((columns_of (W6 m ρ c)).2.2.trans
        (congrArg (fun w : FVec Ideal S2x1024x6688 .f32 => narrow (projection0 w)) (W6_args m ρ c main_arg7 (by decide))))))

/-- The third result at the end of the run is the context tokens' projection. -/
theorem context_end : W9 m ρ c (Proc.devRef .tc main_v117) = context_at m c :=
  (context_columns_of (W8 m ρ c)).trans
    ((congrArg (fun p : FVec Ideal S1024x6688 .f32 => shapeCast S4x256x6688 p shapeCasts_S1024x6688_S4x256x6688) (context_product m ρ c)).trans
      (times_context _ _))

end Cert.StartIdeal.Parts

end
-- ==== Proof.StartValue.lean ====
module

public import proofs.«01_k».proof.Defs
public import proofs.«01_k».proof.Proof.Gen.StartRefIdeal.Run
public import proofs.«01_k».proof.Proof.StartRun
public import proofs.«01_k».proof.Proof.StartSteps

/-!
The start of the model: the program with tiled products and the plain one end with the same results, at exact values.
-/

@[expose] public section

set_option maxRecDepth 16384

noncomputable section

namespace Cert.StartIdeal.Parts

open Idealize.ShloMosaic Idealize.ShloMosaic.TcCoe

/-- Two arrays of one shape that are equal. -/
abbrev same (s : Shape) (a b : FVec Ideal s .f32) : Prop := a = b

/-- An array equal to one that is equal to a third is equal to the third. -/
theorem both (s : Shape) {a b c : FVec Ideal s .f32} (h : same s a b) (h' : same s b c) : same s a c := h.trans h'

/-- From equal arguments the plain latent projection is the tiled one's. -/
theorem latent_eq {x x' : FVec Ideal S4x8192x1024 .f32} {c c' : FVec Ideal S4x1024 .f32} {W W' : FVec Ideal S2x1024x6144 .f32}
    {b b' : FVec Ideal S2x6144 .f32} {g g' : FVec Ideal S2x1024 .f32} {w w' : FVec Ideal S2x1024x6688 .f32}
    (hx : x = x') (hc : c = c') (hW : W = W') (hb : b = b') (hg : g = g') (hw : w = w') :
    same S4x8192x6688 (latent x c W b g w) (latent x' c' W' b' g' w') := by
  subst hx hc hW hb hg hw
  rfl

/-- From equal arguments the plain context projection is the tiled one's. -/
theorem context_eq {x x' : FVec Ideal S4x256x1024 .f32} {c c' : FVec Ideal S1024 .f32} {W W' : FVec Ideal S2x1024x6144 .f32}
    {b b' : FVec Ideal S2x6144 .f32} {g g' : FVec Ideal S2x1024 .f32} {w w' : FVec Ideal S2x1024x6688 .f32}
    (hx : x = x') (hc : c = c') (hW : W = W') (hb : b = b') (hg : g = g') (hw : w = w') :
    same S4x256x6688 (context x c W b g w) (context x' c' W' b' g' w') := by
  subst hx hc hW hb hg hw
  rfl

/-- The plain program's latent projection is the function `latent` of its arguments. -/
theorem ref_latent (m : (ℓ : Loc StartRefIdeal.nD StartRefIdeal.τ StartRefIdeal.sig) → Buf (Elt Ideal) ℓ) (c : Dev StartRefIdeal.nD) :
    same S4x8192x6688 (StartRefIdeal.Value.res_main_v108 (F := Ideal) m c)
      (latent (m ((c.tc : Thread StartRefIdeal.nD StartRefIdeal.τ).loc StartRefIdeal.main_arg0))
        (m ((c.tc : Thread StartRefIdeal.nD StartRefIdeal.τ).loc StartRefIdeal.main_arg1))
        (m ((c.tc : Thread StartRefIdeal.nD StartRefIdeal.τ).loc StartRefIdeal.main_arg4))
        (m ((c.tc : Thread StartRefIdeal.nD StartRefIdeal.τ).loc StartRefIdeal.main_arg5))
        (m ((c.tc : Thread StartRefIdeal.nD StartRefIdeal.τ).loc StartRefIdeal.main_arg6))
        (m ((c.tc : Thread StartRefIdeal.nD StartRefIdeal.τ).loc StartRefIdeal.main_arg7))) := by
  unfold StartRefIdeal.Value.res_main_v108 latent placed
  rfl

end Cert.StartIdeal.Parts

namespace Cert.Proof

open Idealize.ShloMosaic Idealize.ShloMosaic.TcCoe Idealize.SL.Sem

/-- From arguments that agree, the tiled program and the plain one end with the same embedded tokens and the same projections of the
first layer, at exact values. -/
theorem start_agrees : Cert.algebraic_StartIdeal_StartRefIdeal := by
  intro m ρ m' ρ' _ hagree
  refine ⟨fun c => StartIdeal.Parts.placed_at m c, fun c => StartIdeal.Parts.latent_at m c, fun c => StartIdeal.Parts.context_at m c, ?_, ?_⟩
  · refine (θ_run _ _ _).mono (fun _ h c => ?_)
      (θ_run_and (StartIdeal.Parts.run_all (F := Ideal) m ρ) (StartIdeal.Gen.frame (F := Ideal) m ρ))
    exact ⟨StartIdeal.Parts.both StartIdeal.S4x8192x1024 (h.1 c _ (StartIdeal.Gen.mem_uc StartIdeal.main_v33 (by decide))) (StartIdeal.Parts.placed_end m ρ c),
      StartIdeal.Parts.both StartIdeal.S4x8192x6688 (h.1 c _ (StartIdeal.Gen.mem_uc StartIdeal.main_v111 (by decide))) (StartIdeal.Parts.latent_end m ρ c),
      StartIdeal.Parts.both StartIdeal.S4x256x6688 (h.1 c _ (StartIdeal.Gen.mem_uc StartIdeal.main_v117 (by decide))) (StartIdeal.Parts.context_end m ρ c),
      h.2.1 c⟩
  · refine (θ_run _ _ _).mono (fun _ h c => ?_) (StartRefIdeal.Value.run (F := Ideal) m' ρ')
    obtain ⟨h0, h1, h2, h3, h4, h5, h6, h7⟩ := hagree c
    exact ⟨StartIdeal.Parts.both StartIdeal.S4x8192x1024 (h c).1 (congrArg StartIdeal.Parts.placed h0),
      StartIdeal.Parts.both StartIdeal.S4x8192x6688 (h c).2.1
        (StartIdeal.Parts.both StartIdeal.S4x8192x6688 (StartIdeal.Parts.ref_latent m' c) (StartIdeal.Parts.latent_eq h0 h1 h4 h5 h6 h7)),
      StartIdeal.Parts.both StartIdeal.S4x256x6688 (h c).2.2.1 (StartIdeal.Parts.context_eq h2 h3 h4 h5 h6 h7),
      (h c).2.2.2⟩

end Cert.Proof

end
-- ==== Proof.FiveRun.lean ====
module

public import proofs.«01_k».proof.Proof.Gen.FiveIdeal.Frame

@[expose] public section

set_option maxRecDepth 16384

noncomputable section

namespace Cert.FiveIdeal.Parts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FiveIdeal.Gen

/-! # The run of the program of the products around the scan over chunks -/

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends, and then every buffer it was launched with holds the contents `W7` gives: what the host
operations and the calls leave, one after the other. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

end Cert.FiveIdeal.Parts

end
-- ==== Proof.FiveTiles.lean ====
module

public import proofs.«01_k».proof.Proof.Gen.FiveIdeal.Frame
public import proofs.«01_k».proof.Proof.Products
public import Idealize.ShloMosaic.Lib.Pipeline.ValueKit

/-!
What the three calls around the scan over chunks leave.

The first and the last multiply rows with a matrix, block by block, and leave the product of the two whole arrays. The second multiplies
two lists of rows with a matrix each and leaves the sum of the two products.
-/

@[expose] public section

set_option maxRecDepth 16384

noncomputable section

namespace Cert.FiveIdeal.Parts

open Idealize.ShloMosaic Idealize.ShloMosaic.TcCoe Cert.FiveIdeal.Gen Cert.Products
open Idealize.ShloMosaic.Pipeline (Dat Cfg Window)

/-- The blocks of the states' product: which rows and columns point `t` takes. -/
theorem state_blocks : ∀ t : Fin cfg0.N, win0_0.index t = ![t.val / 4, 0] ∧ win0_1.index t = ![0, t.val % 4]
    ∧ win0_2.index t = ![t.val / 4, t.val % 4] := by decide +kernel

/-- What the body of the states' product stores: one tile. -/
theorem state_out (x : Vec Ideal S256x4096 .f32) (w : Vec Ideal S4096x1024 .bf16) :
    out0_2 x w = tile (m := 256) (K := 4096) (n := 1024) x w := by
  unfold out0_2 k0_pay1
  rw [View.canon_cons_unit_lit _ _ _ (by decide), View.ld_unit_lit _ _ (by decide), View.ld_unit_lit _ _ (by decide), shapeCast_self,
    shapeCast_self]
  rfl

/-- A tile of the states' product is the block of the whole product at its place. -/
theorem state_tile (X : FVec Ideal ⟨2, ![2048, 4096]⟩ .f32) (W : FVec Ideal ⟨2, ![4096, 4096]⟩ .bf16) (t : Fin cfg0.N)
    (y : (⟨2, ![256, 1024]⟩ : Shape).Idx) :
    out0_2 (F := Ideal) (fun a => X (((cfg0.win 0).blk t).view.emb a)) (fun a => W (((cfg0.win 1).blk t).view.emb a)) y
      = prod X W (((cfg0.win 2).blk t).view.emb y) := by
  obtain ⟨e0, e1, e2⟩ := state_blocks t
  refine (congrFun (state_out _ _) y).trans ?_
  refine tile_prod none X W _ _ ((cfg0.win 0).blk t).view.emb ((cfg0.win 1).blk t).view.emb
    ((cfg0.win 2).blk t).view.emb (t.val / 4 * 256) (t.val % 4 * 1024) (fun _ => rfl) (fun _ => rfl) ?_ ?_ ?_ ?_ ?_ ?_ y
  all_goals
    intro a
    blk_simp [e0, e1, e2]

/-- The blocks of the two products that are summed: which rows and columns point `t` takes. -/
theorem sum_blocks : ∀ t : Fin cfg1.N, win1_0.index t = ![t.val / 8, 0] ∧ win1_1.index t = ![t.val / 8, 0]
    ∧ win1_2.index t = ![0, t.val % 8] ∧ win1_3.index t = ![0, t.val % 8] ∧ win1_4.index t = ![t.val / 8, t.val % 8] := by
  decide +kernel

/-- What the body of the two products stores: the sum of two tiles. -/
theorem sum_out (x x' : Vec Ideal S256x4096 .f32) (w w' : Vec Ideal S4096x512 .bf16) :
    out1_4 x x' w w' = addf (tile (m := 256) (K := 4096) (n := 512) x w) (tile (m := 256) (K := 4096) (n := 512) x' w') := by
  unfold out1_4 k1_pay1
  rw [View.canon_cons_unit_lit _ _ _ (by decide), View.ld_unit_lit _ _ (by decide), View.ld_unit_lit _ _ (by decide),
    View.ld_unit_lit _ _ (by decide), View.ld_unit_lit _ _ (by decide), shapeCast_self, shapeCast_self, shapeCast_self, shapeCast_self]
  rfl

/-- A block of the sum of the two products is the sum of the two whole products at its place. -/
theorem sum_tile (X X' : FVec Ideal ⟨2, ![2048, 4096]⟩ .f32) (W W' : FVec Ideal ⟨2, ![4096, 4096]⟩ .bf16) (t : Fin cfg1.N)
    (y : (⟨2, ![256, 512]⟩ : Shape).Idx) :
    out1_4 (F := Ideal) (fun a => X (((cfg1.win 0).blk t).view.emb a)) (fun a => X' (((cfg1.win 1).blk t).view.emb a))
        (fun a => W (((cfg1.win 2).blk t).view.emb a)) (fun a => W' (((cfg1.win 3).blk t).view.emb a)) y
      = addf (prod X W) (prod X' W') (((cfg1.win 4).blk t).view.emb y) := by
  obtain ⟨e0, e1, e2, e3, e4⟩ := sum_blocks t
  refine (congrFun (sum_out _ _ _ _) y).trans ?_
  have h : FloatOps.matmul (DotDims.plain 256 4096 512) none (fun a => X (((cfg1.win 0).blk t).view.emb a))
      (fun a => W (((cfg1.win 2).blk t).view.emb a)) (constant ⟨2, ![256, 512]⟩ .f32 0x00000000#32) y
      = prod X W (((cfg1.win 4).blk t).view.emb y) := by
    refine tile_prod none X W _ _ ((cfg1.win 0).blk t).view.emb ((cfg1.win 2).blk t).view.emb
      ((cfg1.win 4).blk t).view.emb (t.val / 8 * 256) (t.val % 8 * 512) (fun _ => rfl) (fun _ => rfl) ?_ ?_ ?_ ?_ ?_ ?_ y
    all_goals
      intro a
      blk_simp [e0, e2, e4]
  have h' : FloatOps.matmul (DotDims.plain 256 4096 512) none (fun a => X' (((cfg1.win 1).blk t).view.emb a))
      (fun a => W' (((cfg1.win 3).blk t).view.emb a)) (constant ⟨2, ![256, 512]⟩ .f32 0x00000000#32) y
      = prod X' W' (((cfg1.win 4).blk t).view.emb y) := by
    refine tile_prod none X' W' _ _ ((cfg1.win 1).blk t).view.emb ((cfg1.win 3).blk t).view.emb
      ((cfg1.win 4).blk t).view.emb (t.val / 8 * 256) (t.val % 8 * 512) (fun _ => rfl) (fun _ => rfl) ?_ ?_ ?_ ?_ ?_ ?_ y
    all_goals
      intro a
      blk_simp [e1, e3, e4]
  exact congrArg₂ (fun p q : Ideal .f32 => FloatOps.addf p q) h h'

/-- The blocks of the gate's product: which rows and columns point `t` takes. -/
theorem glu_blocks : ∀ t : Fin cfg2.N, win2_0.index t = ![t.val, 0] ∧ win2_1.index t = ![0, 0]
    ∧ win2_2.index t = ![t.val, 0] := by decide +kernel

/-- What the body of the gate's product stores: one tile. -/
theorem glu_out (x : Vec Ideal S512x256 .f32) (w : Vec Ideal S256x256 .bf16) :
    out2_2 x w = tile (m := 512) (K := 256) (n := 256) x w := by
  unfold out2_2 k2_pay1
  rw [View.canon_cons_unit_lit _ _ _ (by decide), View.ld_unit_lit _ _ (by decide), View.ld_unit_lit _ _ (by decide), shapeCast_self,
    shapeCast_self]
  rfl

/-- A tile of the gate's product is the block of the whole product at its place. -/
theorem glu_tile (X : FVec Ideal ⟨2, ![32768, 256]⟩ .f32) (W : FVec Ideal ⟨2, ![256, 256]⟩ .bf16) (t : Fin cfg2.N)
    (y : (⟨2, ![512, 256]⟩ : Shape).Idx) :
    out2_2 (F := Ideal) (fun a => X (((cfg2.win 0).blk t).view.emb a)) (fun a => W (((cfg2.win 1).blk t).view.emb a)) y
      = prod X W (((cfg2.win 2).blk t).view.emb y) := by
  obtain ⟨e0, e1, e2⟩ := glu_blocks t
  refine (congrFun (glu_out _ _) y).trans ?_
  refine tile_prod none X W _ _ ((cfg2.win 0).blk t).view.emb ((cfg2.win 1).blk t).view.emb
    ((cfg2.win 2).blk t).view.emb (t.val * 512) 0 (fun _ => rfl) (fun _ => rfl) ?_ ?_ ?_ ?_ ?_ ?_ y
  all_goals
    intro a
    blk_simp [e0, e1, e2]

variable (V : (c : Dev nD) → (b : Ref sig .tc) → Buf (Elt Ideal) ((c : Thread nD τ).loc b)) (c : Dev nD)

/-- The first call leaves the product of the blocks' rows with the matrix of the states. -/
theorem product0 : (dat0 V c).arrAt 2 cfg0.N = prod (φ₁ := .f32) (φ₂ := .bf16) (V c main_v2) (V c main_v3) :=
  (dat0 V c).arrAt_eq_of_covers 2 _ (by decide +kernel) fun t _ y =>
    (congrFun (after0_2 V c t) y).trans (state_tile (V c main_v2) (V c main_v3) t y)

/-- The second call leaves the sum of two products. -/
theorem product1 : (dat1 V c).arrAt 4 cfg1.N
    = addf (prod (φ₁ := .f32) (φ₂ := .bf16) (V c main_v2) (V c main_v6)) (prod (φ₁ := .f32) (φ₂ := .bf16) (V c main_v5) (V c main_v7)) :=
  (dat1 V c).arrAt_eq_of_covers 4 _ (by decide +kernel) fun t _ y =>
    (congrFun (after1_4 V c t) y).trans (sum_tile (V c main_v2) (V c main_v5) (V c main_v6) (V c main_v7) t y)

/-- The third call leaves the product of the activated rows with the gate's matrix. -/
theorem product2 : (dat2 V c).arrAt 2 cfg2.N = prod (φ₁ := .f32) (φ₂ := .bf16) (V c main_v26) (V c main_v27) :=
  (dat2 V c).arrAt_eq_of_covers 2 _ (by decide +kernel) fun t _ y =>
    (congrFun (after2_2 V c t) y).trans (glu_tile (V c main_v26) (V c main_v27) t y)

end Cert.FiveIdeal.Parts

end
-- ==== Proof.FiveTerms.lean ====
module

public import proofs.«01_k».proof.Proof.Rows
public import proofs.«01_k».proof.Proof.Gen.FiveIdeal.Frame
public import proofs.«01_k».proof.Proof.Gen.FiveRefIdeal
public import Idealize.ShloMosaic.Lib.Pointwise.Reshape

/-!
The results of the products around the scan over chunks, as functions of their arguments: what each block of tokens adds to the states,
and the gated outputs.
-/

@[expose] public section

set_option maxRecDepth 16384

noncomputable section

namespace Cert.FiveIdeal.Parts

open Idealize.ShloMosaic Idealize.ShloMosaic.TcCoe Cert.FiveIdeal.Gen Cert.Products

/-- The tokens in blocks of sixteen, one row for each block and batch. -/
abbrev blocks (u : FVec Ideal S4x8192x256 .f32) : FVec Ideal S512x4x4096 .f32 :=
  transpose S512x4x4096 [1, 0, 2] (shapeCast S4x512x4096 u shapeCasts_S4x8192x256_S4x512x4096) transposes_S4x512x4096_S512x4x4096_1_0_2

/-- The rows of an array of blocks as one list. -/
abbrev list (x : FVec Ideal S512x4x4096 .f32) : FVec Ideal S2048x4096 .f32 := shapeCast S2048x4096 x shapeCasts_S512x4x4096_S2048x4096

/-- A list of rows split into blocks and batches. -/
abbrev split (x : FVec Ideal S2048x4096 .f32) : FVec Ideal S512x4x4096 .f32 := shapeCast S512x4x4096 x shapeCasts_S2048x4096_S512x4x4096

/-- A block matrix in the shorter format. -/
abbrev narrow (w : FVec Ideal S4096x4096 .f32) : FVec Ideal S4096x4096 .bf16 := truncf .bf16 w bitsLt_bf16_f32

/-- The rows of an array of blocks multiplied with a matrix. -/
abbrev times (x : FVec Ideal S512x4x4096 .f32) (w : FVec Ideal S4096x4096 .f32) : FVec Ideal S512x4x4096 .f32 :=
  Host.dotGeneral FiveRefIdeal.dot_S512x4x4096_S4096x4096_S512x4x4096_2_0_01_1_n_n none x w

/-- The blocks' outputs laid out again as tokens, from the outputs of each block's sixteen tokens. -/
abbrev tokens (y : FVec Ideal S512x4x16x256 .f32) : FVec Ideal S4x8192x256 .f32 :=
  shapeCast S4x8192x256 (transpose S4x512x16x256 [1, 0, 2, 3] y transposes_S512x4x16x256_S4x512x16x256_1_0_2_3)
    shapeCasts_S4x512x16x256_S4x8192x256

/-- One number in every place. -/
abbrev every (b : BitVec 32) : FVec Ideal S4x8192x256 .f32 := broadcastInDim S4x8192x256 ![] bcast_S_S4x8192x256 (constant S_ .f32 b)

/-- The activation: each entry by half of one plus the hyperbolic tangent of a cubic in it. -/
abbrev activated (y : FVec Ideal S4x8192x256 .f32) : FVec Ideal S4x8192x256 .f32 :=
  mulf y (mulf (every 0x3F000000#32) (addf (every 0x3F800000#32)
    (Host.tanh (mulf (every 0x3F4C422A#32) (addf y (mulf (every 0x3D372713#32) (mulf (mulf y y) y)))))))

/-- The entries `g`, each by the logistic function of its gate `p` plus bias. -/
abbrev gated (g p : FVec Ideal S4x8192x256 .f32) (b : FVec Ideal S256 .f32) : FVec Ideal S4x8192x256 .f32 :=
  mulf g (Host.divf (every 0x3F800000#32) (addf (every 0x3F800000#32) (Host.exp (Host.negf (addf p
    (broadcastInDim S4x8192x256 ![0, 1, 2] bcast_S1x1x256_S4x8192x256_0_1_2 (broadcastInDim S1x1x256 ![2] bcast_S256_S1x1x256_2 b)))))))

/-- What each block of tokens adds to the states. -/
def states (u : FVec Ideal S4x8192x256 .f32) (wd : FVec Ideal S4096x4096 .f32) : FVec Ideal S512x4x4096 .f32 := times (blocks u) wd

/-- The outputs before the activation: from the tokens of the block and from the states before it. -/
def outputs (u : FVec Ideal S4x8192x256 .f32) (h : FVec Ideal S512x4x4096 .f32) (wk wc : FVec Ideal S4096x4096 .f32) : FVec Ideal S4x8192x256 .f32 :=
  tokens (shapeCast S512x4x16x256 (addf (times (blocks u) wk) (times h wc)) FiveRefIdeal.Facts₀.shapeCasts_S512x4x4096_S512x4x16x256)

/-- The gated outputs from the outputs before the activation. -/
def finished (y : FVec Ideal S4x8192x256 .f32) (w : FVec Ideal S256x256 .f32) (b : FVec Ideal S256 .f32) : FVec Ideal S4x8192x256 .f32 :=
  gated (activated y) (Host.dotGeneral FiveRefIdeal.dot_S4x8192x256_S256x256_S4x8192x256_2_0_01_1_n_n none (activated y) w) b

/-- The rows of the blocks multiplied as one list and split again are their product with the matrix. -/
theorem times_blocks (x : FVec Ideal S512x4x4096 .f32) (w : FVec Ideal S4096x4096 .f32) :
    split (prod (M := 2048) (K := 4096) (N := 4096) (φ₁ := .f32) (φ₂ := .bf16) (list x) (narrow w)) = times x w :=
  rows_dot (A := 512) (B := 4) (M := 2048) (K := 4096) (N := 4096) rfl
    FiveRefIdeal.Facts₀.dot_S512x4x4096_S4096x4096_S512x4x4096_2_0_01_1_n_n_wf x w _ _ _

/-- The rows of the tokens multiplied as one list and split again are their product with the gate's matrix. -/
theorem times_glu (x : FVec Ideal S4x8192x256 .f32) (w : FVec Ideal S256x256 .f32) :
    shapeCast S4x8192x256 (prod (M := 32768) (K := 256) (N := 256) (φ₁ := .f32) (φ₂ := .bf16)
        (shapeCast S32768x256 x shapeCasts_S4x8192x256_S32768x256) (truncf .bf16 w bitsLt_bf16_f32)) shapeCasts_S32768x256_S4x8192x256
      = Host.dotGeneral FiveRefIdeal.dot_S4x8192x256_S256x256_S4x8192x256_2_0_01_1_n_n none x w :=
  rows_dot (A := 4) (B := 8192) (M := 32768) (K := 256) (N := 256) rfl
    FiveRefIdeal.Facts₀.dot_S4x8192x256_S256x256_S4x8192x256_2_0_01_1_n_n_wf x w _ _ _

/-- The sum of two products of lists, split into the tokens of the blocks, is the sum of the products of the blocks, split the same way. -/
theorem times_sum (x x' : FVec Ideal S512x4x4096 .f32) (w w' : FVec Ideal S4096x4096 .f32) :
    shapeCast S512x4x16x256 (addf (prod (M := 2048) (K := 4096) (N := 4096) (φ₁ := .f32) (φ₂ := .bf16) (list x) (narrow w))
        (prod (M := 2048) (K := 4096) (N := 4096) (φ₁ := .f32) (φ₂ := .bf16) (list x') (narrow w'))) shapeCasts_S2048x4096_S512x4x16x256
      = shapeCast S512x4x16x256 (addf (times x w) (times x' w')) FiveRefIdeal.Facts₀.shapeCasts_S512x4x4096_S512x4x16x256 := by
  rw [← times_blocks x w, ← times_blocks x' w']
  exact (shapeCast_comp _ shapeCasts_S2048x4096_S512x4x4096 FiveRefIdeal.Facts₀.shapeCasts_S512x4x4096_S512x4x16x256).symm

end Cert.FiveIdeal.Parts

end
-- ==== Proof.FiveLines.lean ====
module

public import proofs.«01_k».proof.Proof.FiveTerms

/-!
What the host lines around the three calls make of the buffers they start from.

`S` is what the buffers hold when the lines start; each theorem gives buffers after them.
-/

@[expose] public section

set_option maxRecDepth 16384

noncomputable section

namespace Cert.FiveIdeal.Parts

open Idealize.ShloMosaic Idealize.ShloMosaic.TcCoe Cert.FiveIdeal.Gen Cert.Products
open Idealize.ShloMosaic.StableHlo

variable (S : Valuation τ sig (Elt Ideal))

/-- The first lines take the tokens' blocks as one list of rows and the matrix of the states. -/
theorem blocks_of : after hostOps0 S (Proc.devRef .tc main_v2) = list (blocks (S (Proc.devRef .tc main_arg0)))
    ∧ after hostOps0 S (Proc.devRef .tc main_v3) = narrow (S (Proc.devRef .tc main_arg2)) := by
  refine ⟨?_, ?_⟩
  all_goals
    after_results
    try rfl

/-- The next lines take the states as one list of rows and the two matrices of the outputs. -/
theorem states_of : after hostOps1 S (Proc.devRef .tc main_v5) = list (S (Proc.devRef .tc main_arg1))
    ∧ after hostOps1 S (Proc.devRef .tc main_v6) = narrow (S (Proc.devRef .tc main_arg3))
    ∧ after hostOps1 S (Proc.devRef .tc main_v7) = narrow (S (Proc.devRef .tc main_arg4)) := by
  refine ⟨?_, ?_, ?_⟩
  all_goals
    after_results
    try rfl

/-- The outputs of the blocks from the list of rows the second call leaves. -/
abbrev spread (x : FVec Ideal S2048x4096 .f32) : FVec Ideal S4x8192x256 .f32 :=
  tokens (shapeCast S512x4x16x256 x shapeCasts_S2048x4096_S512x4x16x256)

/-- The first product is split into blocks and batches; the outputs are activated. -/
theorem activated_of : after hostOps2 S (Proc.devRef .tc main_v25) = split (S (Proc.devRef .tc main_v4))
    ∧ after hostOps2 S (Proc.devRef .tc main_v24) = activated (spread (S (Proc.devRef .tc main_v8))) := by
  refine ⟨?_, ?_⟩
  all_goals
    after_results
    try rfl

/-- The activated rows and the gate's matrix are taken. -/
theorem glu_of : after hostOps2 S (Proc.devRef .tc main_v26)
      = (shapeCast S32768x256 (activated (spread (S (Proc.devRef .tc main_v8)))) shapeCasts_S4x8192x256_S32768x256 : FVec Ideal S32768x256 .f32)
    ∧ after hostOps2 S (Proc.devRef .tc main_v27) = (truncf .bf16 (S (Proc.devRef .tc main_arg5)) bitsLt_bf16_f32 : FVec Ideal S256x256 .bf16) := by
  refine ⟨?_, ?_⟩
  all_goals
    after_results
    try rfl

/-- The last lines gate the activated rows. -/
theorem gated_of : after hostOps3 S (Proc.devRef .tc main_v39) = gated (S (Proc.devRef .tc main_v24))
    (shapeCast S4x8192x256 (S (Proc.devRef .tc main_v28)) shapeCasts_S32768x256_S4x8192x256) (S (Proc.devRef .tc main_arg6)) := by
  after_results
  try rfl

end Cert.FiveIdeal.Parts

end
-- ==== Proof.FiveSteps.lean ====
module

public import proofs.«01_k».proof.Proof.FiveTiles
public import proofs.«01_k».proof.Proof.FiveLines

/-!
The products around the scan over chunks: what the two results hold at the end of the run.
-/

@[expose] public section

set_option maxRecDepth 16384

noncomputable section

namespace Cert.FiveIdeal.Parts

open Idealize.ShloMosaic Idealize.ShloMosaic.TcCoe Cert.FiveIdeal.Gen Cert.Products
open Idealize.ShloMosaic.StableHlo

variable (m : (ℓ : Loc nD τ sig) → Buf (Elt Ideal) ℓ) (ρ : Dev nD → PrngReg) (c : Dev nD)

/-- The product of two arrays of 4096 columns as a call leaves it. -/
abbrev product (x : FVec Ideal S2048x4096 .f32) (w : FVec Ideal S4096x4096 .bf16) : FVec Ideal S2048x4096 .f32 :=
  prod (M := 2048) (K := 4096) (N := 4096) (φ₁ := .f32) (φ₂ := .bf16) x w

/-- What the blocks add to the states, from the launch's arguments. -/
abbrev states_at : FVec Ideal S512x4x4096 .f32 :=
  states (m ((c.tc : Thread nD τ).loc main_arg0)) (m ((c.tc : Thread nD τ).loc main_arg2))

/-- The outputs before the activation, from the launch's arguments. -/
abbrev outputs_at : FVec Ideal S4x8192x256 .f32 :=
  outputs (m ((c.tc : Thread nD τ).loc main_arg0)) (m ((c.tc : Thread nD τ).loc main_arg1)) (m ((c.tc : Thread nD τ).loc main_arg3))
    (m ((c.tc : Thread nD τ).loc main_arg4))

/-- The gated outputs, from the launch's arguments. -/
abbrev finished_at : FVec Ideal S4x8192x256 .f32 :=
  finished (outputs_at m c) (m ((c.tc : Thread nD τ).loc main_arg5)) (m ((c.tc : Thread nD τ).loc main_arg6))

/-- The first call leaves the product of the blocks' rows with the matrix of the states. -/
theorem state_product : W2 m ρ c (Proc.devRef .tc main_v4)
    = product (list (blocks (m ((c.tc : Thread nD τ).loc main_arg0)))) (narrow (m ((c.tc : Thread nD τ).loc main_arg2))) :=
  (W2_arr m ρ c 2).trans ((product0 _ c).trans
    (congrArg₂ product (blocks_of (W0 m ρ c)).1 (blocks_of (W0 m ρ c)).2))

/-- The first result at the end of the run is what the blocks add to the states. -/
theorem states_end : W7 m ρ c (Proc.devRef .tc main_v25) = states_at m c :=
  (W7_of m ρ c main_v25 (by decide)).trans ((W6_of m ρ c main_v25 (by decide)).trans ((activated_of (W4 m ρ c)).1.trans
    ((congrArg split ((W4_of m ρ c main_v4 (by decide)).trans ((W3_of m ρ c main_v4 (by decide)).trans (state_product m ρ c)))).trans
      (times_blocks _ _))))

/-- The blocks' rows are still there for the second call. -/
theorem blocks_kept : W3 m ρ c (Proc.devRef .tc main_v2) = list (blocks (m ((c.tc : Thread nD τ).loc main_arg0))) :=
  (W3_of m ρ c main_v2 (by decide)).trans ((W2_of m ρ c main_v2 (by decide)).trans (blocks_of (W0 m ρ c)).1)

/-- The second call leaves the sum of the products of the blocks and of the states. -/
theorem sum_product : W4 m ρ c (Proc.devRef .tc main_v8)
    = addf (product (list (blocks (m ((c.tc : Thread nD τ).loc main_arg0)))) (narrow (m ((c.tc : Thread nD τ).loc main_arg3))))
      (product (list (m ((c.tc : Thread nD τ).loc main_arg1))) (narrow (m ((c.tc : Thread nD τ).loc main_arg4)))) :=
  (W4_arr m ρ c 4).trans ((product1 _ c).trans
    (congrArg₂ (fun p q : FVec Ideal S2048x4096 .f32 => addf p q)
      (congrArg₂ product (blocks_kept m ρ c)
        ((states_of (W2 m ρ c)).2.1.trans (congrArg narrow (W2_args m ρ c main_arg3 (by decide)))))
      (congrArg₂ product ((states_of (W2 m ρ c)).1.trans (congrArg list (W2_args m ρ c main_arg1 (by decide))))
        ((states_of (W2 m ρ c)).2.2.trans (congrArg narrow (W2_args m ρ c main_arg4 (by decide)))))))

/-- The blocks' outputs laid out as tokens are the outputs before the activation. -/
theorem spread_eq : spread (W4 m ρ c (Proc.devRef .tc main_v8)) = outputs_at m c :=
  (congrArg spread (sum_product m ρ c)).trans (congrArg tokens (times_sum _ _ _ _))

/-- The third call leaves the product of the activated rows with the gate's matrix. -/
theorem glu_product : W6 m ρ c (Proc.devRef .tc main_v28)
    = prod (M := 32768) (K := 256) (N := 256) (φ₁ := .f32) (φ₂ := .bf16)
      (shapeCast S32768x256 (activated (outputs_at m c)) shapeCasts_S4x8192x256_S32768x256)
      (truncf .bf16 (m ((c.tc : Thread nD τ).loc main_arg5)) bitsLt_bf16_f32) :=
  (W6_arr m ρ c 2).trans ((product2 _ c).trans
    (congrArg₂ (prod (M := 32768) (K := 256) (N := 256) (φ₁ := .f32) (φ₂ := .bf16))
      ((glu_of (W4 m ρ c)).1.trans
        (congrArg (fun y : FVec Ideal S4x8192x256 .f32 => shapeCast S32768x256 (activated y) shapeCasts_S4x8192x256_S32768x256)
          (spread_eq m ρ c)))
      ((glu_of (W4 m ρ c)).2.trans
        (congrArg (fun w : FVec Ideal S256x256 .f32 => truncf .bf16 w bitsLt_bf16_f32) (W4_args m ρ c main_arg5 (by decide))))))

/-- The activated outputs are still there for the last lines. -/
theorem activated_kept : W6 m ρ c (Proc.devRef .tc main_v24) = activated (outputs_at m c) :=
  (W6_of m ρ c main_v24 (by decide)).trans ((activated_of (W4 m ρ c)).2.trans (congrArg activated (spread_eq m ρ c)))

/-- The second result at the end of the run is the gated outputs. -/
theorem finished_end : W7 m ρ c (Proc.devRef .tc main_v39) = finished_at m c := by
  refine (gated_of (W6 m ρ c)).trans ?_
  rw [activated_kept m ρ c, glu_product m ρ c, W6_args m ρ c main_arg6 (by decide)]
  exact congrArg (fun p => gated (activated (outputs_at m c)) p _) (times_glu _ _)

end Cert.FiveIdeal.Parts

end
-- ==== Proof.FiveValue.lean ====
module

public import proofs.«01_k».proof.Defs
public import proofs.«01_k».proof.Proof.Gen.FiveRefIdeal.Run
public import proofs.«01_k».proof.Proof.FiveRun
public import proofs.«01_k».proof.Proof.FiveSteps

/-!
The products around the scan over chunks: the program with tiled products and the plain one end with the same results, at exact values.
-/

@[expose] public section

set_option maxRecDepth 16384

noncomputable section

namespace Cert.FiveIdeal.Parts

open Idealize.ShloMosaic Idealize.ShloMosaic.TcCoe

/-- Two arrays of one shape that are equal. -/
abbrev same (s : Shape) (a b : FVec Ideal s .f32) : Prop := a = b

/-- An array equal to one that is equal to a third is equal to the third. -/
theorem both (s : Shape) {a b c : FVec Ideal s .f32} (h : same s a b) (h' : same s b c) : same s a c := h.trans h'

/-- From equal arguments the blocks add the same to the states. -/
theorem states_eq {u u' : FVec Ideal S4x8192x256 .f32} {w w' : FVec Ideal S4096x4096 .f32} (hu : u = u') (hw : w = w') :
    same S512x4x4096 (states u w) (states u' w') := by
  subst hu hw
  rfl

/-- From equal arguments the gated outputs are the same. -/
theorem finished_eq {u u' : FVec Ideal S4x8192x256 .f32} {h h' : FVec Ideal S512x4x4096 .f32} {k k' w w' : FVec Ideal S4096x4096 .f32}
    {g g' : FVec Ideal S256x256 .f32} {b b' : FVec Ideal S256 .f32} (hu : u = u') (hh : h = h') (hk : k = k') (hw : w = w') (hg : g = g')
    (hb : b = b') : same S4x8192x256 (finished (outputs u h k w) g b) (finished (outputs u' h' k' w') g' b') := by
  subst hu hh hk hw hg hb
  rfl

/-- The plain program's gated outputs are the function `finished` of the outputs before the activation. -/
theorem ref_finished (m : (ℓ : Loc FiveRefIdeal.nD FiveRefIdeal.τ FiveRefIdeal.sig) → Buf (Elt Ideal) ℓ) (c : Dev FiveRefIdeal.nD) :
    same S4x8192x256 (FiveRefIdeal.Value.res_main_v32 (F := Ideal) m c)
      (finished (outputs (m ((c.tc : Thread FiveRefIdeal.nD FiveRefIdeal.τ).loc FiveRefIdeal.main_arg0))
        (m ((c.tc : Thread FiveRefIdeal.nD FiveRefIdeal.τ).loc FiveRefIdeal.main_arg1))
        (m ((c.tc : Thread FiveRefIdeal.nD FiveRefIdeal.τ).loc FiveRefIdeal.main_arg3))
        (m ((c.tc : Thread FiveRefIdeal.nD FiveRefIdeal.τ).loc FiveRefIdeal.main_arg4)))
        (m ((c.tc : Thread FiveRefIdeal.nD FiveRefIdeal.τ).loc FiveRefIdeal.main_arg5))
        (m ((c.tc : Thread FiveRefIdeal.nD FiveRefIdeal.τ).loc FiveRefIdeal.main_arg6))) := by
  unfold FiveRefIdeal.Value.res_main_v32 finished outputs
  rfl

end Cert.FiveIdeal.Parts

namespace Cert.Proof

open Idealize.ShloMosaic Idealize.ShloMosaic.TcCoe Idealize.SL.Sem

/-- From arguments that agree, the tiled program and the plain one end with the same additions to the states and the same gated outputs,
at exact values. -/
theorem five_agrees : Cert.algebraic_FiveIdeal_FiveRefIdeal := by
  intro m ρ m' ρ' _ hagree
  refine ⟨fun c => FiveIdeal.Parts.states_at m c, fun c => FiveIdeal.Parts.finished_at m c, ?_, ?_⟩
  · refine (θ_run _ _ _).mono (fun _ h c => ?_)
      (θ_run_and (FiveIdeal.Parts.run_all (F := Ideal) m ρ) (FiveIdeal.Gen.frame (F := Ideal) m ρ))
    exact ⟨FiveIdeal.Parts.both FiveIdeal.S512x4x4096 (h.1 c _ (FiveIdeal.Gen.mem_uc FiveIdeal.main_v25 (by decide))) (FiveIdeal.Parts.states_end m ρ c),
      FiveIdeal.Parts.both FiveIdeal.S4x8192x256 (h.1 c _ (FiveIdeal.Gen.mem_uc FiveIdeal.main_v39 (by decide))) (FiveIdeal.Parts.finished_end m ρ c),
      h.2.1 c⟩
  · refine (θ_run _ _ _).mono (fun _ h c => ?_) (FiveRefIdeal.Value.run (F := Ideal) m' ρ')
    obtain ⟨h0, h1, h2, h3, h4, h5, h6⟩ := hagree c
    exact ⟨FiveIdeal.Parts.both FiveIdeal.S512x4x4096 (h c).1 (FiveIdeal.Parts.states_eq h0 h2),
      FiveIdeal.Parts.both FiveIdeal.S4x8192x256 (h c).2.1
        (FiveIdeal.Parts.both FiveIdeal.S4x8192x256 (FiveIdeal.Parts.ref_finished m' c) (FiveIdeal.Parts.finished_eq h0 h1 h3 h4 h5 h6)),
      (h c).2.2⟩

end Cert.Proof

end
-- ==== Proof.lean ====
module

public import proofs.«01_k».proof.Defs
public import proofs.«01_k».proof.Proof.ScanFrameBits
public import proofs.«01_k».proof.Proof.ScanClaim
public import proofs.«01_k».proof.Proof.ExpertValue
public import proofs.«01_k».proof.Proof.MoeValue
public import proofs.«01_k».proof.Proof.BetweenValue
public import proofs.«01_k».proof.Proof.StartValue
public import proofs.«01_k».proof.Proof.FiveValue
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Expert
public import proofs.«01_k».proof.Proof.Gen.Expert.Skeleton
public import proofs.«01_k».proof.Proof.Gen.Expert.Launch
public import proofs.«01_k».proof.Proof.Gen.Expert.Points
public import proofs.«01_k».proof.Proof.Gen.Expert.Frame
public import proofs.«01_k».proof.Proof.Gen.ExpertIdeal
public import proofs.«01_k».proof.Proof.Gen.ExpertIdeal.Skeleton
public import proofs.«01_k».proof.Proof.Gen.ExpertIdeal.Launch
public import proofs.«01_k».proof.Proof.Gen.ExpertIdeal.Points
public import proofs.«01_k».proof.Proof.Gen.ExpertIdeal.Frame
public import proofs.«01_k».proof.Proof.Gen.ExpertRefIdeal
public import proofs.«01_k».proof.Proof.Gen.ReferenceIdeal.Run
public import proofs.«01_k».proof.Proof.Gen.ExpertRefIdeal.Run
public import proofs.«01_k».proof.Proof.Gen.Between
public import proofs.«01_k».proof.Proof.Gen.Between.Skeleton
public import proofs.«01_k».proof.Proof.Gen.Between.Launch
public import proofs.«01_k».proof.Proof.Gen.Between.Points
public import proofs.«01_k».proof.Proof.Gen.Between.Frame
public import proofs.«01_k».proof.Proof.Gen.BetweenIdeal
public import proofs.«01_k».proof.Proof.Gen.BetweenIdeal.Skeleton
public import proofs.«01_k».proof.Proof.Gen.BetweenIdeal.Launch
public import proofs.«01_k».proof.Proof.Gen.BetweenIdeal.Points
public import proofs.«01_k».proof.Proof.Gen.BetweenIdeal.Frame
public import proofs.«01_k».proof.Proof.Gen.BetweenRefIdeal
public import proofs.«01_k».proof.Proof.Gen.BetweenRefIdeal.Run
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeRefIdeal.Run
public import proofs.«01_k».proof.Proof.Gen.Start
public import proofs.«01_k».proof.Proof.Gen.Start.Skeleton
public import proofs.«01_k».proof.Proof.Gen.Start.Launch
public import proofs.«01_k».proof.Proof.Gen.Start.Points
public import proofs.«01_k».proof.Proof.Gen.Start.Frame
public import proofs.«01_k».proof.Proof.Gen.StartIdeal
public import proofs.«01_k».proof.Proof.Gen.StartIdeal.Skeleton
public import proofs.«01_k».proof.Proof.Gen.StartIdeal.Launch
public import proofs.«01_k».proof.Proof.Gen.StartIdeal.Points
public import proofs.«01_k».proof.Proof.Gen.StartIdeal.Frame
public import proofs.«01_k».proof.Proof.Gen.StartRefIdeal
public import proofs.«01_k».proof.Proof.Gen.StartRefIdeal.Run
public import proofs.«01_k».proof.Proof.Gen.Five
public import proofs.«01_k».proof.Proof.Gen.Five.Skeleton
public import proofs.«01_k».proof.Proof.Gen.Five.Launch
public import proofs.«01_k».proof.Proof.Gen.Five.Points
public import proofs.«01_k».proof.Proof.Gen.Five.Frame
public import proofs.«01_k».proof.Proof.Gen.FiveIdeal
public import proofs.«01_k».proof.Proof.Gen.FiveIdeal.Skeleton
public import proofs.«01_k».proof.Proof.Gen.FiveIdeal.Launch
public import proofs.«01_k».proof.Proof.Gen.FiveIdeal.Points
public import proofs.«01_k».proof.Proof.Gen.FiveIdeal.Frame
public import proofs.«01_k».proof.Proof.Gen.FiveRefIdeal
public import proofs.«01_k».proof.Proof.Gen.FiveRefIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Expert.Gen.facts, Cert.ExpertIdeal.Gen.facts,
    Cert.ExpertRefIdeal.Gen.facts, Cert.Moe.Gen.facts, Cert.MoeIdeal.Gen.facts, Cert.MoeRefIdeal.Gen.facts,
    Cert.Between.Gen.facts, Cert.BetweenIdeal.Gen.facts, Cert.BetweenRefIdeal.Gen.facts,
    Cert.Start.Gen.facts, Cert.StartIdeal.Gen.facts, Cert.StartRefIdeal.Gen.facts,
    Cert.Five.Gen.facts, Cert.FiveIdeal.Gen.facts, Cert.FiveRefIdeal.Gen.facts,
    Cert.Proof.frame_scan_bits,
    fun m ρ _ => Cert.KernelIdeal.Scan.frame_scan m ρ,
    fun m ρ _ => Cert.ReferenceIdeal.Loop.frame_loop m ρ,
    fun m ρ _ => Cert.Expert.Gen.frame m ρ,
    fun m ρ _ => Cert.ExpertIdeal.Gen.frame m ρ,
    fun m ρ _ => (θ_run _ _ _).mono (fun r h => ⟨fun c => (h c).2, Idealize.ShloMosaic.sem_eq_zero_of_no_sems (by decide) r.2⟩)
      (Cert.ExpertRefIdeal.Value.run m ρ),
    fun m ρ _ => Cert.Moe.Gen.frame m ρ,
    fun m ρ _ => Cert.MoeIdeal.Gen.frame m ρ,
    fun m ρ _ => (θ_run _ _ _).mono (fun r h => ⟨fun c => (h c).2, Idealize.ShloMosaic.sem_eq_zero_of_no_sems (by decide) r.2⟩)
      (Cert.MoeRefIdeal.Value.run m ρ),
    fun m ρ _ => Cert.Between.Gen.frame m ρ,
    fun m ρ _ => Cert.BetweenIdeal.Gen.frame m ρ,
    fun m ρ _ => (θ_run _ _ _).mono
      (fun r h => ⟨fun c => (h c).2.2.2.2.2.2.2.2.2.2.2, Idealize.ShloMosaic.sem_eq_zero_of_no_sems (by decide) r.2⟩)
      (Cert.BetweenRefIdeal.Value.run m ρ),
    fun m ρ _ => Cert.Start.Gen.frame m ρ,
    fun m ρ _ => Cert.StartIdeal.Gen.frame m ρ,
    fun m ρ _ => (θ_run _ _ _).mono (fun r h => ⟨fun c => (h c).2.2.2, Idealize.ShloMosaic.sem_eq_zero_of_no_sems (by decide) r.2⟩)
      (Cert.StartRefIdeal.Value.run m ρ),
    fun m ρ _ => Cert.Five.Gen.frame m ρ,
    fun m ρ _ => Cert.FiveIdeal.Gen.frame m ρ,
    fun m ρ _ => (θ_run _ _ _).mono (fun r h => ⟨fun c => (h c).2.2, Idealize.ShloMosaic.sem_eq_zero_of_no_sems (by decide) r.2⟩)
      (Cert.FiveRefIdeal.Value.run m ρ),
    trivial,
    Cert.Proof.scan_agrees,
    trivial, Cert.Proof.expert_agrees,
    trivial, Cert.Proof.moe_agrees,
    trivial, Cert.Proof.between_agrees,
    trivial, Cert.Proof.start_agrees,
    trivial, Cert.Proof.five_agrees⟩

end Cert.Proof

end
